-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x3 : Shape := ⟨3, ![16, 2048, 3]⟩
abbrev S16x3 : Shape := ⟨2, ![16, 3]⟩
abbrev S16 : Shape := ⟨1, ![16]⟩
abbrev S16x16 : Shape := ⟨2, ![16, 16]⟩
abbrev S32x16 : Shape := ⟨2, ![32, 16]⟩
abbrev S32 : Shape := ⟨1, ![32]⟩
abbrev S32x3 : Shape := ⟨2, ![32, 3]⟩
abbrev S32x32 : Shape := ⟨2, ![32, 32]⟩
abbrev S64x32 : Shape := ⟨2, ![64, 32]⟩
abbrev S64 : Shape := ⟨1, ![64]⟩
abbrev S48x32 : Shape := ⟨2, ![48, 32]⟩
abbrev S48 : Shape := ⟨1, ![48]⟩
abbrev S64x48 : Shape := ⟨2, ![64, 48]⟩
abbrev S1x160 : Shape := ⟨2, ![1, 160]⟩
abbrev S1 : Shape := ⟨1, ![1]⟩
abbrev S16x3x2048 : Shape := ⟨3, ![16, 3, 2048]⟩
abbrev S16x3x256 : Shape := ⟨3, ![16, 3, 256]⟩
abbrev S16x1x2048 : Shape := ⟨3, ![16, 1, 2048]⟩
abbrev S16x2048 : Shape := ⟨2, ![16, 2048]⟩
abbrev S1x1x256 : Shape := ⟨3, ![1, 1, 256]⟩
abbrev S16x1 : Shape := ⟨2, ![16, 1]⟩
abbrev S16x3x1 : Shape := ⟨3, ![16, 3, 1]⟩
abbrev S16x3x16x16 : Shape := ⟨4, ![16, 3, 16, 16]⟩
abbrev S16x16x16x3 : Shape := ⟨4, ![16, 16, 16, 3]⟩
abbrev S16x16x3x16 : Shape := ⟨4, ![16, 16, 3, 16]⟩
abbrev S_ : Shape := ⟨0, ![]⟩
abbrev S16x16x1x16 : Shape := ⟨4, ![16, 16, 1, 16]⟩
abbrev S1x32 : Shape := ⟨2, ![1, 32]⟩
abbrev S32x1 : Shape := ⟨2, ![32, 1]⟩
abbrev S1x3x2048 : Shape := ⟨3, ![1, 3, 2048]⟩
abbrev S1x1x16x3 : Shape := ⟨4, ![1, 1, 16, 3]⟩
abbrev S1x1x3x16 : Shape := ⟨4, ![1, 1, 3, 16]⟩
abbrev S1x1x1x16 : Shape := ⟨4, ![1, 1, 1, 16]⟩
abbrev S3x2048 : Shape := ⟨2, ![3, 2048]⟩
abbrev S3x16 : Shape := ⟨2, ![3, 16]⟩
abbrev S2048 : Shape := ⟨1, ![2048]⟩
abbrev S1x2048 : Shape := ⟨2, ![1, 2048]⟩
abbrev S16x2047 : Shape := ⟨2, ![16, 2047]⟩
abbrev S16x2 : Shape := ⟨2, ![16, 2]⟩
abbrev S16x2046 : Shape := ⟨2, ![16, 2046]⟩
abbrev S16x4 : Shape := ⟨2, ![16, 4]⟩
abbrev S16x2044 : Shape := ⟨2, ![16, 2044]⟩
abbrev S16x8 : Shape := ⟨2, ![16, 8]⟩
abbrev S16x2040 : Shape := ⟨2, ![16, 2040]⟩
abbrev S16x2032 : Shape := ⟨2, ![16, 2032]⟩
abbrev S16x32 : Shape := ⟨2, ![16, 32]⟩
abbrev S16x2016 : Shape := ⟨2, ![16, 2016]⟩
abbrev S16x64 : Shape := ⟨2, ![16, 64]⟩
abbrev S16x1984 : Shape := ⟨2, ![16, 1984]⟩
abbrev S16x128 : Shape := ⟨2, ![16, 128]⟩
abbrev S16x1920 : Shape := ⟨2, ![16, 1920]⟩
abbrev S16x256 : Shape := ⟨2, ![16, 256]⟩
abbrev S16x1792 : Shape := ⟨2, ![16, 1792]⟩
abbrev S16x512 : Shape := ⟨2, ![16, 512]⟩
abbrev S16x1536 : Shape := ⟨2, ![16, 1536]⟩
abbrev S16x1024 : Shape := ⟨2, ![16, 1024]⟩
abbrev S3x1 : Shape := ⟨2, ![3, 1]⟩
abbrev S3x32768 : Shape := ⟨2, ![3, 32768]⟩
abbrev S16x32768 : Shape := ⟨2, ![16, 32768]⟩
abbrev S32x32768 : Shape := ⟨2, ![32, 32768]⟩
abbrev S32x2048 : Shape := ⟨2, ![32, 2048]⟩
abbrev S1x16 : Shape := ⟨2, ![1, 16]⟩
abbrev S1x64 : Shape := ⟨2, ![1, 64]⟩
abbrev S64x1 : Shape := ⟨2, ![64, 1]⟩
abbrev S64x32768 : Shape := ⟨2, ![64, 32768]⟩
abbrev S64x2048 : Shape := ⟨2, ![64, 2048]⟩
abbrev S64x16 : Shape := ⟨2, ![64, 16]⟩
abbrev S48x1 : Shape := ⟨2, ![48, 1]⟩
abbrev S48x32768 : Shape := ⟨2, ![48, 32768]⟩
abbrev S16x1x16x16 : Shape := ⟨4, ![16, 1, 16, 16]⟩
abbrev S16x1x256 : Shape := ⟨3, ![16, 1, 256]⟩
abbrev S1x1x1 : Shape := ⟨3, ![1, 1, 1]⟩

abbrev nBuf : Space → Nat
  | .hbm => 52
  | .vmem => 47
  | .smem => 0
  | _ => 0

abbrev bufTy : (tb : Table) → Fin (tcTables nBuf tb) → BufTy
  | .hbm, ⟨0, _⟩ => ⟨S16x2048x3, .f32⟩
  | .hbm, ⟨1, _⟩ => ⟨S16x3, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S32x16, .f32⟩
  | .hbm, ⟨6, _⟩ => ⟨S32, .f32⟩
  | .hbm, ⟨7, _⟩ => ⟨S32x3, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S64x32, .f32⟩
  | .hbm, ⟨12, _⟩ => ⟨S64, .f32⟩
  | .hbm, ⟨13, _⟩ => ⟨S32x3, .f32⟩
  | .hbm, ⟨14, _⟩ => ⟨S32, .f32⟩
  | .hbm, ⟨15, _⟩ => ⟨S48x32, .f32⟩
  | .hbm, ⟨16, _⟩ => ⟨S48, .f32⟩
  | .hbm, ⟨17, _⟩ => ⟨S64x48, .f32⟩
  | .hbm, ⟨18, _⟩ => ⟨S64, .f32⟩
  | .hbm, ⟨19, _⟩ => ⟨S1x160, .f32⟩
  | .hbm, ⟨20, _⟩ => ⟨S1, .f32⟩
  | .hbm, ⟨21, _⟩ => ⟨S16x3x2048, .f32⟩
  | .hbm, ⟨22, _⟩ => ⟨S16x3x256, .f32⟩
  | .hbm, ⟨23, _⟩ => ⟨S16x3x16x16, .f32⟩
  | .hbm, ⟨24, _⟩ => ⟨S16x16x16x3, .f32⟩
  | .hbm, ⟨25, _⟩ => ⟨S16x3x16x16, .f32⟩
  | .hbm, ⟨26, _⟩ => ⟨S16x16x3x16, .f32⟩
  | .hbm, ⟨27, _⟩ => ⟨S_, .f32⟩
  | .hbm, ⟨28, _⟩ => ⟨S16x16x1x16, .f32⟩
  | .hbm, ⟨29, _⟩ => ⟨S1x32, .f32⟩
  | .hbm, ⟨30, _⟩ => ⟨S16x1, .f32⟩
  | .hbm, ⟨31, _⟩ => ⟨S16x1, .f32⟩
  | .hbm, ⟨32, _⟩ => ⟨S32x1, .f32⟩
  | .hbm, ⟨33, _⟩ => ⟨S16x16x1x16, .f32⟩
  | .hbm, ⟨34, _⟩ => ⟨S16x16x1x16, .f32⟩
  | .hbm, ⟨35, _⟩ => ⟨S1x64, .f32⟩
  | .hbm, ⟨36, _⟩ => ⟨S32x1, .f32⟩
  | .hbm, ⟨37, _⟩ => ⟨S32x1, .f32⟩
  | .hbm, ⟨38, _⟩ => ⟨S64x1, .f32⟩
  | .hbm, ⟨39, _⟩ => ⟨S16x16x1x16, .f32⟩
  | .hbm, ⟨40, _⟩ => ⟨S16x16x1x16, .f32⟩
  | .hbm, ⟨41, _⟩ => ⟨S1x64, .f32⟩
  | .hbm, ⟨42, _⟩ => ⟨S32x1, .f32⟩
  | .hbm, ⟨43, _⟩ => ⟨S48x1, .f32⟩
  | .hbm, ⟨44, _⟩ => ⟨S64x1, .f32⟩
  | .hbm, ⟨45, _⟩ => ⟨S16x16x1x16, .f32⟩
  | .hbm, ⟨46, _⟩ => ⟨S16x16x1x16, .f32⟩
  | .hbm, ⟨47, _⟩ => ⟨S16x1x16x16, .f32⟩
  | .hbm, ⟨48, _⟩ => ⟨S16x1x256, .f32⟩
  | .hbm, ⟨49, _⟩ => ⟨S1x1x1, .f32⟩
  | .hbm, ⟨50, _⟩ => ⟨S16x1x256, .f32⟩
  | .hbm, ⟨51, _⟩ => ⟨S16x1x256, .f32⟩
  | .local _ .vmem, ⟨0, _⟩ => ⟨S16x3x2048, .f32⟩
  | .local _ .vmem, ⟨1, _⟩ => ⟨S16x3x256, .f32⟩
  | .local _ .vmem, ⟨2, _⟩ => ⟨S1x3x2048, .f32⟩
  | .local _ .vmem, ⟨3, _⟩ => ⟨S1x3x2048, .f32⟩
  | .local _ .vmem, ⟨4, _⟩ => ⟨S1x1x16x3, .f32⟩
  | .local _ .vmem, ⟨5, _⟩ => ⟨S1x1x16x3, .f32⟩
  | .local _ .vmem, ⟨6, _⟩ => ⟨S1x1x3x16, .f32⟩
  | .local _ .vmem, ⟨7, _⟩ => ⟨S1x1x3x16, .f32⟩
  | .local _ .vmem, ⟨8, _⟩ => ⟨S16x3, .f32⟩
  | .local _ .vmem, ⟨9, _⟩ => ⟨S16x1, .f32⟩
  | .local _ .vmem, ⟨10, _⟩ => ⟨S16x16, .f32⟩
  | .local _ .vmem, ⟨11, _⟩ => ⟨S16x1, .f32⟩
  | .local _ .vmem, ⟨12, _⟩ => ⟨S32x16, .f32⟩
  | .local _ .vmem, ⟨13, _⟩ => ⟨S32x1, .f32⟩
  | .local _ .vmem, ⟨14, _⟩ => ⟨S1x32, .f32⟩
  | .local _ .vmem, ⟨15, _⟩ => ⟨S1x1x1x16, .f32⟩
  | .local _ .vmem, ⟨16, _⟩ => ⟨S1x1x1x16, .f32⟩
  | .local _ .vmem, ⟨17, _⟩ => ⟨S1x3x2048, .f32⟩
  | .local _ .vmem, ⟨18, _⟩ => ⟨S1x3x2048, .f32⟩
  | .local _ .vmem, ⟨19, _⟩ => ⟨S1x1x16x3, .f32⟩
  | .local _ .vmem, ⟨20, _⟩ => ⟨S1x1x16x3, .f32⟩
  | .local _ .vmem, ⟨21, _⟩ => ⟨S1x1x3x16, .f32⟩
  | .local _ .vmem, ⟨22, _⟩ => ⟨S1x1x3x16, .f32⟩
  | .local _ .vmem, ⟨23, _⟩ => ⟨S32x3, .f32⟩
  | .local _ .vmem, ⟨24, _⟩ => ⟨S32x1, .f32⟩
  | .local _ .vmem, ⟨25, _⟩ => ⟨S32x32, .f32⟩
  | .local _ .vmem, ⟨26, _⟩ => ⟨S32x1, .f32⟩
  | .local _ .vmem, ⟨27, _⟩ => ⟨S64x32, .f32⟩
  | .local _ .vmem, ⟨28, _⟩ => ⟨S64x1, .f32⟩
  | .local _ .vmem, ⟨29, _⟩ => ⟨S1x64, .f32⟩
  | .local _ .vmem, ⟨30, _⟩ => ⟨S1x1x1x16, .f32⟩
  | .local _ .vmem, ⟨31, _⟩ => ⟨S1x1x1x16, .f32⟩
  | .local _ .vmem, ⟨32, _⟩ => ⟨S1x3x2048, .f32⟩
  | .local _ .vmem, ⟨33, _⟩ => ⟨S1x3x2048, .f32⟩
  | .local _ .vmem, ⟨34, _⟩ => ⟨S1x1x16x3, .f32⟩
  | .local _ .vmem, ⟨35, _⟩ => ⟨S1x1x16x3, .f32⟩
  | .local _ .vmem, ⟨36, _⟩ => ⟨S1x1x3x16, .f32⟩
  | .local _ .vmem, ⟨37, _⟩ => ⟨S1x1x3x16, .f32⟩
  | .local _ .vmem, ⟨38, _⟩ => ⟨S32x3, .f32⟩
  | .local _ .vmem, ⟨39, _⟩ => ⟨S32x1, .f32⟩
  | .local _ .vmem, ⟨40, _⟩ => ⟨S48x32, .f32⟩
  | .local _ .vmem, ⟨41, _⟩ => ⟨S48x1, .f32⟩
  | .local _ .vmem, ⟨42, _⟩ => ⟨S64x48, .f32⟩
  | .local _ .vmem, ⟨43, _⟩ => ⟨S64x1, .f32⟩
  | .local _ .vmem, ⟨44, _⟩ => ⟨S1x64, .f32⟩
  | .local _ .vmem, ⟨45, _⟩ => ⟨S1x1x1x16, .f32⟩
  | .local _ .vmem, ⟨46, _⟩ => ⟨S1x1x1x16, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg9_0 : Ref sig .tc := ⟨.vmem, 14, rfl⟩
abbrev cc1_stg10_0 : Ref sig .tc := ⟨.vmem, 15, rfl⟩
abbrev cc1_stg10_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg10_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg10_0 : Ref sig .tc := ⟨.vmem, 45, rfl⟩
abbrev cc3_stg10_1 : Ref sig .tc := ⟨.vmem, 46, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem10_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem10_0 : DmaSem sig := 45
abbrev cc3_sem10_1 : DmaSem sig := 46

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c256_i32 : BitVec 32 := 256#32
  let v11 : BitVec 32 := Scalar.addi c0_i32_7 c256_i32
  let c1_i32 : BitVec 32 := 1#32
  ⟨c0_i32_7, v11, c1_i32⟩
abbrev stage0_0 : Fin 1 → Memref sig .tc .vmem S16x3x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![16, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x3x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x16x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x3x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S16x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S32x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1x1x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![16, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x3x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x16x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x3x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S32x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x1x1x16 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨2, ![16, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x3x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1x16x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x3x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S32x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S48x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S48x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S64x48 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S64x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S1x1x1x16 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]
-- ==== ReferenceIdeal.lean ====
abbrev S16x2048x3 : Shape := ⟨3, ![16, 2048, 3]⟩
abbrev S16x3 : Shape := ⟨2, ![16, 3]⟩
abbrev S16 : Shape := ⟨1, ![16]⟩
abbrev S16x16 : Shape := ⟨2, ![16, 16]⟩
abbrev S32x16 : Shape := ⟨2, ![32, 16]⟩
abbrev S32 : Shape := ⟨1, ![32]⟩
abbrev S32x3 : Shape := ⟨2, ![32, 3]⟩
abbrev S32x32 : Shape := ⟨2, ![32, 32]⟩
abbrev S64x32 : Shape := ⟨2, ![64, 32]⟩
abbrev S64 : Shape := ⟨1, ![64]⟩
abbrev S48x32 : Shape := ⟨2, ![48, 32]⟩
abbrev S48 : Shape := ⟨1, ![48]⟩
abbrev S64x48 : Shape := ⟨2, ![64, 48]⟩
abbrev S1x160 : Shape := ⟨2, ![1, 160]⟩
abbrev S1 : Shape := ⟨1, ![1]⟩
abbrev S_ : Shape := ⟨0, ![]⟩
abbrev S16x2048 : Shape := ⟨2, ![16, 2048]⟩
abbrev S16x256 : Shape := ⟨2, ![16, 256]⟩
abbrev S16x1 : Shape := ⟨2, ![16, 1]⟩
abbrev S16x1x1 : Shape := ⟨3, ![16, 1, 1]⟩
abbrev S16x1x2 : Shape := ⟨3, ![16, 1, 2]⟩
abbrev S16x1x3 : Shape := ⟨3, ![16, 1, 3]⟩
abbrev S16x256x1 : Shape := ⟨3, ![16, 256, 1]⟩
abbrev S16x256x2 : Shape := ⟨3, ![16, 256, 2]⟩
abbrev S16x256x3 : Shape := ⟨3, ![16, 256, 3]⟩
abbrev S16x3x2048 : Shape := ⟨3, ![16, 3, 2048]⟩
abbrev S16x256x2048 : Shape := ⟨3, ![16, 256, 2048]⟩
abbrev S16x1x2048 : Shape := ⟨3, ![16, 1, 2048]⟩
abbrev S2048 : Shape := ⟨1, ![2048]⟩
abbrev S16x256x16 : Shape := ⟨3, ![16, 256, 16]⟩
abbrev S16x256x16x1 : Shape := ⟨4, ![16, 256, 16, 1]⟩
abbrev S16x256x16x2 : Shape := ⟨4, ![16, 256, 16, 2]⟩
abbrev S16x256x16x3 : Shape := ⟨4, ![16, 256, 16, 3]⟩
abbrev S16x256x1x3 : Shape := ⟨4, ![16, 256, 1, 3]⟩
abbrev S16x256x16x16 : Shape := ⟨4, ![16, 256, 16, 16]⟩
abbrev S1x1x1x16 : Shape := ⟨4, ![1, 1, 1, 16]⟩
abbrev S16x256x16x32 : Shape := ⟨4, ![16, 256, 16, 32]⟩
abbrev S1x1x1x32 : Shape := ⟨4, ![1, 1, 1, 32]⟩
abbrev S16x256x32 : Shape := ⟨3, ![16, 256, 32]⟩
abbrev S16x256x32x1 : Shape := ⟨4, ![16, 256, 32, 1]⟩
abbrev S16x256x32x2 : Shape := ⟨4, ![16, 256, 32, 2]⟩
abbrev S16x256x32x3 : Shape := ⟨4, ![16, 256, 32, 3]⟩
abbrev S16x256x32x32 : Shape := ⟨4, ![16, 256, 32, 32]⟩
abbrev S16x256x32x64 : Shape := ⟨4, ![16, 256, 32, 64]⟩
abbrev S1x1x1x64 : Shape := ⟨4, ![1, 1, 1, 64]⟩
abbrev S16x256x64 : Shape := ⟨3, ![16, 256, 64]⟩
abbrev S16x256x128 : Shape := ⟨3, ![16, 256, 128]⟩
abbrev S16x256x128x1 : Shape := ⟨4, ![16, 256, 128, 1]⟩
abbrev S16x256x128x2 : Shape := ⟨4, ![16, 256, 128, 2]⟩
abbrev S16x256x128x3 : Shape := ⟨4, ![16, 256, 128, 3]⟩
abbrev S16x256x128x32 : Shape := ⟨4, ![16, 256, 128, 32]⟩
abbrev S16x256x128x48 : Shape := ⟨4, ![16, 256, 128, 48]⟩
abbrev S1x1x1x48 : Shape := ⟨4, ![1, 1, 1, 48]⟩
abbrev S16x256x128x64 : Shape := ⟨4, ![16, 256, 128, 64]⟩
abbrev S16x256x160 : Shape := ⟨3, ![16, 256, 160]⟩
abbrev S1x16x256 : Shape := ⟨3, ![1, 16, 256]⟩
abbrev S16x1x256 : Shape := ⟨3, ![16, 1, 256]⟩
abbrev S1x1x1 : Shape := ⟨3, ![1, 1, 1]⟩

abbrev nBuf : Space → Nat
  | .hbm => 351
  | .vmem => 0
  | .smem => 0
  | _ => 0

abbrev hbmTy0_0 (i : Nat) : BufTy := match i % 128 with
  | 0 => ⟨S16x2048x3, .f32⟩
  | 1 => ⟨S16x3, .f32⟩
  | 2 => ⟨S16, .f32⟩
  | 3 => ⟨S16x16, .f32⟩
  | 4 => ⟨S16, .f32⟩
  | 5 => ⟨S32x16, .f32⟩
  | 6 => ⟨S32, .f32⟩
  | 7 => ⟨S32x3, .f32⟩
  | 8 => ⟨S32, .f32⟩
  | 9 => ⟨S32x32, .f32⟩
  | 10 => ⟨S32, .f32⟩
  | 11 => ⟨S64x32, .f32⟩
  | 12 => ⟨S64, .f32⟩
  | 13 => ⟨S32x3, .f32⟩
  | 14 => ⟨S32, .f32⟩
  | 15 => ⟨S48x32, .f32⟩
  | 16 => ⟨S48, .f32⟩
  | 17 => ⟨S64x48, .f32⟩
  | 18 => ⟨S64, .f32⟩
  | 19 => ⟨S1x160, .f32⟩
  | 20 => ⟨S1, .f32⟩
  | 21 => ⟨S_, .f32⟩
  | 22 => ⟨S16x2048, .f32⟩
  | 23 => ⟨S_, .i32⟩
  | 24 => ⟨S16, .i32⟩
  | 25 => ⟨S_, .i32⟩
  | 26 => ⟨S16x256, .i32⟩
  | 27 => ⟨S_, .i32⟩
  | 28 => ⟨S_, .i32⟩
  | 29 => ⟨S16x2048x3, .f32⟩
  | 30 => ⟨S_, .i32⟩
  | 31 => ⟨S_, .i32⟩
  | 32 => ⟨S16x2048, .f32⟩
  | 33 => ⟨S16, .i32⟩
  | 34 => ⟨S16x256, .i32⟩
  | 35 => ⟨S_, .i32⟩
  | 36 => ⟨S_, .i1⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1, .i32⟩
  | 46 => ⟨S16x256, .i32⟩
  | 47 => ⟨S16x1, .i32⟩
  | 48 => ⟨S16, .i32⟩
  | 49 => ⟨S16x1, .i32⟩
  | 50 => ⟨S_, .i32⟩
  | 51 => ⟨S16x1, .i32⟩
  | 52 => ⟨S16x1, .i1⟩
  | 53 => ⟨S_, .i32⟩
  | 54 => ⟨S16x1, .i32⟩
  | 55 => ⟨S16x1, .i32⟩
  | 56 => ⟨S16x1, .i32⟩
  | 57 => ⟨S_, .i32⟩
  | 58 => ⟨S16x1, .i32⟩
  | 59 => ⟨S16x1, .i1⟩
  | 60 => ⟨S_, .i32⟩
  | 61 => ⟨S16x1, .i32⟩
  | 62 => ⟨S16x1, .i32⟩
  | 63 => ⟨S16x1, .i32⟩
  | 64 => ⟨S16x1x1, .i32⟩
  | 65 => ⟨S16x1x1, .i32⟩
  | 66 => ⟨S16x1x2, .i32⟩
  | 67 => ⟨S16x1x3, .f32⟩
  | 68 => ⟨S16x2048x3, .f32⟩
  | 69 => ⟨S16x2048x3, .f32⟩
  | 70 => ⟨S16x2048x3, .f32⟩
  | 71 => ⟨S_, .f32⟩
  | 72 => ⟨S16x2048, .f32⟩
  | 73 => ⟨S16x2048, .f32⟩
  | 74 => ⟨S16x2048, .i32⟩
  | 75 => ⟨S_, .f32⟩
  | 76 => ⟨S_, .i32⟩
  | 77 => ⟨S16, .f32⟩
  | 78 => ⟨S16, .i32⟩
  | 79 => ⟨S_, .i32⟩
  | 80 => ⟨S_, .i32⟩
  | 81 => ⟨S16, .i32⟩
  | 82 => ⟨S16x1, .i32⟩
  | 83 => ⟨S_, .i32⟩
  | 84 => ⟨S16x1, .i32⟩
  | 85 => ⟨S16x1, .i1⟩
  | 86 => ⟨S_, .i32⟩
  | 87 => ⟨S16x1, .i32⟩
  | 88 => ⟨S16x1, .i32⟩
  | 89 => ⟨S16x1, .i32⟩
  | 90 => ⟨S_, .i32⟩
  | 91 => ⟨S16x256, .i32⟩
  | 92 => ⟨S16x256, .i1⟩
  | 93 => ⟨S_, .i32⟩
  | 94 => ⟨S16x256, .i32⟩
  | 95 => ⟨S16x256, .i32⟩
  | 96 => ⟨S16x256, .i32⟩
  | 97 => ⟨S16x256, .i32⟩
  | 98 => ⟨S16x256x1, .i32⟩
  | 99 => ⟨S16x256x1, .i32⟩
  | 100 => ⟨S16x256x2, .i32⟩
  | 101 => ⟨S16x256x3, .f32⟩
  | 102 => ⟨S16x3x2048, .f32⟩
  | 103 => ⟨S16x256x2048, .f32⟩
  | 104 => ⟨S_, .f32⟩
  | 105 => ⟨S16x256x2048, .f32⟩
  | 106 => ⟨S16x256x2048, .f32⟩
  | 107 => ⟨S16x256x3, .f32⟩
  | 108 => ⟨S_, .f32⟩
  | 109 => ⟨S16x256, .f32⟩
  | 110 => ⟨S16x256x1, .f32⟩
  | 111 => ⟨S16x256x2048, .f32⟩
  | 112 => ⟨S16x256x2048, .f32⟩
  | 113 => ⟨S16x2048x3, .f32⟩
  | 114 => ⟨S_, .f32⟩
  | 115 => ⟨S16x2048, .f32⟩
  | 116 => ⟨S16x1x2048, .f32⟩
  | 117 => ⟨S16x256x2048, .f32⟩
  | 118 => ⟨S16x256x2048, .f32⟩
  | 119 => ⟨S2048, .i32⟩
  | 120 => ⟨S16x256x2048, .i32⟩
  | 121 => ⟨S_, .f32⟩
  | 122 => ⟨S16x256x2048, .f32⟩
  | 123 => ⟨S16x256x2048, .i1⟩
  | 124 => ⟨S_, .i32⟩
  | 125 => ⟨S_, .i32⟩
  | 126 => ⟨S16x256x2048, .i32⟩
  | 127 => ⟨S16x256x2048, .i32⟩
  | _ => ⟨S16x2048x3, .f32⟩

abbrev hbmTy0_1 (i : Nat) : BufTy := match i % 128 with
  | 0 => ⟨S16x256x2048, .i32⟩
  | 1 => ⟨S16x256x16, .i32⟩
  | 2 => ⟨S16x256x1, .i32⟩
  | 3 => ⟨S_, .i32⟩
  | 4 => ⟨S16x256x16, .i32⟩
  | 5 => ⟨S16x256x16, .i1⟩
  | 6 => ⟨S16x256x16, .i32⟩
  | 7 => ⟨S16x256x16, .i32⟩
  | 8 => ⟨S16, .i32⟩
  | 9 => ⟨S16x1x1, .i32⟩
  | 10 => ⟨S_, .i32⟩
  | 11 => ⟨S16x1x1, .i32⟩
  | 12 => ⟨S16x1x1, .i1⟩
  | 13 => ⟨S_, .i32⟩
  | 14 => ⟨S16x1x1, .i32⟩
  | 15 => ⟨S16x1x1, .i32⟩
  | 16 => ⟨S16x1x1, .i32⟩
  | 17 => ⟨S_, .i32⟩
  | 18 => ⟨S16x256x16, .i32⟩
  | 19 => ⟨S16x256x16, .i1⟩
  | 20 => ⟨S_, .i32⟩
  | 21 => ⟨S16x256x16, .i32⟩
  | 22 => ⟨S16x256x16, .i32⟩
  | 23 => ⟨S16x256x16, .i32⟩
  | 24 => ⟨S16x256x16, .i32⟩
  | 25 => ⟨S16x256x16x1, .i32⟩
  | 26 => ⟨S16x256x16x1, .i32⟩
  | 27 => ⟨S16x256x16x2, .i32⟩
  | 28 => ⟨S16x256x16x3, .f32⟩
  | 29 => ⟨S16x256x1x3, .f32⟩
  | 30 => ⟨S16x256x16x3, .f32⟩
  | 31 => ⟨S16x256x16x3, .f32⟩
  | 32 => ⟨S16x256x16x16, .f32⟩
  | 33 => ⟨S1x1x1x16, .f32⟩
  | 34 => ⟨S16x256x16x16, .f32⟩
  | 35 => ⟨S16x256x16x16, .f32⟩
  | 36 => ⟨S_, .f32⟩
  | 37 => ⟨S16x256x16x16, .f32⟩
  | 38 => ⟨S16x256x16x16, .f32⟩
  | 39 => ⟨S16x256x16x16, .f32⟩
  | 40 => ⟨S1x1x1x16, .f32⟩
  | 41 => ⟨S16x256x16x16, .f32⟩
  | 42 => ⟨S16x256x16x16, .f32⟩
  | 43 => ⟨S_, .f32⟩
  | 44 => ⟨S16x256x16x16, .f32⟩
  | 45 => ⟨S16x256x16x16, .f32⟩
  | 46 => ⟨S16x256x16x32, .f32⟩
  | 47 => ⟨S1x1x1x32, .f32⟩
  | 48 => ⟨S16x256x16x32, .f32⟩
  | 49 => ⟨S16x256x16x32, .f32⟩
  | 50 => ⟨S_, .f32⟩
  | 51 => ⟨S16x256x16x32, .f32⟩
  | 52 => ⟨S16x256x16x32, .f32⟩
  | 53 => ⟨S_, .f32⟩
  | 54 => ⟨S16x256x32, .f32⟩
  | 55 => ⟨S16x3x2048, .f32⟩
  | 56 => ⟨S16x256x2048, .f32⟩
  | 57 => ⟨S_, .f32⟩
  | 58 => ⟨S16x256x2048, .f32⟩
  | 59 => ⟨S16x256x2048, .f32⟩
  | 60 => ⟨S16x256x3, .f32⟩
  | 61 => ⟨S_, .f32⟩
  | 62 => ⟨S16x256, .f32⟩
  | 63 => ⟨S16x256x1, .f32⟩
  | 64 => ⟨S16x256x2048, .f32⟩
  | 65 => ⟨S16x256x2048, .f32⟩
  | 66 => ⟨S16x2048x3, .f32⟩
  | 67 => ⟨S_, .f32⟩
  | 68 => ⟨S16x2048, .f32⟩
  | 69 => ⟨S16x1x2048, .f32⟩
  | 70 => ⟨S16x256x2048, .f32⟩
  | 71 => ⟨S16x256x2048, .f32⟩
  | 72 => ⟨S2048, .i32⟩
  | 73 => ⟨S16x256x2048, .i32⟩
  | 74 => ⟨S_, .f32⟩
  | 75 => ⟨S16x256x2048, .f32⟩
  | 76 => ⟨S16x256x2048, .i1⟩
  | 77 => ⟨S_, .i32⟩
  | 78 => ⟨S_, .i32⟩
  | 79 => ⟨S16x256x2048, .i32⟩
  | 80 => ⟨S16x256x2048, .i32⟩
  | 81 => ⟨S16x256x2048, .i32⟩
  | 82 => ⟨S16x256x32, .i32⟩
  | 83 => ⟨S16x256x1, .i32⟩
  | 84 => ⟨S_, .i32⟩
  | 85 => ⟨S16x256x32, .i32⟩
  | 86 => ⟨S16x256x32, .i1⟩
  | 87 => ⟨S16x256x32, .i32⟩
  | 88 => ⟨S16x256x32, .i32⟩
  | 89 => ⟨S16, .i32⟩
  | 90 => ⟨S16x1x1, .i32⟩
  | 91 => ⟨S_, .i32⟩
  | 92 => ⟨S16x1x1, .i32⟩
  | 93 => ⟨S16x1x1, .i1⟩
  | 94 => ⟨S_, .i32⟩
  | 95 => ⟨S16x1x1, .i32⟩
  | 96 => ⟨S16x1x1, .i32⟩
  | 97 => ⟨S16x1x1, .i32⟩
  | 98 => ⟨S_, .i32⟩
  | 99 => ⟨S16x256x32, .i32⟩
  | 100 => ⟨S16x256x32, .i1⟩
  | 101 => ⟨S_, .i32⟩
  | 102 => ⟨S16x256x32, .i32⟩
  | 103 => ⟨S16x256x32, .i32⟩
  | 104 => ⟨S16x256x32, .i32⟩
  | 105 => ⟨S16x256x32, .i32⟩
  | 106 => ⟨S16x256x32x1, .i32⟩
  | 107 => ⟨S16x256x32x1, .i32⟩
  | 108 => ⟨S16x256x32x2, .i32⟩
  | 109 => ⟨S16x256x32x3, .f32⟩
  | 110 => ⟨S16x256x1x3, .f32⟩
  | 111 => ⟨S16x256x32x3, .f32⟩
  | 112 => ⟨S16x256x32x3, .f32⟩
  | 113 => ⟨S16x256x32x32, .f32⟩
  | 114 => ⟨S1x1x1x32, .f32⟩
  | 115 => ⟨S16x256x32x32, .f32⟩
  | 116 => ⟨S16x256x32x32, .f32⟩
  | 117 => ⟨S_, .f32⟩
  | 118 => ⟨S16x256x32x32, .f32⟩
  | 119 => ⟨S16x256x32x32, .f32⟩
  | 120 => ⟨S16x256x32x32, .f32⟩
  | 121 => ⟨S1x1x1x32, .f32⟩
  | 122 => ⟨S16x256x32x32, .f32⟩
  | 123 => ⟨S16x256x32x32, .f32⟩
  | 124 => ⟨S_, .f32⟩
  | 125 => ⟨S16x256x32x32, .f32⟩
  | 126 => ⟨S16x256x32x32, .f32⟩
  | 127 => ⟨S16x256x32x64, .f32⟩
  | _ => ⟨S16x2048x3, .f32⟩

abbrev hbmTy0_2 (i : Nat) : BufTy := match i % 128 with
  | 0 => ⟨S1x1x1x64, .f32⟩
  | 1 => ⟨S16x256x32x64, .f32⟩
  | 2 => ⟨S16x256x32x64, .f32⟩
  | 3 => ⟨S_, .f32⟩
  | 4 => ⟨S16x256x32x64, .f32⟩
  | 5 => ⟨S16x256x32x64, .f32⟩
  | 6 => ⟨S_, .f32⟩
  | 7 => ⟨S16x256x64, .f32⟩
  | 8 => ⟨S16x3x2048, .f32⟩
  | 9 => ⟨S16x256x2048, .f32⟩
  | 10 => ⟨S_, .f32⟩
  | 11 => ⟨S16x256x2048, .f32⟩
  | 12 => ⟨S16x256x2048, .f32⟩
  | 13 => ⟨S16x256x3, .f32⟩
  | 14 => ⟨S_, .f32⟩
  | 15 => ⟨S16x256, .f32⟩
  | 16 => ⟨S16x256x1, .f32⟩
  | 17 => ⟨S16x256x2048, .f32⟩
  | 18 => ⟨S16x256x2048, .f32⟩
  | 19 => ⟨S16x2048x3, .f32⟩
  | 20 => ⟨S_, .f32⟩
  | 21 => ⟨S16x2048, .f32⟩
  | 22 => ⟨S16x1x2048, .f32⟩
  | 23 => ⟨S16x256x2048, .f32⟩
  | 24 => ⟨S16x256x2048, .f32⟩
  | 25 => ⟨S2048, .i32⟩
  | 26 => ⟨S16x256x2048, .i32⟩
  | 27 => ⟨S_, .f32⟩
  | 28 => ⟨S16x256x2048, .f32⟩
  | 29 => ⟨S16x256x2048, .i1⟩
  | 30 => ⟨S_, .i32⟩
  | 31 => ⟨S_, .i32⟩
  | 32 => ⟨S16x256x2048, .i32⟩
  | 33 => ⟨S16x256x2048, .i32⟩
  | 34 => ⟨S16x256x2048, .i32⟩
  | 35 => ⟨S16x256x128, .i32⟩
  | 36 => ⟨S16x256x1, .i32⟩
  | 37 => ⟨S_, .i32⟩
  | 38 => ⟨S16x256x128, .i32⟩
  | 39 => ⟨S16x256x128, .i1⟩
  | 40 => ⟨S16x256x128, .i32⟩
  | 41 => ⟨S16x256x128, .i32⟩
  | 42 => ⟨S16, .i32⟩
  | 43 => ⟨S16x1x1, .i32⟩
  | 44 => ⟨S_, .i32⟩
  | 45 => ⟨S16x1x1, .i32⟩
  | 46 => ⟨S16x1x1, .i1⟩
  | 47 => ⟨S_, .i32⟩
  | 48 => ⟨S16x1x1, .i32⟩
  | 49 => ⟨S16x1x1, .i32⟩
  | 50 => ⟨S16x1x1, .i32⟩
  | 51 => ⟨S_, .i32⟩
  | 52 => ⟨S16x256x128, .i32⟩
  | 53 => ⟨S16x256x128, .i1⟩
  | 54 => ⟨S_, .i32⟩
  | 55 => ⟨S16x256x128, .i32⟩
  | 56 => ⟨S16x256x128, .i32⟩
  | 57 => ⟨S16x256x128, .i32⟩
  | 58 => ⟨S16x256x128, .i32⟩
  | 59 => ⟨S16x256x128x1, .i32⟩
  | 60 => ⟨S16x256x128x1, .i32⟩
  | 61 => ⟨S16x256x128x2, .i32⟩
  | 62 => ⟨S16x256x128x3, .f32⟩
  | 63 => ⟨S16x256x1x3, .f32⟩
  | 64 => ⟨S16x256x128x3, .f32⟩
  | 65 => ⟨S16x256x128x3, .f32⟩
  | 66 => ⟨S16x256x128x32, .f32⟩
  | 67 => ⟨S1x1x1x32, .f32⟩
  | 68 => ⟨S16x256x128x32, .f32⟩
  | 69 => ⟨S16x256x128x32, .f32⟩
  | 70 => ⟨S_, .f32⟩
  | 71 => ⟨S16x256x128x32, .f32⟩
  | 72 => ⟨S16x256x128x32, .f32⟩
  | 73 => ⟨S16x256x128x48, .f32⟩
  | 74 => ⟨S1x1x1x48, .f32⟩
  | 75 => ⟨S16x256x128x48, .f32⟩
  | 76 => ⟨S16x256x128x48, .f32⟩
  | 77 => ⟨S_, .f32⟩
  | 78 => ⟨S16x256x128x48, .f32⟩
  | 79 => ⟨S16x256x128x48, .f32⟩
  | 80 => ⟨S16x256x128x64, .f32⟩
  | 81 => ⟨S1x1x1x64, .f32⟩
  | 82 => ⟨S16x256x128x64, .f32⟩
  | 83 => ⟨S16x256x128x64, .f32⟩
  | 84 => ⟨S_, .f32⟩
  | 85 => ⟨S16x256x128x64, .f32⟩
  | 86 => ⟨S16x256x128x64, .f32⟩
  | 87 => ⟨S_, .f32⟩
  | 88 => ⟨S16x256x64, .f32⟩
  | 89 => ⟨S16x256x160, .f32⟩
  | 90 => ⟨S1x16x256, .f32⟩
  | 91 => ⟨S16x1x256, .f32⟩
  | 92 => ⟨S1x1x1, .f32⟩
  | 93 => ⟨S16x1x256, .f32⟩
  | 94 => ⟨S16x1x256, .f32⟩
  | _ => ⟨S16x2048x3, .f32⟩

abbrev hbmTy (i : Nat) : BufTy := match i / 128 with
  | 0 => hbmTy0_0 i
  | 1 => hbmTy0_1 i
  | 2 => hbmTy0_2 i
  | _ => ⟨S16x2048x3, .f32⟩

abbrev bufTy : (tb : Table) → Fin (tcTables nBuf tb) → BufTy
  | .hbm, ⟨i, _⟩ => hbmTy i
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_c_1 : Ref sig .tc := ⟨.hbm, 27, rfl⟩
abbrev main_c_2 : Ref sig .tc := ⟨.hbm, 28, rfl⟩
abbrev main_v3_0 : Ref sig .tc := ⟨.hbm, 29, rfl⟩
abbrev main_v3_1 : Ref sig .tc := ⟨.hbm, 30, rfl⟩
abbrev main_v3_2 : Ref sig .tc := ⟨.hbm, 31, rfl⟩
abbrev main_v3_3 : Ref sig .tc := ⟨.hbm, 32, rfl⟩
abbrev main_v3_4 : Ref sig .tc := ⟨.hbm, 33, rfl⟩
abbrev main_v3_5 : Ref sig .tc := ⟨.hbm, 34, rfl⟩
abbrev main_while0c_c_45 : Ref sig .tc := ⟨.hbm, 35, rfl⟩
abbrev main_while0c_v213 : Ref sig .tc := ⟨.hbm, 36, rfl⟩
abbrev main_while0b_c_45 : Ref sig .tc := ⟨.hbm, 37, rfl⟩
abbrev main_while0b_v213 : Ref sig .tc := ⟨.hbm, 38, rfl⟩
abbrev main_while0b_c_46 : Ref sig .tc := ⟨.hbm, 39, rfl⟩
abbrev main_while0b_v214 : Ref sig .tc := ⟨.hbm, 40, rfl⟩
abbrev main_while0b_c_47 : Ref sig .tc := ⟨.hbm, 41, rfl⟩
abbrev main_while0b_v215 : Ref sig .tc := ⟨.hbm, 42, rfl⟩
abbrev main_while0b_v216 : Ref sig .tc := ⟨.hbm, 43, rfl⟩
abbrev main_while0b_v217 : Ref sig .tc := ⟨.hbm, 44, rfl⟩
abbrev main_while0b_v218 : Ref sig .tc := ⟨.hbm, 45, rfl⟩
abbrev main_while0b_v219 : Ref sig .tc := ⟨.hbm, 46, rfl⟩
abbrev main_while0b_v220 : Ref sig .tc := ⟨.hbm, 47, rfl⟩
abbrev main_while0b_v221 : Ref sig .tc := ⟨.hbm, 48, rfl⟩
abbrev main_while0b_v222 : Ref sig .tc := ⟨.hbm, 49, rfl⟩
abbrev main_while0b_c_48 : Ref sig .tc := ⟨.hbm, 50, rfl⟩
abbrev main_while0b_v223 : Ref sig .tc := ⟨.hbm, 51, rfl⟩
abbrev main_while0b_v224 : Ref sig .tc := ⟨.hbm, 52, rfl⟩
abbrev main_while0b_c_49 : Ref sig .tc := ⟨.hbm, 53, rfl⟩
abbrev main_while0b_v225 : Ref sig .tc := ⟨.hbm, 54, rfl⟩
abbrev main_while0b_v226 : Ref sig .tc := ⟨.hbm, 55, rfl⟩
abbrev main_while0b_v227 : Ref sig .tc := ⟨.hbm, 56, rfl⟩
abbrev main_while0b_c_50 : Ref sig .tc := ⟨.hbm, 57, rfl⟩
abbrev main_while0b_v228 : Ref sig .tc := ⟨.hbm, 58, rfl⟩
abbrev main_while0b_v229 : Ref sig .tc := ⟨.hbm, 59, rfl⟩
abbrev main_while0b_c_51 : Ref sig .tc := ⟨.hbm, 60, rfl⟩
abbrev main_while0b_v230 : Ref sig .tc := ⟨.hbm, 61, rfl⟩
abbrev main_while0b_v231 : Ref sig .tc := ⟨.hbm, 62, rfl⟩
abbrev main_while0b_v232 : Ref sig .tc := ⟨.hbm, 63, rfl⟩
abbrev main_while0b_v233 : Ref sig .tc := ⟨.hbm, 64, rfl⟩
abbrev main_while0b_v234 : Ref sig .tc := ⟨.hbm, 65, rfl⟩
abbrev main_while0b_v235 : Ref sig .tc := ⟨.hbm, 66, rfl⟩
abbrev main_while0b_v236 : Ref sig .tc := ⟨.hbm, 67, rfl⟩
abbrev main_while0b_v237 : Ref sig .tc := ⟨.hbm, 68, rfl⟩
abbrev main_while0b_v238 : Ref sig .tc := ⟨.hbm, 69, rfl⟩
abbrev main_while0b_v239 : Ref sig .tc := ⟨.hbm, 70, rfl⟩
abbrev main_while0b_cst_52 : Ref sig .tc := ⟨.hbm, 71, rfl⟩
abbrev main_while0b_v240 : Ref sig .tc := ⟨.hbm, 72, rfl⟩
abbrev main_while0b_v241 : Ref sig .tc := ⟨.hbm, 73, rfl⟩
abbrev main_while0b_call0_v0 : Ref sig .tc := ⟨.hbm, 74, rfl⟩
abbrev main_while0b_call0_cst : Ref sig .tc := ⟨.hbm, 75, rfl⟩
abbrev main_while0b_call0_c : Ref sig .tc := ⟨.hbm, 76, rfl⟩
abbrev main_while0b_call0_v1_0 : Ref sig .tc := ⟨.hbm, 77, rfl⟩
abbrev main_while0b_v242 : Ref sig .tc := ⟨.hbm, 78, rfl⟩
abbrev main_while0b_c_53 : Ref sig .tc := ⟨.hbm, 79, rfl⟩
abbrev main_while0b_v243 : Ref sig .tc := ⟨.hbm, 80, rfl⟩
abbrev main_v4 : Ref sig .tc := ⟨.hbm, 81, rfl⟩
abbrev main_v5 : Ref sig .tc := ⟨.hbm, 82, rfl⟩
abbrev main_c_3 : Ref sig .tc := ⟨.hbm, 83, rfl⟩
abbrev main_v6 : Ref sig .tc := ⟨.hbm, 84, rfl⟩
abbrev main_v7 : Ref sig .tc := ⟨.hbm, 85, rfl⟩
abbrev main_c_4 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_c_5 : Ref sig .tc := ⟨.hbm, 90, rfl⟩
abbrev main_v11 : Ref sig .tc := ⟨.hbm, 91, rfl⟩
abbrev main_v12 : Ref sig .tc := ⟨.hbm, 92, rfl⟩
abbrev main_c_6 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst_7 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_8 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_cst_9 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_cst_10 : Ref sig .tc := ⟨.hbm, 121, rfl⟩
abbrev main_v37 : Ref sig .tc := ⟨.hbm, 122, rfl⟩
abbrev main_v38 : Ref sig .tc := ⟨.hbm, 123, rfl⟩
abbrev main_c_11 : Ref sig .tc := ⟨.hbm, 124, rfl⟩
abbrev main_call1_v0 : Ref sig .tc := ⟨.hbm, 125, rfl⟩
abbrev main_call1_v1 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_c_12 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_c_13 : Ref sig .tc := ⟨.hbm, 138, rfl⟩
abbrev main_v49 : Ref sig .tc := ⟨.hbm, 139, rfl⟩
abbrev main_v50 : Ref sig .tc := ⟨.hbm, 140, rfl⟩
abbrev main_c_14 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_c_15 : Ref sig .tc := ⟨.hbm, 145, rfl⟩
abbrev main_v54 : Ref sig .tc := ⟨.hbm, 146, rfl⟩
abbrev main_v55 : Ref sig .tc := ⟨.hbm, 147, rfl⟩
abbrev main_c_16 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_call4_cst : Ref sig .tc := ⟨.hbm, 164, rfl⟩
abbrev main_call4_v0 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_call5_cst : Ref sig .tc := ⟨.hbm, 171, rfl⟩
abbrev main_call5_v0 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_call6_cst : Ref sig .tc := ⟨.hbm, 178, rfl⟩
abbrev main_call6_v0 : Ref sig .tc := ⟨.hbm, 179, rfl⟩
abbrev main_v81 : Ref sig .tc := ⟨.hbm, 180, rfl⟩
abbrev main_cst_17 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_cst_18 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_cst_19 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_cst_20 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_cst_21 : Ref sig .tc := ⟨.hbm, 202, rfl⟩
abbrev main_v99 : Ref sig .tc := ⟨.hbm, 203, rfl⟩
abbrev main_v100 : Ref sig .tc := ⟨.hbm, 204, rfl⟩
abbrev main_c_22 : Ref sig .tc := ⟨.hbm, 205, rfl⟩
abbrev main_call7_v0 : Ref sig .tc := ⟨.hbm, 206, rfl⟩
abbrev main_call7_v1 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_c_23 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_v109 : Ref sig .tc := ⟨.hbm, 217, rfl⟩
abbrev main_v110 : Ref sig .tc := ⟨.hbm, 218, rfl⟩
abbrev main_c_24 : Ref sig .tc := ⟨.hbm, 219, rfl⟩
abbrev main_v111 : Ref sig .tc := ⟨.hbm, 220, rfl⟩
abbrev main_v112 : Ref sig .tc := ⟨.hbm, 221, rfl⟩
abbrev main_c_25 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_c_26 : Ref sig .tc := ⟨.hbm, 226, rfl⟩
abbrev main_v116 : Ref sig .tc := ⟨.hbm, 227, rfl⟩
abbrev main_v117 : Ref sig .tc := ⟨.hbm, 228, rfl⟩
abbrev main_c_27 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_call10_cst : Ref sig .tc := ⟨.hbm, 245, rfl⟩
abbrev main_call10_v0 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_call11_cst : Ref sig .tc := ⟨.hbm, 252, rfl⟩
abbrev main_call11_v0 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_call12_cst : Ref sig .tc := ⟨.hbm, 259, rfl⟩
abbrev main_call12_v0 : Ref sig .tc := ⟨.hbm, 260, rfl⟩
abbrev main_v143 : Ref sig .tc := ⟨.hbm, 261, rfl⟩
abbrev main_cst_28 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_cst_29 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_cst_30 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_cst_31 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_cst_32 : Ref sig .tc := ⟨.hbm, 283, rfl⟩
abbrev main_v161 : Ref sig .tc := ⟨.hbm, 284, rfl⟩
abbrev main_v162 : Ref sig .tc := ⟨.hbm, 285, rfl⟩
abbrev main_c_33 : Ref sig .tc := ⟨.hbm, 286, rfl⟩
abbrev main_call13_v0 : Ref sig .tc := ⟨.hbm, 287, rfl⟩
abbrev main_call13_v1 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_c_34 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_c_35 : Ref sig .tc := ⟨.hbm, 300, rfl⟩
abbrev main_v173 : Ref sig .tc := ⟨.hbm, 301, rfl⟩
abbrev main_v174 : Ref sig .tc := ⟨.hbm, 302, rfl⟩
abbrev main_c_36 : Ref sig .tc := ⟨.hbm, 303, rfl⟩
abbrev main_v175 : Ref sig .tc := ⟨.hbm, 304, rfl⟩
abbrev main_v176 : Ref sig .tc := ⟨.hbm, 305, rfl⟩
abbrev main_v177 : Ref sig .tc := ⟨.hbm, 306, rfl⟩
abbrev main_c_37 : Ref sig .tc := ⟨.hbm, 307, rfl⟩
abbrev main_v178 : Ref sig .tc := ⟨.hbm, 308, rfl⟩
abbrev main_v179 : Ref sig .tc := ⟨.hbm, 309, rfl⟩
abbrev main_c_38 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_v193 : Ref sig .tc := ⟨.hbm, 324, rfl⟩
abbrev main_v194 : Ref sig .tc := ⟨.hbm, 325, rfl⟩
abbrev main_call16_cst : Ref sig .tc := ⟨.hbm, 326, rfl⟩
abbrev main_call16_v0 : Ref sig .tc := ⟨.hbm, 327, rfl⟩
abbrev main_v195 : Ref sig .tc := ⟨.hbm, 328, rfl⟩
abbrev main_v196 : Ref sig .tc := ⟨.hbm, 329, rfl⟩
abbrev main_v197 : Ref sig .tc := ⟨.hbm, 330, rfl⟩
abbrev main_v198 : Ref sig .tc := ⟨.hbm, 331, rfl⟩
abbrev main_v199 : Ref sig .tc := ⟨.hbm, 332, rfl⟩
abbrev main_call17_cst : Ref sig .tc := ⟨.hbm, 333, rfl⟩
abbrev main_call17_v0 : Ref sig .tc := ⟨.hbm, 334, rfl⟩
abbrev main_v200 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_call18_cst : Ref sig .tc := ⟨.hbm, 340, rfl⟩
abbrev main_call18_v0 : Ref sig .tc := ⟨.hbm, 341, rfl⟩
abbrev main_v205 : Ref sig .tc := ⟨.hbm, 342, rfl⟩
abbrev main_cst_39 : Ref sig .tc := ⟨.hbm, 343, rfl⟩
abbrev main_v206 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩

abbrev nD : Nat := 1
abbrev τ : Topo := Topo.v7x

variable {F : FTy → Type} [FloatOps F]

abbrev main_while0_count : Scf.Loop 32 := ⟨0#32, 256#32, 1#32⟩
-- ==== Proof.KernelRun.lean ====
module

public import proofs.«01_k».proof.Proof.Gen.KernelIdeal.Frame

/-!
The kernel runs: every unscoped buffer ends at the contents the generated frame module names `W9` (each stretch of host
operations and each pallas_call applied in order to the launch contents). The frame certificate states only that the
arguments end unchanged; this is the same launch, kept whole.
-/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of `main` ends with every unscoped buffer at `W9`. -/
theorem run_all : θ_run defs (onTc (τ := τ) (main (F := F))) ⟨m, fun _ => 0, ρ⟩ (fun r => ∀ (c : Dev nD) (b : Ref sig .tc),
      (Proc.devRef .tc b : DevRef τ sig).isScoped = false →
      r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c b hb => h c _ (mem_uc b (by rw [hb]; exact Bool.false_ne_true)))

end Cert.KernelIdeal.Gen

end
-- ==== Proof.FpsRegion.lean ====
module

public import proofs.«01_k».proof.Proof.Gen.KernelIdeal.Frame
public import Idealize.ShloMosaic.Lib.Pipeline.ValueKit
public import Idealize.ShloMosaic.Lib.WholeRead

/-!
The array of centres after the first region: the sampling loop's fold of the points it loads.
-/

@[expose] public section

set_option maxRecDepth 16384

noncomputable section

namespace Cert.Fps

open Idealize.SL
open Idealize.ShloMosaic Cert.KernelIdeal Cert.KernelIdeal.Gen

/-- The sampling loop over the three coordinate rows. -/
def loop (v0 v2 v4 : FVec Ideal S16x1x2048 .f32) : FVec Ideal S16x2048 .f32 × IVec S16x1 32 × FVec Ideal S16x3x256 .f32 :=
  Scf.fold (n := k0_t1_loop.trips)
    (fun k a => (k0_pay12 v0 v2 v4 a.1 a.2.1, k0_pay13 v0 v2 v4 a.1 a.2.1, k0_pay11 v0 v2 v4 k a.2.1 a.2.2)) (k0_pay4 (F := Ideal), k0_pay5, k0_pay6 (F := Ideal))

variable {V : (c : Dev nD) → (b : Ref sig .tc) → Buf (Elt Ideal) ((Dev.tc c : Thread nD τ).loc b)}

/-- Row `k` of the coordinates. -/
def row (k : Fin 3) (x : FVec Ideal S16x3x2048 .f32) : FVec Ideal S16x1x2048 .f32 := fun i => x (ValueIdx.ix3 (i 0) k (i 2))

/-- A load of one row. -/
theorem ld_row (x : FVec Ideal S16x3x2048 .f32) (k : Fin 3) (inb : ∀ a, (![0, k.val, 0] : Fin 3 → ℕ) a + S16x1x2048.size a ≤ S16x3x2048.size a)
    (i : S16x1x2048.Idx) : x ((Rect.unit (s := S16x3x2048) ![0, k.val, 0] S16x1x2048.size inb).toLoadRect.idx i) = row k x i := by
  refine congrArg x ?_
  funext a; apply Fin.ext
  have h1 := (i 1).isLt
  change (i 1).val < 1 at h1
  match a with
  | ⟨0, _⟩ => show 0 + 1 * (i 0).val = (i 0).val; omega
  | ⟨1, _⟩ => show k.val + 1 * (i 1).val = k.val; omega
  | ⟨2, _⟩ => show 0 + 1 * (i 2).val = (i 2).val; omega

/-- What the region's body leaves in its output block. -/
theorem outs (c : Dev nD) (t : Fin cfg0.N) : outsAt0 (F := Ideal) V c t
    = (loop (row 0 (iblk0 V c 0 t)) (row 1 (iblk0 V c 0 t)) (row 2 (iblk0 V c 0 t))).2.2 := by
  unfold outsAt0 out0_A_1
  refine (View.read_writes_eq_canon _ _ _ (cover0_A_1 c _ _ _ _ _)).trans ?_
  unfold kernelRun0_A
  dsimp only
  refine (View.canon_cons_unit_lit inb_S16x3x256_S16x3x256_0_0_0 _ [] (by decide)).trans ?_
  unfold kernelRun0_A.sl.r
  have e0 : View.readAt (Elt Ideal) (ms0_0 t).view (Rect.unit (s := S16x3x2048) ![0, 0, 0] S16x1x2048.size inb_S16x3x2048_S16x1x2048_0_0_0).toLoadRect
      ((hs0_0 t).unread (iblk0 V c 0 t)) = row 0 (iblk0 V c 0 t) := funext fun i => ((hs0_0 t).readAt_unread _ _ i).trans (ld_row _ 0 _ i)
  have e1 : View.readAt (Elt Ideal) (ms0_0 t).view (Rect.unit (s := S16x3x2048) ![0, 1, 0] S16x1x2048.size inb_S16x3x2048_S16x1x2048_0_1_0).toLoadRect
      ((hs0_0 t).unread (iblk0 V c 0 t)) = row 1 (iblk0 V c 0 t) := funext fun i => ((hs0_0 t).readAt_unread _ _ i).trans (ld_row _ 1 _ i)
  have e2 : View.readAt (Elt Ideal) (ms0_0 t).view (Rect.unit (s := S16x3x2048) ![0, 2, 0] S16x1x2048.size inb_S16x3x2048_S16x1x2048_0_2_0).toLoadRect
      ((hs0_0 t).unread (iblk0 V c 0 t)) = row 2 (iblk0 V c 0 t) := funext fun i => ((hs0_0 t).readAt_unread _ _ i).trans (ld_row _ 2 _ i)
  rw [e0, e1, e2]
  rfl

/-- The array of centres after the region. -/
theorem arr0 (c : Dev nD) : (dat0 (F := Ideal) V c).arrAt 1 cfg0.N
    = (loop (row 0 (V c main_v0)) (row 1 (V c main_v0)) (row 2 (V c main_v0))).2.2 := by
  have e0 : ∀ t : Fin cfg0.N, win0_0.index t = ![0, 0, 0] := (by decide +kernel : ∀ t : Fin grid0.N, _)
  have e1 : ∀ t : Fin cfg0.N, win0_1.index t = ![0, 0, 0] := (by decide +kernel : ∀ t : Fin grid0.N, _)
  refine (dat0 V c).arrAt_eq_of_covers 1 _ (by decide +kernel) fun t hf y => ?_
  blk_simp
  rw [after0_1, outs]
  have e : iblk0 V c 0 t = V c main_v0 := by
    funext x
    blk_simp [iblk0]
    refine congrArg (V c main_v0) ?_
    blk_ext [e0]
  rw [e]
  refine congrArg _ ?_
  blk_ext [e1]

end Cert.Fps

end
-- ==== Proof.FpsSpec.lean ====
module

public import Idealize.ShloMosaic.PureOps.Ideal
public import Idealize.ShloMosaic.Lib.IdealHost

/-!
Farthest point sampling on one cloud: each step lowers every point's distance to the chosen set by its distance to the newest
choice, then chooses the first point at the largest distance.
-/

@[expose] public section

set_option maxRecDepth 16384

noncomputable section

namespace Cert.Fps

open Idealize.ShloMosaic

/-- A point of the cloud. -/
abbrev Pt := Fin 2048

/-- The first point with the largest value. -/
def IsFirst (d : Pt → EReal) (j : Pt) : Prop := (∀ i, d i ≤ d j) ∧ ∀ i, i < j → d i < d j

theorem isFirst_unique {d : Pt → EReal} {i j : Pt} (hi : IsFirst d i) (hj : IsFirst d j) : i = j := by
  rcases lt_trichotomy i j with h | h | h
  · exact absurd (hj.2 i h) (not_lt.2 (hi.1 j))
  · exact h
  · exact absurd (hi.2 j h) (not_lt.2 (hj.1 i))

theorem exists_first {n : ℕ} [NeZero n] (d : Fin n → EReal) : ∃ j, (∀ i, d i ≤ d j) ∧ ∀ i, i < j → d i < d j := by
  classical
  obtain ⟨m, hm⟩ := Finite.exists_max d
  have hS : (Finset.univ.filter fun j => ∀ i, d i ≤ d j).Nonempty := ⟨m, Finset.mem_filter.2 ⟨Finset.mem_univ _, hm⟩⟩
  obtain ⟨j, hj, hmin⟩ := Finset.exists_min_image _ (fun j => j) hS
  have h1 := (Finset.mem_filter.1 hj).2
  refine ⟨j, h1, fun i hi => lt_of_le_of_ne (h1 i) fun e => ?_⟩
  exact absurd (hmin i (Finset.mem_filter.2 ⟨Finset.mem_univ _, fun k => e ▸ h1 k⟩)) (not_le.2 hi)

theorem exists_isFirst (d : Pt → EReal) : ∃ j, IsFirst d j := exists_first d

/-- The first point with the largest value. -/
def firstMax (d : Pt → EReal) : Pt := (exists_isFirst d).choose

theorem firstMax_spec (d : Pt → EReal) : IsFirst d (firstMax d) := (exists_isFirst d).choose_spec

theorem firstMax_eq {d : Pt → EReal} {j : Pt} (h : IsFirst d j) : firstMax d = j := isFirst_unique (firstMax_spec d) h

/-- The squared distance of point `j` to point `f`. -/
def sqd (X : Fin 3 → Pt → EReal) (f j : Pt) : EReal := ∑ k, (X k j - X k f) * (X k j - X k f)

/-- One step. -/
def next (X : Fin 3 → Pt → EReal) (s : (Pt → EReal) × Pt) : (Pt → EReal) × Pt :=
  (fun j => min (s.1 j) (sqd X s.2 j), firstMax fun j => min (s.1 j) (sqd X s.2 j))

/-- The state after `n` steps: the distances, and the newest choice. -/
def state (X : Fin 3 → Pt → EReal) : ℕ → (Pt → EReal) × Pt
  | 0 => (fun _ => Ideal.ofBits .f32 0x501502F9#32, 0)
  | n + 1 => next X (state X n)

theorem state_fst (X : Fin 3 → Pt → EReal) (n : ℕ) (j : Pt) :
    (state X (n + 1)).1 j = min ((state X n).1 j) (sqd X (state X n).2 j) := rfl

theorem state_snd (X : Fin 3 → Pt → EReal) (n : ℕ) : (state X (n + 1)).2 = firstMax (state X (n + 1)).1 := rfl

/-- The `n`-th choice. -/
def far (X : Fin 3 → Pt → EReal) (n : ℕ) : Pt := (state X n).2

/-- A property kept by every trip holds after the last. -/
theorem foldl_finRange {σ : Type} : ∀ (n : ℕ) (P : ℕ → σ → Prop) (g : Fin n → σ → σ) (a : σ), P 0 a →
    (∀ (k : Fin n) a, P k.val a → P (k.val + 1) (g k a)) → P n ((List.finRange n).foldl (fun a k => g k a) a)
  | 0, _, _, _, h, _ => by simpa using h
  | n + 1, P, g, a, h, hs => by
    rw [List.finRange_succ, List.foldl_cons, List.foldl_map]
    exact foldl_finRange n (fun k => P (k + 1)) (fun k => g k.succ) (g 0 a) (hs 0 a h)
      (fun k a hk => by have := hs k.succ a (by simpa using hk); simpa using this)

end Cert.Fps

end
-- ==== Proof.Spec.lean ====
module

public import Idealize.ShloMosaic.Lib.IdealHost
public import Idealize.ShloMosaic.Lib.ValueIdx

/-!
The mathematics the kernel and the reference share, over the extended reals: the squared distance as both expand it, the
points a ball query keeps, the three-layer network, and the running count the kernel takes by doubling shifts.
-/

@[expose] public section

noncomputable section

namespace Cert.Spec

open Classical Finset

/-- The number of points of a cloud. -/
abbrev Pt := Fin 2048

/-- The squared distance of `c` and `x` as both programs expand it, the factor `m2` being the constant −2. -/
def dist2 (m2 : EReal) (c x : Fin 3 → EReal) : EReal := m2 * (∑ k, c k * x k) + (∑ k, c k * c k) + ∑ k, x k * x k

/-- How many points up to and including `j` satisfy `P`. -/
def cnt (P : Pt → Prop) (j : Pt) : ℕ := (univ.filter fun k => k ≤ j ∧ P k).card

/-- The points a ball query keeps: the first `ns` of the ball, or the last point of the cloud where the ball is empty. -/
def Chosen (P : Pt → Prop) (ns : ℕ) (j : Pt) : Prop := (P j ∧ cnt P j ≤ ns) ∨ ((∀ k, ¬ P k) ∧ j.val = 2047)

/-- One layer of the network at output `o`. -/
def layer {K M : ℕ} (W : Fin M → Fin K → EReal) (b : Fin M → EReal) (v : Fin K → EReal) (o : Fin M) : EReal :=
  max (∑ k, W o k * v k + b o) 0

theorem layer_nonneg {K M : ℕ} (W : Fin M → Fin K → EReal) (b : Fin M → EReal) (v : Fin K → EReal) (o : Fin M) :
    0 ≤ layer W b v o := le_max_right _ _

/-- The three layers. -/
def mlp {d₁ d₂ d₃ : ℕ} (W₁ : Fin d₁ → Fin 3 → EReal) (b₁ : Fin d₁ → EReal) (W₂ : Fin d₂ → Fin d₁ → EReal) (b₂ : Fin d₂ → EReal)
    (W₃ : Fin d₃ → Fin d₂ → EReal) (b₃ : Fin d₃ → EReal) (v : Fin 3 → EReal) : Fin d₃ → EReal :=
  layer W₃ b₃ (layer W₂ b₂ (layer W₁ b₁ v))

/-- The greatest value over the points kept. -/
def feat (P : Pt → Prop) (ns : ℕ) (H : Pt → EReal) : EReal := (univ.filter (Chosen P ns)).sup H

/-- The first point of a ball has count one. -/
theorem cnt_first (P : Pt → Prop) (j : Pt) (hj : P j) (h : ∀ k < j, ¬ P k) : cnt P j = 1 := by
  unfold cnt
  rw [card_eq_one]
  refine ⟨j, ext fun k => ?_⟩
  simp only [mem_filter, mem_univ, true_and, mem_singleton]
  exact ⟨fun ⟨h1, h2⟩ => (lt_or_eq_of_le h1).elim (fun h' => (h k h' h2).elim) id, fun e => by subst e; exact ⟨le_refl _, hj⟩⟩

/-- A query keeps at least one point. -/
theorem chosen_nonempty (P : Pt → Prop) {ns : ℕ} (hns : 1 ≤ ns) : ∃ j, Chosen P ns j := by
  by_cases h : ∀ k, ¬ P k
  · exact ⟨⟨2047, by omega⟩, .inr ⟨h, rfl⟩⟩
  · obtain ⟨k, hk⟩ := _root_.not_forall_not.1 h
    have hne : (univ.filter P).Nonempty := ⟨k, by simp [hk]⟩
    have hm := Finset.min'_mem _ hne
    refine ⟨_, .inl ⟨(mem_filter.1 hm).2, ?_⟩⟩
    rw [cnt_first P _ (mem_filter.1 hm).2 fun i hi hp => absurd (Finset.min'_le _ i (by simp [hp])) (not_le.2 hi)]
    exact hns

/-- The kernel's masked maximum: zero where a point is not kept. Over values at least zero it is the maximum over the points kept. -/
theorem fold_select_eq_feat (P : Pt → Prop) {ns : ℕ} (hns : 1 ≤ ns) (H : Pt → EReal) (hH : ∀ j, 0 ≤ H j) :
    (univ : Finset Pt).fold max ⊥ (fun j => if Chosen P ns j then H j else 0) = feat P ns H := by
  refine le_antisymm ((Finset.fold_max_le _).2 ⟨bot_le, fun j _ => ?_⟩) (Finset.sup_le fun j hj => ?_)
  · by_cases h : Chosen P ns j
    · rw [if_pos h]; exact Finset.le_sup (f := H) (by simp [h])
    · rw [if_neg h]
      obtain ⟨k, hk⟩ := chosen_nonempty P hns
      exact (hH k).trans (Finset.le_sup (f := H) (by simp [hk]))
  · exact (Finset.le_fold_max _).2 (.inr ⟨j, mem_univ _, by rw [if_pos (mem_filter.1 hj).2]⟩)

/-! ## The running count by doubling shifts -/

/-- The sum of the last `w` values up to `j`. -/
def winSum (f : ℕ → EReal) (w j : ℕ) : EReal := ∑ i ∈ range w, if i ≤ j then f (j - i) else 0

theorem winSum_one (f : ℕ → EReal) (j : ℕ) : winSum f 1 j = f j := by simp [winSum]

/-- One doubling: the window of `w` plus the same window `w` places earlier is the window of `2 w`. -/
theorem winSum_double (f : ℕ → EReal) (w j : ℕ) :
    winSum f w j + (if w ≤ j then winSum f w (j - w) else 0) = winSum f (w + w) j := by
  unfold winSum
  rw [Finset.sum_range_add]
  congr 1
  by_cases h : w ≤ j
  · rw [if_pos h]
    refine sum_congr rfl fun i _ => ?_
    by_cases h' : i ≤ j - w
    · rw [if_pos h', if_pos (by omega), show j - (w + i) = j - w - i by omega]
    · rw [if_neg h', if_neg (by omega)]
  · rw [if_neg h]
    refine (sum_eq_zero fun i _ => if_neg (by omega)).symm

/-- The whole window of an indicator is the count. -/
theorem winSum_indicator (P : Pt → Prop) (f : ℕ → EReal) (hf : ∀ j : Pt, f j.val = if P j then 1 else 0) (j : Pt) :
    winSum f 2048 j.val = ((cnt P j : ℕ) : EReal) := by
  unfold winSum cnt
  have e : ∀ i ∈ range 2048, (if i ≤ j.val then f (j.val - i) else 0)
      = if (i ≤ j.val ∧ P ⟨j.val - i, by have := j.isLt; omega⟩) then (1 : EReal) else 0 := fun i _ => by
    by_cases h : i ≤ j.val
    · rw [if_pos h, hf ⟨j.val - i, by have := j.isLt; omega⟩]; simp [h]
    · simp [h]
  rw [sum_congr rfl e, Finset.sum_boole]
  refine congrArg (fun n : ℕ => (n : EReal)) (Finset.card_bij (fun i _ => (⟨j.val - i, by have := j.isLt; omega⟩ : Pt)) ?_ ?_ ?_)
  · intro i hi
    simp only [mem_filter, mem_range, mem_univ, true_and] at hi ⊢
    exact ⟨Fin.le_def.2 (by simp), hi.2.2⟩
  · intro i hi i' hi' h
    simp only [mem_filter, mem_range] at hi hi'
    have := congrArg Fin.val h
    simp only at this
    omega
  · intro k hk
    simp only [mem_filter, mem_univ, true_and] at hk
    have hkj : k.val ≤ j.val := hk.1
    have hj := j.isLt
    refine ⟨j.val - k.val, ?_, Fin.ext (by simp only; omega)⟩
    simp only [mem_filter, mem_range]
    refine ⟨by omega, by omega, ?_⟩
    rw [show (⟨j.val - (j.val - k.val), by omega⟩ : Pt) = k from Fin.ext (by simp only; omega)]
    exact hk.2

/-- Every point counted at the last point is every point of the ball: the count is zero exactly on an empty ball. -/
theorem cnt_last_eq_zero (P : Pt → Prop) : cnt P ⟨2047, by omega⟩ = 0 ↔ ∀ k, ¬ P k := by
  unfold cnt
  rw [card_eq_zero, filter_eq_empty_iff]
  exact ⟨fun h k hk => h (mem_univ k) ⟨Fin.le_def.2 (by have := k.isLt; simp only; omega), hk⟩, fun h k _ hk => h k hk.2⟩

end Cert.Spec

end
-- ==== Proof.ScaleBlock.lean ====
module

public import proofs.«01_k».proof.Proof.KernelRun
public import proofs.«01_k».proof.Proof.Spec
public import Idealize.ShloMosaic.Lib.MatmulPlain
public import Idealize.ShloMosaic.Lib.Pipeline.Value

/-!
What one block of a scale call computes. The three scale bodies print the same operations at three sets of layer
widths, radii and sample counts; the operations are stated once here over those, and read at an index over the ideal values.
-/

@[expose] public section

set_option maxRecDepth 16384

noncomputable section

namespace Cert.Scale

open Idealize.ShloMosaic Cert.KernelIdeal Cert.KernelIdeal.Gen

/-! ## Shape facts at any width -/

theorem slices_col (s : Fin 16) : Shape.Slices ⟨2, ![3, 16]⟩ ![0, s.val] ⟨2, ![3, 1]⟩ :=
  ⟨rfl, fun a => by have := s.isLt; fin_cases a <;> simp <;> omega⟩
theorem slices_row (s : Fin 16) : Shape.Slices ⟨2, ![16, 2048]⟩ ![s.val, 0] ⟨2, ![1, 2048]⟩ :=
  ⟨rfl, fun a => by have := s.isLt; fin_cases a <;> simp <;> omega⟩
theorem slices_piece (M : ℕ) (s : Fin 16) : Shape.Slices ⟨2, ![M, 32768]⟩ ![0, 2048 * s.val] ⟨2, ![M, 2048]⟩ :=
  ⟨rfl, fun a => by have := s.isLt; fin_cases a <;> simp; omega⟩
theorem casts_same (S : Shape) : S.ShapeCasts S := rfl
theorem casts_col (M : ℕ) : Shape.ShapeCasts ⟨1, ![M]⟩ ⟨2, ![M, 1]⟩ := by
  simp [Shape.ShapeCasts, Shape.numel, Fin.prod_univ_succ]
theorem reduces_row (M : ℕ) : Shape.Reduces ⟨2, ![M, 2048]⟩ [1] ⟨1, ![M]⟩ :=
  ⟨rfl, Nat.zero_lt_one, fun b => by fin_cases b; rfl⟩
theorem broadcasts_col (M N : ℕ) : Shape.Broadcasts ⟨2, ![M, 1]⟩ ⟨2, ![M, N]⟩ :=
  ⟨le_refl _, fun a => by fin_cases a <;> simp⟩
theorem broadcasts_row (M N : ℕ) : Shape.Broadcasts ⟨2, ![1, N]⟩ ⟨2, ![M, N]⟩ :=
  ⟨le_refl _, fun a => by fin_cases a <;> simp⟩
theorem slices_front {d k : ℕ} (h : d + k = 2048) : Shape.Slices ⟨2, ![16, 2048]⟩ ![0, 0] ⟨2, ![16, k]⟩ :=
  ⟨rfl, fun a => by fin_cases a <;> simp; omega⟩
theorem concats_shift {d k : ℕ} (h : d + k = 2048) : Shape.Concatenates [⟨2, ![16, d]⟩, ⟨2, ![16, k]⟩] ⟨2, ![16, 2048]⟩ 1 :=
  ⟨le_refl _, fun s hs => by
    simp only [List.mem_cons, List.not_mem_nil, or_false] at hs
    rcases hs with rfl | rfl <;> exact ⟨rfl, fun b hb => by fin_cases b <;> simp_all⟩, by simp [h]⟩
theorem concats_rel : Shape.Concatenates ((List.ofFn fun _ : Fin 16 => (⟨2, ![3, 2048]⟩ : Shape))) ⟨2, ![3, 32768]⟩ 1 := by decide
theorem concats_cols (M : ℕ) : Shape.Concatenates (List.ofFn fun _ : Fin 16 => (⟨2, ![M, 1]⟩ : Shape)) ⟨2, ![M, 16]⟩ 1 :=
  by
  rw [List.ofFn_const]
  refine ⟨by simp, fun s hs => ?_, by simp⟩
  rw [List.eq_of_mem_replicate hs]
  exact ⟨rfl, fun b hb => by fin_cases b <;> simp_all⟩

/-! ## The operations -/

/-- The squared distance of every centre to every point of the cloud. -/
def distV (v0 : FVec Ideal ⟨3, ![1, 3, 2048]⟩ .f32) (v2 : FVec Ideal ⟨4, ![1, 1, 16, 3]⟩ .f32) : FVec Ideal ⟨2, ![16, 2048]⟩ .f32 :=
  have v1 : FVec Ideal S3x2048 .f32 := shapeCast S3x2048 v0 shapeCasts_S1x3x2048_S3x2048
  have v3 : FVec Ideal S16x3 .f32 := shapeCast S16x3 v2 shapeCasts_S1x1x16x3_S16x3
  addf (addf (mulf (broadcast S16x2048 (Scalar.ofBits .f32 0xC0000000#32))
      (matmul (DotDims.plain 16 3 2048) none (truncf .bf16 v3 bitsLt_bf16_f32) (truncf .bf16 v1 bitsLt_bf16_f32) (constant S16x2048 .f32 0x00000000#32)))
      (broadcastTo S16x2048 (shapeCast S16x1 (multiReduction .add [1] S16 (mulf v3 v3) 0x00000000#32 reduces_S16x3_S16 (.inl rfl) rfl) shapeCasts_S16_S16x1) broadcasts_S16x1_S16x2048))
    (broadcastTo S16x2048 (shapeCast S1x2048 (multiReduction .add [0] S2048 (mulf v1 v1) 0x00000000#32 reduces_S3x2048_S2048 (.inl rfl) rfl) shapeCasts_S2048_S1x2048) broadcasts_S1x2048_S16x2048)

/-- Whether each point of the cloud lies in the ball of each centre: the squared distance compared with `r2`. -/
def inb (r2 : BitVec 32) (v0 : FVec Ideal ⟨3, ![1, 3, 2048]⟩ .f32) (v2 : FVec Ideal ⟨4, ![1, 1, 16, 3]⟩ .f32) : IVec ⟨2, ![16, 2048]⟩ 1 :=
  xori (cmpf .ogt (distV v0 v2) (broadcast S16x2048 (Scalar.ofBits .f32 r2))) (constantI S16x2048 1 1#1)

/-- One step of the running count: the values plus the values `d` places earlier. -/
def shiftAdd (d k : ℕ) (h : d + k = 2048) (v : FVec Ideal ⟨2, ![16, 2048]⟩ .f32) : FVec Ideal ⟨2, ![16, 2048]⟩ .f32 :=
  addf v (concatenate ⟨2, ![16, 2048]⟩ 1 [⟨⟨2, ![16, d]⟩, broadcast ⟨2, ![16, d]⟩ (Scalar.ofBits .f32 0x00000000#32)⟩,
    ⟨⟨2, ![16, k]⟩, extractStridedSlice ⟨2, ![16, k]⟩ ![0, 0] v (slices_front h)⟩] (concats_shift h))

/-- The running count: eleven doublings. -/
def cum (p : IVec ⟨2, ![16, 2048]⟩ 1) : FVec Ideal ⟨2, ![16, 2048]⟩ .f32 :=
  shiftAdd 1024 1024 rfl <| shiftAdd 512 1536 rfl <| shiftAdd 256 1792 rfl <| shiftAdd 128 1920 rfl <| shiftAdd 64 1984 rfl <|
  shiftAdd 32 2016 rfl <| shiftAdd 16 2032 rfl <| shiftAdd 8 2040 rfl <| shiftAdd 4 2044 rfl <| shiftAdd 2 2046 rfl <|
  shiftAdd 1 2047 rfl <| sitofp .f32 (extui 32 p natLt_1_32)

/-- The points kept, from the ball's points `p` and their running count `q`. -/
def sel (ns : BitVec 32) (p : IVec ⟨2, ![16, 2048]⟩ 1) (q : FVec Ideal ⟨2, ![16, 2048]⟩ .f32) : IVec ⟨2, ![16, 2048]⟩ 1 :=
  ori (andi p (cmpf .ole q (broadcast S16x2048 (Scalar.ofBits .f32 ns))))
    (andi (broadcastTo S16x2048 (cmpf .oeq (extractStridedSlice S16x1 ![0, 2047] q slices_S16x2048_o0_2047_S16x1)
        (broadcast S16x1 (Scalar.ofBits .f32 0x00000000#32))) broadcasts_S16x1_S16x2048)
      (cmpi .eq (iota .tc S16x2048 32 [1] iota_S16x2048_d1_w32) (broadcast S16x2048 2047#32)))

/-- The cloud relative to centre `s`. -/
def relPiece (v1 : FVec Ideal ⟨2, ![3, 2048]⟩ .f32) (v5 : FVec Ideal ⟨2, ![3, 16]⟩ .f32) (s : Fin 16) : FVec Ideal ⟨2, ![3, 2048]⟩ .f32 :=
  subf v1 (broadcastTo S3x2048 (extractStridedSlice S3x1 ![0, s.val] v5 (slices_col s)) broadcasts_S3x1_S3x2048)

/-- The sixteen relative clouds side by side. -/
def rel (v1 : FVec Ideal ⟨2, ![3, 2048]⟩ .f32) (v5 : FVec Ideal ⟨2, ![3, 16]⟩ .f32) : FVec Ideal ⟨2, ![3, 32768]⟩ .f32 :=
  concatenate ⟨2, ![3, 32768]⟩ 1 (List.ofFn fun s : Fin 16 => ⟨⟨2, ![3, 2048]⟩, relPiece v1 v5 s⟩) concats_rel

/-- One layer on every column. -/
def layerV {M K : ℕ} (W : FVec Ideal ⟨2, ![M, K]⟩ .bf16) (b : FVec Ideal ⟨2, ![M, 1]⟩ .f32) (h : FVec Ideal ⟨2, ![K, 32768]⟩ .f32) :
    FVec Ideal ⟨2, ![M, 32768]⟩ .f32 :=
  maximumf (addf (matmul (DotDims.plain M K 32768) none W (truncf .bf16 h bitsLt_bf16_f32) (constant ⟨2, ![M, 32768]⟩ .f32 0x00000000#32))
    (broadcastTo ⟨2, ![M, 32768]⟩ b (broadcasts_col M 32768))) (broadcast ⟨2, ![M, 32768]⟩ (Scalar.ofBits .f32 0x00000000#32))

/-- The masked maximum of centre `s`'s piece. -/
def colMax {M : ℕ} (p : IVec ⟨2, ![16, 2048]⟩ 1) (h : FVec Ideal ⟨2, ![M, 32768]⟩ .f32) (s : Fin 16) : FVec Ideal ⟨2, ![M, 1]⟩ .f32 :=
  shapeCast ⟨2, ![M, 1]⟩ (multiReduction .maximumf [1] ⟨1, ![M]⟩
    (select (broadcastTo ⟨2, ![M, 2048]⟩ (shapeCast ⟨2, ![1, 2048]⟩ (extractStridedSlice ⟨2, ![1, 2048]⟩ ![s.val, 0] p (slices_row s))
        (casts_same _)) (broadcasts_row M 2048))
      (extractStridedSlice ⟨2, ![M, 2048]⟩ ![0, 2048 * s.val] h (slices_piece M s))
      (broadcast ⟨2, ![M, 2048]⟩ (Scalar.ofBits .f32 0x00000000#32))) 0xFF800000#32 (reduces_row M) (.inl rfl) rfl) (casts_col M)

/-- The sixteen maxima side by side. -/
def cols {M : ℕ} (p : IVec ⟨2, ![16, 2048]⟩ 1) (h : FVec Ideal ⟨2, ![M, 32768]⟩ .f32) : FVec Ideal ⟨2, ![M, 16]⟩ .f32 :=
  concatenate ⟨2, ![M, 16]⟩ 1 (List.ofFn fun s : Fin 16 => ⟨⟨2, ![M, 1]⟩, colMax p h s⟩) (concats_cols M)

/-- The whole block: the maxima times the projection's slice. -/
def block {d₁ d₂ d₃ : ℕ} (r2 ns : BitVec 32) (x0 : FVec Ideal ⟨3, ![1, 3, 2048]⟩ .f32) (x1 : FVec Ideal ⟨4, ![1, 1, 16, 3]⟩ .f32)
    (x2 : FVec Ideal ⟨4, ![1, 1, 3, 16]⟩ .f32) (x3 : FVec Ideal ⟨2, ![d₁, 3]⟩ .f32) (x4 : FVec Ideal ⟨2, ![d₁, 1]⟩ .f32)
    (x5 : FVec Ideal ⟨2, ![d₂, d₁]⟩ .f32) (x6 : FVec Ideal ⟨2, ![d₂, 1]⟩ .f32) (x7 : FVec Ideal ⟨2, ![d₃, d₂]⟩ .f32)
    (x8 : FVec Ideal ⟨2, ![d₃, 1]⟩ .f32) (x9 : FVec Ideal ⟨2, ![1, d₃]⟩ .f32) : FVec Ideal ⟨4, ![1, 1, 1, 16]⟩ .f32 :=
  shapeCast S1x1x1x16 (matmul (DotDims.plain 1 d₃ 16) none (truncf .bf16 (shapeCast ⟨2, ![1, d₃]⟩ x9 (casts_same _)) bitsLt_bf16_f32)
    (truncf .bf16 (cols (sel ns (inb r2 x0 x1) (cum (inb r2 x0 x1)))
      (layerV (truncf .bf16 x7 bitsLt_bf16_f32) (shapeCast ⟨2, ![d₃, 1]⟩ x8 (casts_same _))
        (layerV (truncf .bf16 x5 bitsLt_bf16_f32) (shapeCast ⟨2, ![d₂, 1]⟩ x6 (casts_same _))
          (layerV (truncf .bf16 x3 bitsLt_bf16_f32) (shapeCast ⟨2, ![d₁, 1]⟩ x4 (casts_same _))
            (rel (shapeCast S3x2048 x0 shapeCasts_S1x3x2048_S3x2048) (shapeCast S3x16 x2 shapeCasts_S1x1x3x16_S3x16))))))
      bitsLt_bf16_f32) (constant S1x16 .f32 0x00000000#32)) shapeCasts_S1x16_S1x1x1x16

end Cert.Scale

end
-- ==== Proof.Layout.lean ====
module

public import Idealize.ShloMosaic.Lib.MatmulPlain
public import Idealize.ShloMosaic.Lib.Pipeline.Value
public import Idealize.ShloMosaic.Lib.IdealHost

/-!
Layout operations read at an index written by its coordinates, at any extents.
-/

@[expose] public section

noncomputable section

namespace Cert.Layout

open Idealize.ShloMosaic Idealize.ShloMosaic.ValueIdx

variable {α : Type}

/-- A column broadcast along the rows. -/
theorem bcol {M N : ℕ} (x : (⟨2, ![M, 1]⟩ : Shape).Idx → α) (h : Shape.Broadcasts ⟨2, ![M, 1]⟩ ⟨2, ![M, N]⟩) (r : Fin M) (c : Fin N) :
    broadcastTo ⟨2, ![M, N]⟩ x h (ix2 r c) = x (ix2 r 0) :=
  broadcastTo_apply x h _ _ fun a => by
    match a with
    | ⟨0, _⟩ =>
      show r.val = if M = 1 then 0 else r.val
      split
      · have := r.isLt; omega
      · rfl
    | ⟨1, _⟩ => rfl

/-- A row broadcast along the columns. -/
theorem brow {M N : ℕ} (x : (⟨2, ![1, N]⟩ : Shape).Idx → α) (h : Shape.Broadcasts ⟨2, ![1, N]⟩ ⟨2, ![M, N]⟩) (r : Fin M) (c : Fin N) :
    broadcastTo ⟨2, ![M, N]⟩ x h (ix2 r c) = x (ix2 0 c) :=
  broadcastTo_apply x h _ _ fun a => by
    match a with
    | ⟨0, _⟩ => rfl
    | ⟨1, _⟩ =>
      show c.val = if N = 1 then 0 else c.val
      split
      · have := c.isLt; omega
      · rfl

/-- A vector as a column. -/
theorem castCol {M : ℕ} (x : (⟨1, ![M]⟩ : Shape).Idx → α) (h : Shape.ShapeCasts ⟨1, ![M]⟩ ⟨2, ![M, 1]⟩) (r : Fin M) :
    shapeCast ⟨2, ![M, 1]⟩ x h (ix2 r 0) = x (ix1 r) :=
  shapeCast_apply x h _ _ (by rw [Shape.rowMajor_val_one, Shape.rowMajor_val_two]; show r.val = r.val * 1 + 0; omega)

/-- A vector as a row. -/
theorem castRow {N : ℕ} (x : (⟨1, ![N]⟩ : Shape).Idx → α) (h : Shape.ShapeCasts ⟨1, ![N]⟩ ⟨2, ![1, N]⟩) (c : Fin N) :
    shapeCast ⟨2, ![1, N]⟩ x h (ix2 0 c) = x (ix1 c) :=
  shapeCast_apply x h _ _ (by rw [Shape.rowMajor_val_one, Shape.rowMajor_val_two]; show c.val = 0 * N + c.val; omega)

/-- A cast to the same shape. -/
theorem castSame {S : Shape} (x : S.Idx → α) (h : S.ShapeCasts S) : shapeCast S x h = x :=
  funext fun j => shapeCast_apply x h j j rfl

/-- One leading unit axis dropped. -/
theorem cast32 {M N : ℕ} (x : (⟨3, ![1, M, N]⟩ : Shape).Idx → α) (h : Shape.ShapeCasts ⟨3, ![1, M, N]⟩ ⟨2, ![M, N]⟩) (r : Fin M) (c : Fin N) :
    shapeCast ⟨2, ![M, N]⟩ x h (ix2 r c) = x (ix3 0 r c) :=
  shapeCast_apply x h _ _ (by
    rw [Shape.rowMajor_val_three, Shape.rowMajor_val_two]; show (0 * M + r.val) * N + c.val = r.val * N + c.val; rw [Nat.zero_mul, Nat.zero_add])

/-- Two leading unit axes dropped. -/
theorem cast42 {M N : ℕ} (x : (⟨4, ![1, 1, M, N]⟩ : Shape).Idx → α) (h : Shape.ShapeCasts ⟨4, ![1, 1, M, N]⟩ ⟨2, ![M, N]⟩) (r : Fin M) (c : Fin N) :
    shapeCast ⟨2, ![M, N]⟩ x h (ix2 r c) = x (ix4 0 0 r c) :=
  shapeCast_apply x h _ _ (by
    rw [Shape.rowMajor_val_four, Shape.rowMajor_val_two]
    show ((0 * 1 + 0) * M + r.val) * N + c.val = r.val * N + c.val; simp)

/-- Two leading unit axes added. -/
theorem cast24 {M N : ℕ} (x : (⟨2, ![M, N]⟩ : Shape).Idx → α) (h : Shape.ShapeCasts ⟨2, ![M, N]⟩ ⟨4, ![1, 1, M, N]⟩) (r : Fin M) (c : Fin N) :
    shapeCast ⟨4, ![1, 1, M, N]⟩ x h (ix4 0 0 r c) = x (ix2 r c) :=
  shapeCast_apply x h _ _ (by
    rw [Shape.rowMajor_val_four, Shape.rowMajor_val_two]
    show r.val * N + c.val = ((0 * 1 + 0) * M + r.val) * N + c.val; simp)

/-- The reduced index of a row sum. -/
theorem lift_row {M N : ℕ} (h : Shape.Reduces ⟨2, ![M, N]⟩ [1] ⟨1, ![M]⟩) (r : Fin M) (k : Fin N) : h.lift (ix1 r) k = ix2 r k := by
  funext a; apply Fin.ext
  match a with
  | ⟨0, _⟩ => rfl
  | ⟨1, _⟩ => rfl

/-- The reduced index of a column sum. -/
theorem lift_col {M N : ℕ} (h : Shape.Reduces ⟨2, ![M, N]⟩ [0] ⟨1, ![N]⟩) (c : Fin N) (k : Fin M) : h.lift (ix1 c) k = ix2 k c := by
  funext a; apply Fin.ext
  match a with
  | ⟨0, _⟩ => rfl
  | ⟨1, _⟩ => rfl

/-- A middle unit axis dropped. -/
theorem castMid {M N : ℕ} (x : (⟨3, ![M, 1, N]⟩ : Shape).Idx → α) (h : Shape.ShapeCasts ⟨3, ![M, 1, N]⟩ ⟨2, ![M, N]⟩) (r : Fin M) (c : Fin N) :
    shapeCast ⟨2, ![M, N]⟩ x h (ix2 r c) = x (ix3 r 0 c) :=
  shapeCast_apply x h _ _ (by
    rw [Shape.rowMajor_val_three, Shape.rowMajor_val_two]; show (r.val * 1 + 0) * N + c.val = r.val * N + c.val; simp)

/-- A trailing unit axis added. -/
theorem castLast {M N : ℕ} (x : (⟨2, ![M, N]⟩ : Shape).Idx → α) (h : Shape.ShapeCasts ⟨2, ![M, N]⟩ ⟨3, ![M, N, 1]⟩) (r : Fin M) (c : Fin N) :
    shapeCast ⟨3, ![M, N, 1]⟩ x h (ix3 r c 0) = x (ix2 r c) :=
  shapeCast_apply x h _ _ (by
    rw [Shape.rowMajor_val_two, Shape.rowMajor_val_three]; show r.val * N + c.val = (r.val * N + c.val) * 1 + 0; simp)

/-- A trailing unit axis broadcast. -/
theorem bLast {M N K : ℕ} (x : (⟨3, ![M, N, 1]⟩ : Shape).Idx → α) (h : Shape.Broadcasts ⟨3, ![M, N, 1]⟩ ⟨3, ![M, N, K]⟩) (r : Fin M)
    (c : Fin N) (k : Fin K) : broadcastTo ⟨3, ![M, N, K]⟩ x h (ix3 r c k) = x (ix3 r c 0) :=
  broadcastTo_apply x h _ _ fun a => by
    match a with
    | ⟨0, _⟩ =>
      show r.val = if M = 1 then 0 else r.val
      split
      · have := r.isLt; omega
      · rfl
    | ⟨1, _⟩ =>
      show c.val = if N = 1 then 0 else c.val
      split
      · have := c.isLt; omega
      · rfl
    | ⟨2, _⟩ => rfl

/-- Two leading unit axes broadcast. -/
theorem bLead {M N K : ℕ} (x : (⟨3, ![1, 1, K]⟩ : Shape).Idx → α) (h : Shape.Broadcasts ⟨3, ![1, 1, K]⟩ ⟨3, ![M, N, K]⟩) (r : Fin M)
    (c : Fin N) (k : Fin K) : broadcastTo ⟨3, ![M, N, K]⟩ x h (ix3 r c k) = x (ix3 0 0 k) :=
  broadcastTo_apply x h _ _ fun a => by
    match a with
    | ⟨0, _⟩ => rfl
    | ⟨1, _⟩ => rfl
    | ⟨2, _⟩ =>
      show k.val = if K = 1 then 0 else k.val
      split
      · have := k.isLt; omega
      · rfl

end Cert.Layout

end
-- ==== Proof.ScaleValue.lean ====
module

public import proofs.«01_k».proof.Proof.ScaleBlock
public import proofs.«01_k».proof.Proof.Layout

/-!
The shared block read at an index: centre `s`'s entry is the projection's slice times the masked maxima of the network over
the cloud relative to that centre.
-/

@[expose] public section

set_option maxRecDepth 16384

noncomputable section

namespace Cert.Scale

open Idealize.ShloMosaic Idealize.ShloMosaic.ValueIdx Cert.KernelIdeal Cert.KernelIdeal.Gen Cert.Layout Cert.Spec
open Classical

/-- The constant −2 as both programs write it. -/
abbrev m2 : EReal := Ideal.ofBits .f32 0xC0000000#32

/-- A point lies in the ball. -/
def InBall (r2 : BitVec 32) (c x : Fin 3 → EReal) : Prop := ¬ Ideal.ofBits .f32 r2 < dist2 m2 c x

theorem distV_apply (v0 : FVec Ideal ⟨3, ![1, 3, 2048]⟩ .f32) (v2 : FVec Ideal ⟨4, ![1, 1, 16, 3]⟩ .f32) (s : Fin 16) (j : Pt) :
    distV v0 v2 (ix2 s j) = dist2 m2 (fun k => v2 (ix4 0 0 s k)) (fun k => v0 (ix3 0 k j)) := by
  unfold distV
  show (m2 * FloatOps.matmul (F := Ideal) (DotDims.plain 16 3 2048) none _ _ _ (ix2 s j) + broadcastTo S16x2048 _ _ (ix2 s j))
    + broadcastTo S16x2048 _ _ (ix2 s j) = _
  rw [Ideal.matmul_plain_apply, bcol, brow, castCol, castRow]
  unfold dist2
  refine congrArg₂ (· + ·) (congrArg₂ (· + ·) (congrArg (m2 * ·) ?_) ?_) ?_
  · show Ideal.ofBits .f32 0x00000000#32 + _ = _
    rw [Ideal.ofBits_zero_f32, zero_add]
    refine Finset.sum_congr rfl fun k _ => ?_
    show shapeCast S16x3 v2 _ (ix2 s k) * shapeCast S3x2048 v0 _ (ix2 k j) = _
    rw [cast42, cast32]
  · refine (Ideal.multiReduction_add_single _ _ _ _ _ _).trans (Finset.sum_congr rfl fun k _ => ?_)
    rw [show reduces_S16x3_S16.lift (ix1 s) k = ix2 s k from lift_row _ s k]
    exact congrArg₂ (· * ·) (cast42 v2 shapeCasts_S1x1x16x3_S16x3 s k) (cast42 v2 shapeCasts_S1x1x16x3_S16x3 s k)
  · refine (Ideal.multiReduction_add_single _ _ _ _ _ _).trans (Finset.sum_congr rfl fun k _ => ?_)
    rw [show reduces_S3x2048_S2048.lift (ix1 j) k = ix2 k j from lift_col _ j k]
    exact congrArg₂ (· * ·) (cast32 v0 shapeCasts_S1x3x2048_S3x2048 k j) (cast32 v0 shapeCasts_S1x3x2048_S3x2048 k j)

theorem inb_apply (r2 : BitVec 32) (v0 : FVec Ideal ⟨3, ![1, 3, 2048]⟩ .f32) (v2 : FVec Ideal ⟨4, ![1, 1, 16, 3]⟩ .f32) (s : Fin 16) (j : Pt) :
    inb r2 v0 v2 (ix2 s j) = if InBall r2 (fun k => v2 (ix4 0 0 s k)) (fun k => v0 (ix3 0 k j)) then 1#1 else 0#1 := by
  unfold inb InBall
  show (Ideal.cmp .ogt (distV v0 v2 (ix2 s j)) (Ideal.ofBits .f32 r2)) ^^^ 1#1 = _
  rw [distV_apply]
  unfold Ideal.cmp
  by_cases h : Ideal.ofBits .f32 r2 < dist2 m2 (fun k => v2 (ix4 0 0 s k)) (fun k => v0 (ix3 0 k j))
  · rw [if_neg (not_not.2 h)]; simp only [h, decide_true]; rfl
  · rw [if_pos h]; simp only [h, decide_false]; rfl

/-! ## The running count -/

theorem shiftAdd_apply (d k : ℕ) (h : d + k = 2048) (v : FVec Ideal ⟨2, ![16, 2048]⟩ .f32) (s : Fin 16) (j : Pt) :
    shiftAdd d k h v (ix2 s j) = v (ix2 s j) + if hd : d ≤ j.val then v (ix2 s ⟨j.val - d, by have := j.isLt; omega⟩) else 0 := by
  unfold shiftAdd
  show v (ix2 s j) + concatenate _ _ _ _ (ix2 s j) = _
  congr 1
  by_cases hd : d ≤ j.val
  · rw [dif_pos hd]
    have hj := j.isLt
    rw [concatenate_pair_apply_right (s₁ := ⟨2, ![16, d]⟩) (s₂ := ⟨2, ![16, k]⟩) (1 : Fin 2) _ _ _ (ix2 s j) rfl rfl (ix2 s (⟨j.val - d, by omega⟩ : Fin k))
      (fun b hb => by
        match b with
        | ⟨0, _⟩ => rfl
        | ⟨1, _⟩ => exact absurd rfl hb)
      (by show j.val - d + d = j.val; omega)]
    exact extractStridedSlice_apply _ _ _ _ _ fun a => by
      match a with
      | ⟨0, _⟩ => show s.val = 0 + s.val; omega
      | ⟨1, _⟩ => show j.val - d = 0 + (j.val - d); omega
  · rw [dif_neg hd]
    rw [concatenate_pair_apply_left (s₁ := ⟨2, ![16, d]⟩) (s₂ := ⟨2, ![16, k]⟩) (1 : Fin 2) _ _ _ (ix2 s j) rfl (ix2 s (⟨j.val, by omega⟩ : Fin d))
      (fun b => by
        match b with
        | ⟨0, _⟩ => rfl
        | ⟨1, _⟩ => rfl)]
    exact Ideal.ofBits_zero_f32

/-- One doubling takes a window of `d` to a window of `2 d`. -/
theorem shiftAdd_winSum (d k : ℕ) (h : d + k = 2048) (v : FVec Ideal ⟨2, ![16, 2048]⟩ .f32) (s : Fin 16) (f : ℕ → EReal)
    (hv : ∀ j : Pt, v (ix2 s j) = winSum f d j.val) (j : Pt) : shiftAdd d k h v (ix2 s j) = winSum f (d + d) j.val := by
  rw [shiftAdd_apply, hv, ← winSum_double]
  congr 1
  by_cases hd : d ≤ j.val
  · rw [dif_pos hd, if_pos hd, hv]
  · rw [dif_neg hd, if_neg hd]

/-- The running count of a mask is the count. -/
theorem cum_apply (p : IVec ⟨2, ![16, 2048]⟩ 1) (s : Fin 16) (P : Pt → Prop) (hp : ∀ j, p (ix2 s j) = if P j then 1#1 else 0#1) (j : Pt) :
    cum p (ix2 s j) = ((cnt P j : ℕ) : EReal) := by
  let f : ℕ → EReal := fun i => if h : i < 2048 then (if P ⟨i, h⟩ then 1 else 0) else 0
  have h1 : ∀ j : Pt, (sitofp .f32 (extui 32 p natLt_1_32) : FVec Ideal ⟨2, ![16, 2048]⟩ .f32) (ix2 s j) = winSum f 1 j.val := fun j => by
    rw [winSum_one]
    show (((((p (ix2 s j)).setWidth 32).toInt : ℝ)) : EReal) = _
    rw [hp j]
    show _ = if h : j.val < 2048 then (if P ⟨j.val, h⟩ then (1 : EReal) else 0) else 0
    rw [dif_pos j.isLt]
    by_cases hP : P j
    · rw [if_pos hP, if_pos hP]
      have e : ((1#1 : BitVec 1).setWidth 32).toInt = 1 := by decide
      rw [e]; norm_num
    · rw [if_neg hP, if_neg hP]
      have e : ((0#1 : BitVec 1).setWidth 32).toInt = 0 := by decide
      rw [e]; norm_num
  rw [← winSum_indicator P f (fun j => by
    show (if h : j.val < 2048 then (if P ⟨j.val, h⟩ then (1 : EReal) else 0) else 0) = _
    rw [dif_pos j.isLt])]
  unfold cum
  exact shiftAdd_winSum 1024 1024 rfl _ s f (shiftAdd_winSum 512 1536 rfl _ s f (shiftAdd_winSum 256 1792 rfl _ s f
    (shiftAdd_winSum 128 1920 rfl _ s f (shiftAdd_winSum 64 1984 rfl _ s f (shiftAdd_winSum 32 2016 rfl _ s f
    (shiftAdd_winSum 16 2032 rfl _ s f (shiftAdd_winSum 8 2040 rfl _ s f (shiftAdd_winSum 4 2044 rfl _ s f
    (shiftAdd_winSum 2 2046 rfl _ s f (shiftAdd_winSum 1 2047 rfl _ s f h1)))))))))) j

/-- The last point. -/
abbrev lastPt : Pt := ⟨2047, by omega⟩

theorem cmp_ole_nat (a b : ℕ) : Ideal.cmp .ole ((a : ℕ) : EReal) ((b : ℕ) : EReal) = if a ≤ b then 1#1 else 0#1 := by
  unfold Ideal.cmp
  by_cases h : a ≤ b
  · rw [if_pos h]; simp [h]
  · rw [if_neg h]; simp [h]

theorem cmp_oeq_zero (a : ℕ) : Ideal.cmp .oeq ((a : ℕ) : EReal) 0 = if a = 0 then 1#1 else 0#1 := by
  unfold Ideal.cmp
  by_cases h : a = 0
  · rw [if_pos h]; simp [h]
  · rw [if_neg h]; simp [h]

theorem cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · rw [if_pos h, h]; simp [IntOp.cmpi]
  · rw [if_neg h]
    have : BitVec.ofNat 32 a ≠ BitVec.ofNat 32 b := fun e => h (by
      have e' := congrArg BitVec.toNat e
      simp only [BitVec.toNat_ofNat] at e'
      rwa [Nat.mod_eq_of_lt ha, Nat.mod_eq_of_lt hb] at e')
    show BitVec.ofBool (BitVec.ofNat 32 a == BitVec.ofNat 32 b) = 0#1
    rw [beq_eq_false_iff_ne.2 this]; rfl

theorem and_or_ite (a b c d : Prop) [Decidable a] [Decidable b] [Decidable c] [Decidable d] [Decidable ((a ∧ b) ∨ (c ∧ d))] :
    ((if a then 1#1 else 0#1 : BitVec 1) &&& (if b then 1#1 else 0#1))
    ||| ((if c then 1#1 else 0#1) &&& (if d then 1#1 else 0#1)) = if (a ∧ b) ∨ (c ∧ d) then 1#1 else 0#1 := by
  by_cases a <;> by_cases b <;> by_cases c <;> by_cases d <;> simp [*]

theorem lastCol_apply (q : FVec Ideal ⟨2, ![16, 2048]⟩ .f32) (s : Fin 16) :
    extractStridedSlice S16x1 ![0, 2047] q slices_S16x2048_o0_2047_S16x1 (ix2 s 0) = q (ix2 s lastPt) :=
  extractStridedSlice_apply _ q _ _ _ fun a => by
    match a with
    | ⟨0, _⟩ => show s.val = 0 + s.val; omega
    | ⟨1, _⟩ => show 2047 = 2047 + 0; omega

/-- The mask of the points kept. -/
theorem sel_apply (nsW : BitVec 32) (ns : ℕ) (hns : Ideal.ofBits .f32 nsW = ((ns : ℕ) : EReal)) (p : IVec ⟨2, ![16, 2048]⟩ 1)
    (q : FVec Ideal ⟨2, ![16, 2048]⟩ .f32) (s : Fin 16)
    (P : Pt → Prop) (hp : ∀ j, p (ix2 s j) = if P j then 1#1 else 0#1) (hc : ∀ j, q (ix2 s j) = ((cnt P j : ℕ) : EReal)) (j : Pt) :
    sel nsW p q (ix2 s j) = if Chosen P ns j then 1#1 else 0#1 := by
  unfold sel
  show (p (ix2 s j) &&& Ideal.cmp .ole (q (ix2 s j)) (Ideal.ofBits .f32 nsW))
    ||| (broadcastTo S16x2048 _ _ (ix2 s j) &&& IntOp.cmpi .eq (iota .tc S16x2048 32 [1] iota_S16x2048_d1_w32 (ix2 s j)) (BitVec.ofNat 32 2047)) = _
  rw [bcol, iota_single_apply]
  show (p (ix2 s j) &&& Ideal.cmp .ole (q (ix2 s j)) (Ideal.ofBits .f32 nsW))
    ||| (Ideal.cmp .oeq (extractStridedSlice S16x1 ![0, 2047] q _ (ix2 s 0)) (Ideal.ofBits .f32 0x00000000#32) &&& IntOp.cmpi .eq (BitVec.ofNat 32 j.val) (BitVec.ofNat 32 2047)) = _
  rw [lastCol_apply, hc, hc, hp j, hns, Ideal.ofBits_zero_f32, cmp_ole_nat, cmp_oeq_zero,
    cmpi_eq_ofNat _ _ (by have := j.isLt; omega) (by omega), and_or_ite]
  exact if_congr (or_congr Iff.rfl (and_congr (cnt_last_eq_zero P) Iff.rfl)) rfl rfl

/-! ## The network on the relative clouds -/

/-- Where point `j` of centre `s`'s relative cloud stands. -/
abbrev pc (s : Fin 16) (j : Pt) : Fin 32768 := ⟨2048 * s.val + j.val, by have := s.isLt; have := j.isLt; omega⟩

theorem rel_apply (v1 : FVec Ideal ⟨2, ![3, 2048]⟩ .f32) (v5 : FVec Ideal ⟨2, ![3, 16]⟩ .f32) (c : Fin 3) (s : Fin 16) (j : Pt) :
    rel v1 v5 (ix2 c (pc s j)) = v1 (ix2 c j) - v5 (ix2 c s) := by
  have hj := j.isLt
  unfold rel
  refine (concatenate_ofFn_apply (t := ⟨2, ![3, 32768]⟩) (s₁ := ⟨2, ![3, 2048]⟩) (1 : Fin 2) (relPiece v1 v5) concats_rel rfl 2048 rfl
    (ix2 c (pc s j)) s (by show (2048 * s.val + j.val) / 2048 = s.val; omega) (ix2 c j)
    (by show j.val = (2048 * s.val + j.val) % 2048; omega)
    (fun b hb => by
      match b with
      | ⟨0, _⟩ => rfl
      | ⟨1, _⟩ => exact absurd rfl hb)).trans ?_
  unfold relPiece
  show v1 (ix2 c j) - broadcastTo S3x2048 _ _ (ix2 c j) = _
  rw [bcol]
  congr 1
  exact extractStridedSlice_apply _ _ _ _ _ fun a => by
    match a with
    | ⟨0, _⟩ => show c.val = 0 + c.val; omega
    | ⟨1, _⟩ => show s.val = s.val + 0; omega

theorem layerV_apply {M K : ℕ} (W : FVec Ideal ⟨2, ![M, K]⟩ .bf16) (b : FVec Ideal ⟨2, ![M, 1]⟩ .f32) (h : FVec Ideal ⟨2, ![K, 32768]⟩ .f32)
    (o : Fin M) (c : Fin 32768) :
    layerV W b h (ix2 o c) = layer (fun o k => W (ix2 o k)) (fun o => b (ix2 o 0)) (fun k => h (ix2 k c)) o := by
  unfold layerV layer
  show max (FloatOps.matmul (F := Ideal) (DotDims.plain M K 32768) none _ _ _ (ix2 o c) + broadcastTo ⟨2, ![M, 32768]⟩ _ _ (ix2 o c))
    (Ideal.ofBits .f32 0x00000000#32) = _
  rw [Ideal.matmul_plain_apply, bcol, Ideal.ofBits_zero_f32]
  refine congrArg (max · 0) (congrArg (· + b (ix2 o 0)) ?_)
  show Ideal.ofBits .f32 0x00000000#32 + _ = _
  rw [Ideal.ofBits_zero_f32, zero_add]
  rfl

theorem neg_inf_f32 : Ideal.ofBits .f32 0xFF800000#32 = ⊥ := by simp [Ideal.ofBits, Ideal.ieee]

theorem colMax_apply {M : ℕ} (p : IVec ⟨2, ![16, 2048]⟩ 1) (h : FVec Ideal ⟨2, ![M, 32768]⟩ .f32) (s : Fin 16) (o : Fin M) :
    colMax p h s (ix2 o 0) = (Finset.univ : Finset Pt).fold max ⊥ fun j => Scalar.select (p (ix2 s j)) (h (ix2 o (pc s j))) 0 := by
  unfold colMax
  rw [castCol]
  refine (Ideal.multiReduction_maximumf_single _ _ _ _ _ _).trans ?_
  show (Finset.univ : Finset Pt).fold max (Ideal.ofBits .f32 0xFF800000#32) _ = _
  rw [neg_inf_f32]
  refine Finset.fold_congr fun j _ => ?_
  show select _ _ _ ((reduces_row M).lift (ix1 o) j) = _
  rw [show (reduces_row M).lift (ix1 o) j = ix2 o j from lift_row _ o j]
  show Scalar.select (broadcastTo ⟨2, ![M, 2048]⟩ _ _ (ix2 o j)) (extractStridedSlice ⟨2, ![M, 2048]⟩ _ _ _ (ix2 o j)) (Ideal.ofBits .f32 0x00000000#32) = _
  rw [brow, castSame, Ideal.ofBits_zero_f32]
  congr 1
  · exact extractStridedSlice_apply _ _ _ _ _ fun a => by
      match a with
      | ⟨0, _⟩ => show s.val = s.val + 0; omega
      | ⟨1, _⟩ => show j.val = 0 + j.val; omega
  · exact extractStridedSlice_apply _ _ _ _ _ fun a => by
      match a with
      | ⟨0, _⟩ => show o.val = 0 + o.val; omega
      | ⟨1, _⟩ => rfl

theorem cols_apply {M : ℕ} (p : IVec ⟨2, ![16, 2048]⟩ 1) (h : FVec Ideal ⟨2, ![M, 32768]⟩ .f32) (o : Fin M) (s : Fin 16) :
    cols p h (ix2 o s) = colMax p h s (ix2 o 0) := by
  unfold cols
  exact concatenate_ofFn_unit_apply (t := ⟨2, ![M, 16]⟩) (s₁ := ⟨2, ![M, 1]⟩) (1 : Fin 2) (colMax p h) _ rfl rfl (ix2 o s) s rfl (ix2 o 0)
    (fun b hb => by
      match b with
      | ⟨0, _⟩ => rfl
      | ⟨1, _⟩ => exact absurd rfl hb)

/-- Centre `s`'s entry of the block. -/
theorem block_apply {d₁ d₂ d₃ : ℕ} (r2 nsW : BitVec 32) (ns : ℕ) (hns : Ideal.ofBits .f32 nsW = ((ns : ℕ) : EReal)) (h1 : 1 ≤ ns)
    (x0 : FVec Ideal ⟨3, ![1, 3, 2048]⟩ .f32) (x1 : FVec Ideal ⟨4, ![1, 1, 16, 3]⟩ .f32)
    (x2 : FVec Ideal ⟨4, ![1, 1, 3, 16]⟩ .f32) (x3 : FVec Ideal ⟨2, ![d₁, 3]⟩ .f32) (x4 : FVec Ideal ⟨2, ![d₁, 1]⟩ .f32)
    (x5 : FVec Ideal ⟨2, ![d₂, d₁]⟩ .f32) (x6 : FVec Ideal ⟨2, ![d₂, 1]⟩ .f32) (x7 : FVec Ideal ⟨2, ![d₃, d₂]⟩ .f32)
    (x8 : FVec Ideal ⟨2, ![d₃, 1]⟩ .f32) (x9 : FVec Ideal ⟨2, ![1, d₃]⟩ .f32) (s : Fin 16) :
    block r2 nsW x0 x1 x2 x3 x4 x5 x6 x7 x8 x9 (ix4 0 0 0 s)
      = ∑ o : Fin d₃, x9 (ix2 0 o) * feat (fun j => InBall r2 (fun k => x1 (ix4 0 0 s k)) (fun k => x0 (ix3 0 k j))) ns
          (fun j => mlp (fun o k => x3 (ix2 o k)) (fun o => x4 (ix2 o 0)) (fun o k => x5 (ix2 o k)) (fun o => x6 (ix2 o 0))
            (fun o k => x7 (ix2 o k)) (fun o => x8 (ix2 o 0)) (fun k => x0 (ix3 0 k j) - x2 (ix4 0 0 k s)) o) := by
  unfold block
  rw [cast24]
  show FloatOps.matmul (F := Ideal) (DotDims.plain 1 d₃ 16) none _ _ _ (ix2 0 s) = _
  rw [Ideal.matmul_plain_apply]
  show Ideal.ofBits .f32 0x00000000#32 + _ = _
  rw [Ideal.ofBits_zero_f32, zero_add]
  refine Finset.sum_congr rfl fun o _ => ?_
  show shapeCast ⟨2, ![1, d₃]⟩ x9 _ (ix2 0 o) * cols _ _ (ix2 o s) = _
  rw [castSame, cols_apply, colMax_apply, ← fold_select_eq_feat _ h1]
  · refine congrArg (x9 (ix2 0 o) * ·) (Finset.fold_congr fun j _ => ?_)
    rw [sel_apply nsW ns hns _ _ s _ (inb_apply r2 x0 x1 s) (cum_apply _ s _ (inb_apply r2 x0 x1 s)), layerV_apply, castSame, castSame, castSame]
    unfold Scalar.select mlp
    have e : (fun k => layerV (truncf .bf16 x5 bitsLt_bf16_f32) x6 (layerV (truncf .bf16 x3 bitsLt_bf16_f32) x4
          (rel (shapeCast S3x2048 x0 shapeCasts_S1x3x2048_S3x2048) (shapeCast S3x16 x2 shapeCasts_S1x1x3x16_S3x16))) (ix2 k (pc s j)))
        = layer (fun o k => x5 (ix2 o k)) (fun o => x6 (ix2 o 0)) (layer (fun o k => x3 (ix2 o k)) (fun o => x4 (ix2 o 0))
          (fun k => x0 (ix3 0 k j) - x2 (ix4 0 0 k s))) := funext fun k => by
      rw [layerV_apply]
      refine congrArg (fun v => layer (fun o k => x5 (ix2 o k)) (fun o => x6 (ix2 o 0)) v k) (funext fun i => ?_)
      rw [layerV_apply]
      refine congrArg (fun v => layer (fun o k => x3 (ix2 o k)) (fun o => x4 (ix2 o 0)) v i) (funext fun c => ?_)
      rw [rel_apply, cast32, cast42]
    rw [e]
    by_cases hC : Chosen (fun j => InBall r2 (fun k => x1 (ix4 0 0 s k)) (fun k => x0 (ix3 0 k j))) ns j
    · rw [if_pos hC, if_pos hC, if_pos (show (1#1 : BitVec 1) = 1 from rfl)]; rfl
    · rw [if_neg hC, if_neg hC, if_neg (by decide)]
  · exact fun j => layer_nonneg _ _ _ _

end Cert.Scale

end
-- ==== Proof.FpsValue.lean ====
module

public import proofs.«01_k».proof.Proof.FpsRegion
public import proofs.«01_k».proof.Proof.FpsSpec
public import proofs.«01_k».proof.Proof.ScaleValue
public import Idealize.ShloMosaic.Lib.SortNet.Extract
public import Idealize.ShloMosaic.Lib.Pointwise

/-!
The kernel's sampling loop computes the sampled points' coordinates.
-/

@[expose] public section

set_option maxRecDepth 16384

noncomputable section

namespace Cert.Fps

open Idealize.SL
open Idealize.ShloMosaic hiding ix1 ix2 ix3 ix4
open Idealize.ShloMosaic.ValueIdx Cert.KernelIdeal Cert.KernelIdeal.Gen Cert.Layout

/-- The word of a point's number. -/
abbrev wd (j : Pt) : BitVec 32 := BitVec.ofNat 32 j.val

theorem wd_inj {i j : Pt} (h : wd i = wd j) : i = j := by
  have := congrArg BitVec.toNat h
  simp only [BitVec.toNat_ofNat] at this
  exact Fin.ext (by omega)

theorem wd_toInt (j : Pt) : (wd j).toInt = j.val := by
  have := j.isLt
  rw [BitVec.toInt_eq_toNat_of_lt (by simp only [BitVec.toNat_ofNat]; omega)]
  simp only [BitVec.toNat_ofNat]
  omega

/-- A signed minimum over a family: a lower bound, and one of the family or the start. -/
theorem fold_minsi (f : Pt → BitVec 32) (b : BitVec 32) (S : Finset Pt) :
    (∀ k ∈ S, (S.fold IntOp.minsi b f).toInt ≤ (f k).toInt) ∧ (S.fold IntOp.minsi b f = b ∨ ∃ k ∈ S, S.fold IntOp.minsi b f = f k) := by
  classical
  induction S using Finset.induction_on with
  | empty => exact ⟨fun k hk => absurd hk (Finset.notMem_empty k), .inl rfl⟩
  | insert a S ha ih =>
    rw [Finset.fold_insert ha]
    constructor
    · intro k hk
      rw [SortNet.toInt_minsi]
      rcases Finset.mem_insert.1 hk with rfl | hk
      · exact min_le_left _ _
      · exact (min_le_right _ _).trans (ih.1 k hk)
    · have : IntOp.minsi (f a) (S.fold IntOp.minsi b f) = f a ∨ IntOp.minsi (f a) (S.fold IntOp.minsi b f) = S.fold IntOp.minsi b f := by
        unfold IntOp.minsi; split
        · exact .inl rfl
        · exact .inr rfl
      rcases this with h | h
      · exact .inr ⟨a, Finset.mem_insert_self _ _, h⟩
      · rw [h]
        rcases ih.2 with h' | ⟨k, hk, h'⟩
        · exact .inl h'
        · exact .inr ⟨k, Finset.mem_insert_of_mem hk, h'⟩

/-- The least index among those at the maximum is the first maximum. -/
theorem fold_first (d : Pt → EReal) (M : EReal) (hM : M = Finset.univ.sup d) (f : Pt → BitVec 32)
    (hf : ∀ j, f j = if d j = M then wd j else 2048#32) :
    (Finset.univ : Finset Pt).fold IntOp.minsi 2147483647#32 f = wd (firstMax d) := by
  obtain ⟨h1, h2⟩ := fold_minsi f 2147483647#32 Finset.univ
  have hs := firstMax_spec d
  have hmax : d (firstMax d) = M := by
    rw [hM]; exact le_antisymm (Finset.le_sup (f := d) (Finset.mem_univ _)) (Finset.sup_le fun i _ => hs.1 i)
  have hj := h1 (firstMax d) (Finset.mem_univ _)
  rw [hf (firstMax d), if_pos hmax, wd_toInt] at hj
  have hlt := (firstMax d).isLt
  rcases h2 with h2 | ⟨k, -, h2⟩
  · rw [h2] at hj
    exact absurd hj (by rw [show (2147483647#32 : BitVec 32).toInt = 2147483647 from by decide]; omega)
  · rw [h2] at hj ⊢
    rw [hf k] at hj ⊢
    by_cases hk : d k = M
    · rw [if_pos hk] at hj ⊢
      rw [wd_toInt] at hj
      have hkk : k = firstMax d := by
        rcases lt_trichotomy k (firstMax d) with h | h | h
        · exact absurd (hs.2 k h) (by rw [hk, hmax]; exact lt_irrefl _)
        · exact h
        · exact absurd (Fin.lt_def.1 h) (by omega)
      rw [hkk]
    · rw [if_neg hk] at hj
      exact absurd hj (by rw [show (2048#32 : BitVec 32).toInt = 2048 from by decide]; omega)

theorem iota_apply (b : Fin 16) (j : Pt) : iota .tc S16x2048 32 [1] iota_S16x2048_d1_w32 (ix2 b j) = wd j :=
  (iota_single_apply _ _ _ _ _ _).trans rfl

variable (v : FVec Ideal S16x1x2048 .f32)

/-- A coordinate of the newest choice: the sum over the cloud of that coordinate at the choice and nothing elsewhere. -/
theorem pick_apply (w : IVec S16x1 32) (b : Fin 16) (f : Pt) (hw : w (ix2 b 0) = wd f) : k0_pay8 (F := Ideal) v w (ix2 b 0) = v (ix3 b 0 f) := by
  unfold k0_pay8
  refine (castCol _ _ b).trans ?_
  refine (Ideal.multiReduction_add_single _ _ _ _ _ _).trans ?_
  refine (Finset.sum_eq_single (s := (Finset.univ : Finset Pt)) f ?_ ?_).trans ?_
  rotate_left 2
  · rw [show reduces_S16x2048_S16.lift (ix1 b) f = ix2 b f from lift_row _ b f]
    show Scalar.select (k0_pay7 w (ix2 b f)) (k0_pay1 v (ix2 b f)) (Ideal.ofBits .f32 0x00000000#32) = _
    have : k0_pay7 w (ix2 b f) = 1#1 := by
      show IntOp.cmpi .eq (iota .tc S16x2048 32 [1] iota_S16x2048_d1_w32 (ix2 b f)) (broadcastTo S16x2048 w broadcasts_S16x1_S16x2048 (ix2 b f)) = 1#1
      rw [show broadcastTo S16x2048 w broadcasts_S16x1_S16x2048 (ix2 b f) = w (ix2 b 0) from bcol _ _ b f, hw, iota_apply]
      simp [IntOp.cmpi]
    rw [this]
    exact castMid _ _ b f
  · intro j _ hj
    rw [show reduces_S16x2048_S16.lift (ix1 b) j = ix2 b j from lift_row _ b j]
    show Scalar.select (k0_pay7 w (ix2 b j)) (k0_pay1 v (ix2 b j)) (Ideal.ofBits .f32 0x00000000#32) = _
    have : k0_pay7 w (ix2 b j) = 0#1 := by
      show IntOp.cmpi .eq (iota .tc S16x2048 32 [1] iota_S16x2048_d1_w32 (ix2 b j)) (broadcastTo S16x2048 w broadcasts_S16x1_S16x2048 (ix2 b j)) = 0#1
      rw [show broadcastTo S16x2048 w broadcasts_S16x1_S16x2048 (ix2 b j) = w (ix2 b 0) from bcol _ _ b j, hw, iota_apply]
      have : wd j ≠ wd f := fun h => hj (wd_inj h)
      simp only [IntOp.cmpi, decide_eq_false this, beq_eq_false_iff_ne.2 this]
      rfl
    rw [this]
    exact Ideal.ofBits_zero_f32
  · intro h; exact absurd (Finset.mem_univ _) h

/-- The newest distances. -/
theorem dist_apply (v0 v2 v4 : FVec Ideal S16x1x2048 .f32) (d : FVec Ideal S16x2048 .f32) (w : IVec S16x1 32) (b : Fin 16) (f j : Pt)
    (hw : w (ix2 b 0) = wd f) (X : Fin 3 → Pt → EReal) (h0 : ∀ j, v0 (ix3 b 0 j) = X 0 j) (h2 : ∀ j, v2 (ix3 b 0 j) = X 1 j)
    (h4 : ∀ j, v4 (ix3 b 0 j) = X 2 j) : k0_pay12 (F := Ideal) v0 v2 v4 d w (ix2 b j) = min (d (ix2 b j)) (sqd X f j) := by
  have p (v : FVec Ideal S16x1x2048 .f32) : shapeCast S16x2048 v shapeCasts_S16x1x2048_S16x2048 (ix2 b j) = v (ix3 b 0 j) := castMid _ _ b j
  have q (v : FVec Ideal S16x1x2048 .f32) : broadcastTo S16x2048 (k0_pay8 (F := Ideal) v w) broadcasts_S16x1_S16x2048 (ix2 b j) = v (ix3 b 0 f) :=
    (bcol _ _ b j).trans (pick_apply v w b f hw)
  show min (d (ix2 b j)) (((shapeCast S16x2048 v0 shapeCasts_S16x1x2048_S16x2048 (ix2 b j)
        - broadcastTo S16x2048 (k0_pay8 (F := Ideal) v0 w) broadcasts_S16x1_S16x2048 (ix2 b j))
      * (shapeCast S16x2048 v0 shapeCasts_S16x1x2048_S16x2048 (ix2 b j)
        - broadcastTo S16x2048 (k0_pay8 (F := Ideal) v0 w) broadcasts_S16x1_S16x2048 (ix2 b j))
      + (shapeCast S16x2048 v2 shapeCasts_S16x1x2048_S16x2048 (ix2 b j)
        - broadcastTo S16x2048 (k0_pay8 (F := Ideal) v2 w) broadcasts_S16x1_S16x2048 (ix2 b j))
      * (shapeCast S16x2048 v2 shapeCasts_S16x1x2048_S16x2048 (ix2 b j)
        - broadcastTo S16x2048 (k0_pay8 (F := Ideal) v2 w) broadcasts_S16x1_S16x2048 (ix2 b j)))
      + (shapeCast S16x2048 v4 shapeCasts_S16x1x2048_S16x2048 (ix2 b j)
        - broadcastTo S16x2048 (k0_pay8 (F := Ideal) v4 w) broadcasts_S16x1_S16x2048 (ix2 b j))
      * (shapeCast S16x2048 v4 shapeCasts_S16x1x2048_S16x2048 (ix2 b j)
        - broadcastTo S16x2048 (k0_pay8 (F := Ideal) v4 w) broadcasts_S16x1_S16x2048 (ix2 b j))) = _
  rw [p, p, p, q, q, q, h0, h0, h2, h2, h4, h4]
  unfold sqd
  rw [Fin.sum_univ_three]

/-- The newest choice. -/
theorem choice_apply (v0 v2 v4 : FVec Ideal S16x1x2048 .f32) (d : FVec Ideal S16x2048 .f32) (w : IVec S16x1 32) (b : Fin 16)
    (D : Pt → EReal) (hD : ∀ j, k0_pay12 (F := Ideal) v0 v2 v4 d w (ix2 b j) = D j) :
    k0_pay13 (F := Ideal) v0 v2 v4 d w (ix2 b 0) = wd (firstMax D) := by
  unfold k0_pay13
  refine (castCol _ _ b).trans ?_
  refine (multiReductionI_eq_fold _ _ _ _ _ _).trans ?_
  refine (Shape.Reduces.fold_fiber_r2_a1 _ _ _ _ _).trans ?_
  refine fold_first D (Finset.univ.sup D) rfl _ fun j => ?_
  have hM : broadcastTo S16x2048 (shapeCast S16x1 (multiReduction (F := Ideal) .maximumf [1] S16 (k0_pay12 (F := Ideal) v0 v2 v4 d w) 0xFF800000#32
      reduces_S16x2048_S16 (.inl rfl) rfl) shapeCasts_S16_S16x1) broadcasts_S16x1_S16x2048 (ix2 b j) = Finset.univ.sup D := by
    refine (bcol _ _ b j).trans ((castCol _ _ b).trans ?_)
    refine (Ideal.multiReduction_maximumf_single _ _ _ _ _ _).trans ?_
    show Finset.fold max (Ideal.ofBits .f32 0xFF800000#32) _ (Finset.univ : Finset Pt) = _
    rw [Scale.neg_inf_f32]
    exact Finset.fold_congr fun j _ => (congrArg _ (lift_row _ b j)).trans (hD j)
  show Scalar.select (Ideal.cmp .oeq (k0_pay12 (F := Ideal) v0 v2 v4 d w (ix2 b j)) (broadcastTo S16x2048 (shapeCast S16x1 (multiReduction (F := Ideal)
      .maximumf [1] S16 (k0_pay12 (F := Ideal) v0 v2 v4 d w) 0xFF800000#32 reduces_S16x2048_S16 (.inl rfl) rfl) shapeCasts_S16_S16x1)
      broadcasts_S16x1_S16x2048 (ix2 b j))) (iota .tc S16x2048 32 [1] iota_S16x2048_d1_w32 (ix2 b j)) 2048#32 = _
  rw [hM, hD, iota_apply]
  unfold Ideal.cmp Scalar.select
  by_cases h : D j = Finset.univ.sup D
  · rw [if_pos h]; simp [h]
  · rw [if_neg h]; simp [h]

/-- The centres' array after trip `k`: the newest choice's coordinates in column `k`, the rest kept. -/
theorem cent_apply (v0 v2 v4 : FVec Ideal S16x1x2048 .f32) (k : Fin k0_t1_loop.trips) (w : IVec S16x1 32) (a : FVec Ideal S16x3x256 .f32)
    (b : Fin 16) (f : Pt) (hw : w (ix2 b 0) = wd f) (X : Fin 3 → Pt → EReal) (h0 : ∀ j, v0 (ix3 b 0 j) = X 0 j)
    (h2 : ∀ j, v2 (ix3 b 0 j) = X 1 j) (h4 : ∀ j, v4 (ix3 b 0 j) = X 2 j) (r : Fin 3) (n : Fin 256) :
    k0_pay11 (F := Ideal) v0 v2 v4 k w a (ix3 b r n) = if n.val = k.val then X r f else a (ix3 b r n) := by
  have hk : k.val < 256 := k.isLt
  have hc : concatenate S16x3 1 [⟨S16x1, k0_pay8 (F := Ideal) v0 w⟩, ⟨S16x1, k0_pay9 (F := Ideal) v2 w⟩, ⟨S16x1, k0_pay10 (F := Ideal) v4 w⟩]
      concatenates_S16x1_S16x1_S16x1_S16x3_d1 (ix2 b r) = X r f := by
    refine (concatenate_ofFn_unit_apply (t := ⟨2, ![16, 3]⟩) (s₁ := ⟨2, ![16, 1]⟩) (1 : Fin 2)
      ![k0_pay8 (F := Ideal) v0 w, k0_pay8 (F := Ideal) v2 w, k0_pay8 (F := Ideal) v4 w] concatenates_S16x1_S16x1_S16x1_S16x3_d1 rfl rfl
      (ix2 b r) r rfl (ix2 b 0) (fun a ha => by
        match a with
        | ⟨0, _⟩ => rfl
        | ⟨1, _⟩ => exact absurd rfl ha)).trans ?_
    match r with
    | ⟨0, _⟩ => exact (pick_apply v0 w b f hw).trans (h0 f)
    | ⟨1, _⟩ => exact (pick_apply v2 w b f hw).trans (h2 f)
    | ⟨2, _⟩ => exact (pick_apply v4 w b f hw).trans (h4 f)
  have hm : broadcastTo S16x3x256 (shapeCast S1x1x256 (cmpi .eq (iota .tc S1x1x256 32 [2] iota_S1x1x256_d2_w32)
      (broadcast S1x1x256 (Scf.iv 0#32 1#32 k))) shapeCasts_S1x1x256_S1x1x256) broadcasts_S1x1x256_S16x3x256 (ix3 b r n)
      = if n.val = k.val then 1#1 else 0#1 := by
    refine (bLead _ _ b r n).trans ?_
    rw [castSame]
    show IntOp.cmpi .eq (iota .tc S1x1x256 32 [2] iota_S1x1x256_d2_w32 (ix3 0 0 n)) (Scf.iv 0#32 1#32 k) = _
    rw [show iota .tc S1x1x256 32 [2] iota_S1x1x256_d2_w32 (ix3 0 0 n) = BitVec.ofNat 32 n.val from (iota_single_apply _ _ _ _ _ _).trans rfl]
    have hiv : Scf.iv 0#32 1#32 k = BitVec.ofNat 32 k.val := by simp [Scf.iv]
    rw [hiv]
    have hn := n.isLt
    by_cases h : n.val = k.val
    · rw [if_pos h, h]; simp [IntOp.cmpi]
    · rw [if_neg h]
      have : BitVec.ofNat 32 n.val ≠ BitVec.ofNat 32 k.val := fun e => h (by
        have := congrArg BitVec.toNat e
        simp only [BitVec.toNat_ofNat] at this
        omega)
      simp only [IntOp.cmpi, beq_eq_false_iff_ne.2 this]
      rfl
  show Scalar.select (broadcastTo S16x3x256 (shapeCast S1x1x256 (cmpi .eq (iota .tc S1x1x256 32 [2] iota_S1x1x256_d2_w32)
      (broadcast S1x1x256 (Scf.iv 0#32 1#32 k))) shapeCasts_S1x1x256_S1x1x256) broadcasts_S1x1x256_S16x3x256 (ix3 b r n))
    (broadcastTo S16x3x256 (shapeCast S16x3x1 (shapeCast S16x3x1 (concatenate S16x3 1 [⟨S16x1, k0_pay8 (F := Ideal) v0 w⟩,
      ⟨S16x1, k0_pay9 (F := Ideal) v2 w⟩, ⟨S16x1, k0_pay10 (F := Ideal) v4 w⟩] concatenates_S16x1_S16x1_S16x1_S16x3_d1)
      shapeCasts_S16x3_S16x3x1) shapeCasts_S16x3x1_S16x3x1) broadcasts_S16x3x1_S16x3x256 (ix3 b r n)) (a (ix3 b r n)) = _
  rw [hm, castSame, show broadcastTo S16x3x256 (shapeCast S16x3x1 (concatenate S16x3 1 [⟨S16x1, k0_pay8 (F := Ideal) v0 w⟩,
      ⟨S16x1, k0_pay9 (F := Ideal) v2 w⟩, ⟨S16x1, k0_pay10 (F := Ideal) v4 w⟩] concatenates_S16x1_S16x1_S16x1_S16x3_d1)
      shapeCasts_S16x3_S16x3x1) broadcasts_S16x3x1_S16x3x256 (ix3 b r n) = X r f from (bLast _ _ b r n).trans ((castLast _ _ b r).trans hc)]
  unfold Scalar.select
  by_cases h : n.val = k.val
  · rw [if_pos h, if_pos h]; rfl
  · rw [if_neg h, if_neg h]; rfl

/-- The loop's centres: column `n` holds the `n`-th choice's coordinates. -/
theorem loop_apply (x : FVec Ideal S16x3x2048 .f32) (b : Fin 16) (r : Fin 3) (n : Fin 256) :
    (loop (row 0 x) (row 1 x) (row 2 x)).2.2 (ix3 b r n) = x (ix3 b r (far (fun r j => x (ix3 b r j)) n.val)) := by
  unfold loop
  rw [Scf.fold_eq]
  have h := foldl_finRange k0_t1_loop.trips
    (fun k (s : FVec Ideal S16x2048 .f32 × IVec S16x1 32 × FVec Ideal S16x3x256 .f32) =>
      (∀ j, s.1 (ix2 b j) = (state (fun r j => x (ix3 b r j)) k).1 j) ∧ s.2.1 (ix2 b 0) = wd (state (fun r j => x (ix3 b r j)) k).2
        ∧ ∀ (r : Fin 3) (n : Fin 256), n.val < k → s.2.2 (ix3 b r n) = x (ix3 b r (far (fun r j => x (ix3 b r j)) n.val)))
    (fun k a => (k0_pay12 (row 0 x) (row 1 x) (row 2 x) a.1 a.2.1, k0_pay13 (row 0 x) (row 1 x) (row 2 x) a.1 a.2.1,
      k0_pay11 (row 0 x) (row 1 x) (row 2 x) k a.2.1 a.2.2)) (k0_pay4 (F := Ideal), k0_pay5, k0_pay6 (F := Ideal))
    ⟨fun j => rfl, rfl, fun r n hn => absurd hn (Nat.not_lt_zero _)⟩
    (fun k a ⟨ha, hf, hc⟩ => by
      have hd : ∀ j, k0_pay12 (F := Ideal) (row 0 x) (row 1 x) (row 2 x) a.1 a.2.1 (ix2 b j) = (state (fun r j => x (ix3 b r j)) (k.val + 1)).1 j :=
        fun j => (dist_apply _ _ _ a.1 a.2.1 b _ j hf (fun r j => x (ix3 b r j)) (fun _ => rfl) (fun _ => rfl) (fun _ => rfl)).trans
          (by rw [ha j, state_fst])
      have hw : k0_pay13 (F := Ideal) (row 0 x) (row 1 x) (row 2 x) a.1 a.2.1 (ix2 b 0) = wd (firstMax (state (fun r j => x (ix3 b r j)) (k.val + 1)).1) :=
        choice_apply _ _ _ a.1 a.2.1 b _ hd
      rw [← state_snd] at hw
      refine ⟨hd, ?_, fun r n hn => ?_⟩
      · dsimp only
        exact hw
      refine (cent_apply _ _ _ k a.2.1 a.2.2 b _ hf (fun r j => x (ix3 b r j)) (fun _ => rfl) (fun _ => rfl) (fun _ => rfl) r n).trans ?_
      by_cases h : n.val = k.val
      · rw [if_pos h, h]; rfl
      · rw [if_neg h]; exact hc r n (by omega))
  have ht : k0_t1_loop.trips = 256 := by decide
  exact h.2.2 r n (lt_of_lt_of_eq n.isLt ht.symm)

end Cert.Fps

end
-- ==== Proof.ScaleOut.lean ====
module

public import proofs.«01_k».proof.Proof.ScaleBlock

/-!
Each scale call's block is the shared block at that scale's widths, radius and count.
-/

@[expose] public section

set_option maxRecDepth 16384

noncomputable section

namespace Cert.Scale

open Idealize.ShloMosaic Cert.KernelIdeal Cert.KernelIdeal.Gen

set_option maxHeartbeats 2000000

theorem out1_eq (x0 : Vec Ideal S1x3x2048 .f32) (x1 : Vec Ideal S1x1x16x3 .f32) (x2 : Vec Ideal S1x1x3x16 .f32) (x3 : Vec Ideal S16x3 .f32)
    (x4 : Vec Ideal S16x1 .f32) (x5 : Vec Ideal S16x16 .f32) (x6 : Vec Ideal S16x1 .f32) (x7 : Vec Ideal S32x16 .f32)
    (x8 : Vec Ideal S32x1 .f32) (x9 : Vec Ideal S1x32 .f32) :
    out1_10 x0 x1 x2 x3 x4 x5 x6 x7 x8 x9 = View.canon [⟨r1_9, block 0x3C23D70A#32 0x41800000#32 (View.ld x0 r1_0) (View.ld x1 r1_1)
      (View.ld x2 r1_2) (View.ld x3 r1_3) (View.ld x4 r1_6) (View.ld x5 r1_4) (View.ld x6 r1_6) (View.ld x7 r1_5)
      (View.ld x8 r1_7) (View.ld x9 r1_8)⟩] := by
  unfold_out out1_10
  rfl

theorem out2_eq (x0 : Vec Ideal S1x3x2048 .f32) (x1 : Vec Ideal S1x1x16x3 .f32) (x2 : Vec Ideal S1x1x3x16 .f32) (x3 : Vec Ideal S32x3 .f32)
    (x4 : Vec Ideal S32x1 .f32) (x5 : Vec Ideal S32x32 .f32) (x6 : Vec Ideal S32x1 .f32) (x7 : Vec Ideal S64x32 .f32)
    (x8 : Vec Ideal S64x1 .f32) (x9 : Vec Ideal S1x64 .f32) :
    out2_10 x0 x1 x2 x3 x4 x5 x6 x7 x8 x9 = View.canon [⟨r2_9, block 0x3D23D70A#32 0x42000000#32 (View.ld x0 r2_0) (View.ld x1 r2_1)
      (View.ld x2 r2_2) (View.ld x3 r2_3) (View.ld x4 r2_6) (View.ld x5 r2_4) (View.ld x6 r2_6) (View.ld x7 r2_5)
      (View.ld x8 r2_7) (View.ld x9 r2_8)⟩] := by
  unfold_out out2_10
  rfl

theorem out3_eq (x0 : Vec Ideal S1x3x2048 .f32) (x1 : Vec Ideal S1x1x16x3 .f32) (x2 : Vec Ideal S1x1x3x16 .f32) (x3 : Vec Ideal S32x3 .f32)
    (x4 : Vec Ideal S32x1 .f32) (x5 : Vec Ideal S48x32 .f32) (x6 : Vec Ideal S48x1 .f32) (x7 : Vec Ideal S64x48 .f32)
    (x8 : Vec Ideal S64x1 .f32) (x9 : Vec Ideal S1x64 .f32) :
    out3_10 x0 x1 x2 x3 x4 x5 x6 x7 x8 x9 = View.canon [⟨r3_10, block 0x3E23D70A#32 0x43000000#32 (View.ld x0 r3_0) (View.ld x1 r3_1)
      (View.ld x2 r3_2) (View.ld x3 r3_3) (View.ld x4 r3_6) (View.ld x5 r3_4) (View.ld x6 r3_7) (View.ld x7 r3_5)
      (View.ld x8 r3_8) (View.ld x9 r3_9)⟩] := by
  unfold_out out3_10
  rfl

end Cert.Scale

end
-- ==== Proof.ScaleArray.lean ====
module

public import proofs.«01_k».proof.Proof.ScaleOut
public import proofs.«01_k».proof.Proof.ScaleValue
public import Idealize.ShloMosaic.Lib.Pipeline.ValueKit

/-!
What the three scale regions leave in their output arrays, as one function of the arrays they read.
-/

@[expose] public section

set_option maxRecDepth 16384

noncomputable section

namespace Cert.Scale

open Idealize.SL
open Idealize.ShloMosaic hiding ix1 ix2 ix3 ix4
open Idealize.ShloMosaic.ValueIdx Cert.KernelIdeal Cert.KernelIdeal.Gen Cert.Layout Cert.Spec

variable {d₁ d₂ d₃ : ℕ}

/-- One scale's contribution for every centre, from the arrays the region reads. -/
def scaleArr (r2 : BitVec 32) (ns : ℕ) (xt : FVec Ideal ⟨3, ![16, 3, 2048]⟩ .f32) (cc : FVec Ideal ⟨4, ![16, 16, 16, 3]⟩ .f32)
    (c2 : FVec Ideal ⟨4, ![16, 16, 3, 16]⟩ .f32) (w₁ : FVec Ideal ⟨2, ![d₁, 3]⟩ .f32) (b₁ : FVec Ideal ⟨2, ![d₁, 1]⟩ .f32)
    (w₂ : FVec Ideal ⟨2, ![d₂, d₁]⟩ .f32) (b₂ : FVec Ideal ⟨2, ![d₂, 1]⟩ .f32) (w₃ : FVec Ideal ⟨2, ![d₃, d₂]⟩ .f32)
    (b₃ : FVec Ideal ⟨2, ![d₃, 1]⟩ .f32) (wp : FVec Ideal ⟨2, ![1, d₃]⟩ .f32) : FVec Ideal ⟨4, ![16, 16, 1, 16]⟩ .f32 := fun i =>
  ∑ o : Fin d₃, wp (ix2 0 o) * feat (fun j => InBall r2 (fun k => cc (ix4 (i 0) (i 1) (i 3) k)) (fun k => xt (ix3 (i 0) k j))) ns
    (fun j => mlp (fun o k => w₁ (ix2 o k)) (fun o => b₁ (ix2 o 0)) (fun o k => w₂ (ix2 o k)) (fun o => b₂ (ix2 o 0))
      (fun o k => w₃ (ix2 o k)) (fun o => b₃ (ix2 o 0)) (fun k => xt (ix3 (i 0) k j) - c2 (ix4 (i 0) (i 1) k (i 3))) o)

theorem ns1 : Ideal.ofBits .f32 0x41800000#32 = ((16 : ℕ) : EReal) := by
  rw [show (((16 : ℕ) : EReal)) = ((16 : ℝ) : EReal) by norm_cast]
  simp [Ideal.ofBits, Ideal.ieee, -EReal.coe_mul]; norm_num

theorem scaleArr_apply (r2 : BitVec 32) (ns : ℕ) (xt : FVec Ideal ⟨3, ![16, 3, 2048]⟩ .f32) (cc : FVec Ideal ⟨4, ![16, 16, 16, 3]⟩ .f32)
    (c2 : FVec Ideal ⟨4, ![16, 16, 3, 16]⟩ .f32) (w₁ : FVec Ideal ⟨2, ![d₁, 3]⟩ .f32) (b₁ : FVec Ideal ⟨2, ![d₁, 1]⟩ .f32)
    (w₂ : FVec Ideal ⟨2, ![d₂, d₁]⟩ .f32) (b₂ : FVec Ideal ⟨2, ![d₂, 1]⟩ .f32) (w₃ : FVec Ideal ⟨2, ![d₃, d₂]⟩ .f32)
    (b₃ : FVec Ideal ⟨2, ![d₃, 1]⟩ .f32) (wp : FVec Ideal ⟨2, ![1, d₃]⟩ .f32) (b t s : Fin 16) :
    scaleArr r2 ns xt cc c2 w₁ b₁ w₂ b₂ w₃ b₃ wp (ix4 b t 0 s)
      = ∑ o : Fin d₃, wp (ix2 0 o) * feat (fun j => InBall r2 (fun k => cc (ix4 b t s k)) (fun k => xt (ix3 b k j))) ns
          (fun j => mlp (fun o k => w₁ (ix2 o k)) (fun o => b₁ (ix2 o 0)) (fun o k => w₂ (ix2 o k)) (fun o => b₂ (ix2 o 0))
            (fun o k => w₃ (ix2 o k)) (fun o => b₃ (ix2 o 0)) (fun k => xt (ix3 b k j) - c2 (ix4 b t k s)) o) := rfl

/-- One block of `scaleArr`: the shared block on blocks that agree with the arrays. -/
theorem block_eq_scaleArr (r2 nsW : BitVec 32) (ns : ℕ) (hns : Ideal.ofBits .f32 nsW = ((ns : ℕ) : EReal)) (h1 : 1 ≤ ns)
    (x0 : FVec Ideal ⟨3, ![1, 3, 2048]⟩ .f32) (x1 : FVec Ideal ⟨4, ![1, 1, 16, 3]⟩ .f32)
    (x2 : FVec Ideal ⟨4, ![1, 1, 3, 16]⟩ .f32) (xt : FVec Ideal ⟨3, ![16, 3, 2048]⟩ .f32) (cc : FVec Ideal ⟨4, ![16, 16, 16, 3]⟩ .f32)
    (c2 : FVec Ideal ⟨4, ![16, 16, 3, 16]⟩ .f32) (w₁ x3 : FVec Ideal ⟨2, ![d₁, 3]⟩ .f32) (b₁ x4 : FVec Ideal ⟨2, ![d₁, 1]⟩ .f32)
    (w₂ x5 : FVec Ideal ⟨2, ![d₂, d₁]⟩ .f32) (b₂ x6 : FVec Ideal ⟨2, ![d₂, 1]⟩ .f32) (w₃ x7 : FVec Ideal ⟨2, ![d₃, d₂]⟩ .f32)
    (b₃ x8 : FVec Ideal ⟨2, ![d₃, 1]⟩ .f32) (wp x9 : FVec Ideal ⟨2, ![1, d₃]⟩ .f32) (b t : Fin 16)
    (h0 : ∀ k j, x0 (ix3 0 k j) = xt (ix3 b k j)) (hc : ∀ s k, x1 (ix4 0 0 s k) = cc (ix4 b t s k))
    (hd : ∀ s k, x2 (ix4 0 0 k s) = c2 (ix4 b t k s)) (h3 : x3 = w₁) (h4 : x4 = b₁) (h5 : x5 = w₂) (h6 : x6 = b₂) (h7 : x7 = w₃)
    (h8 : x8 = b₃) (h9 : x9 = wp) (y : (⟨4, ![1, 1, 1, 16]⟩ : Shape).Idx) (i : (⟨4, ![16, 16, 1, 16]⟩ : Shape).Idx)
    (i0 : (i 0).val = b.val) (i1 : (i 1).val = t.val) (i3 : (i 3).val = (y 3).val) :
    block r2 nsW x0 x1 x2 x3 x4 x5 x6 x7 x8 x9 y = scaleArr r2 ns xt cc c2 w₁ b₁ w₂ b₂ w₃ b₃ wp i := by
  subst h3 h4 h5 h6 h7 h8 h9
  obtain ⟨s, hs⟩ : ∃ s : Fin 16, s.val = (y 3).val := ⟨⟨(y 3).val, (y 3).isLt⟩, rfl⟩
  have hy : y = ix4 0 0 0 s := by
    funext a; apply Fin.ext
    match a with
    | ⟨0, _⟩ => have := (y 0).isLt; change (y 0).val < 1 at this; show (y 0).val = 0; omega
    | ⟨1, _⟩ => have := (y 1).isLt; change (y 1).val < 1 at this; show (y 1).val = 0; omega
    | ⟨2, _⟩ => have := (y 2).isLt; change (y 2).val < 1 at this; show (y 2).val = 0; omega
    | ⟨3, _⟩ => exact hs.symm
  have hi : i = ix4 b t 0 s := by
    funext a; apply Fin.ext
    match a with
    | ⟨0, _⟩ => exact i0
    | ⟨1, _⟩ => exact i1
    | ⟨2, _⟩ => have := (i 2).isLt; change (i 2).val < 1 at this; show (i 2).val = 0; omega
    | ⟨3, _⟩ => exact i3.trans hs.symm
  rw [hy, hi, block_apply r2 nsW ns hns h1, scaleArr_apply]
  simp only [h0, hc, hd]

theorem ns2 : Ideal.ofBits .f32 0x42000000#32 = ((32 : ℕ) : EReal) := by
  rw [show (((32 : ℕ) : EReal)) = ((32 : ℝ) : EReal) by norm_cast]
  simp [Ideal.ofBits, Ideal.ieee, -EReal.coe_mul]; norm_num

theorem ns3 : Ideal.ofBits .f32 0x43000000#32 = ((128 : ℕ) : EReal) := by
  rw [show (((128 : ℕ) : EReal)) = ((128 : ℝ) : EReal) by norm_cast]
  simp [Ideal.ofBits, Ideal.ieee, -EReal.coe_mul]; norm_num

variable {V : (c : Dev nD) → (b : Ref sig .tc) → Buf (Elt Ideal) ((Dev.tc c : Thread nD τ).loc b)}

set_option maxHeartbeats 4000000 in
/-- Scale 1's array after its region. -/
theorem arr1 (c : Dev nD) : (dat1 (F := Ideal) V c).arrAt 10 cfg1.N
    = scaleArr 0x3C23D70A#32 16 (V c main_v0) (V c main_v3) (V c main_v5) (V c main_arg1) (V c main_v8) (V c main_arg3) (V c main_v9) (V c main_arg5) (V c main_v10) (V c main_v7) := by
  have e0 : ∀ t : Fin cfg1.N, win1_0.index t = ![(grid1.coords t 0).val, 0, 0] := (by decide +kernel : ∀ t : Fin grid1.N, _)
  have e1 : ∀ t : Fin cfg1.N, win1_1.index t = ![(grid1.coords t 0).val, (grid1.coords t 1).val, 0, 0] :=
    (by decide +kernel : ∀ t : Fin grid1.N, _)
  have e2 : ∀ t : Fin cfg1.N, win1_2.index t = ![(grid1.coords t 0).val, (grid1.coords t 1).val, 0, 0] :=
    (by decide +kernel : ∀ t : Fin grid1.N, _)
  have eo : ∀ t : Fin cfg1.N, win1_10.index t = ![(grid1.coords t 0).val, (grid1.coords t 1).val, 0, 0] :=
    (by decide +kernel : ∀ t : Fin grid1.N, _)
  have ew : ∀ t : Fin cfg1.N, win1_3.index t = ![0, 0] ∧ win1_4.index t = ![0, 0] ∧ win1_5.index t = ![0, 0] ∧ win1_6.index t = ![0, 0]
      ∧ win1_7.index t = ![0, 0] ∧ win1_8.index t = ![0, 0] ∧ win1_9.index t = ![0, 0] := (by decide +kernel : ∀ t : Fin grid1.N, _)
  refine (dat1 V c).arrAt_eq_of_covers 10 _ (by decide +kernel) fun t hf y => ?_
  obtain ⟨e3, e4, e5, e6, e7, e8, e9⟩ := ew t
  blk_simp
  rw [after1_10, out1_eq]
  frame_out
  refine block_eq_scaleArr _ _ 16 ns1 (by norm_num) _ _ _ _ _ _ _ _ _ _ _ _ _ _ _ _ _ _ _ _ (grid1.coords t 0) (grid1.coords t 1)
    (fun k j => ?_) (fun s k => ?_) (fun s k => ?_) (funext fun x => ?_) (funext fun x => ?_) (funext fun x => ?_)
    (funext fun x => ?_) (funext fun x => ?_) (funext fun x => ?_) (funext fun x => ?_) _ _ ?_ ?_ ?_
  · blk_simp [iblk1]; refine congrArg (V c main_v0) ?_; blk_ext [e0]
  · blk_simp [iblk1]; refine congrArg (V c main_v3) ?_; blk_ext [e1]
  · blk_simp [iblk1]; refine congrArg (V c main_v5) ?_; blk_ext [e2]
  · blk_simp [iblk1]; refine congrArg (V c main_arg1) ?_; blk_ext [e3]
  · blk_simp [iblk1]; refine congrArg (V c main_v8) ?_; blk_ext [e4]
  · blk_simp [iblk1]; refine congrArg (V c main_arg3) ?_; blk_ext [e5]
  · blk_simp [iblk1]; refine congrArg (V c main_v9) ?_; blk_ext [e6]
  · blk_simp [iblk1]; refine congrArg (V c main_arg5) ?_; blk_ext [e7]
  · blk_simp [iblk1]; refine congrArg (V c main_v10) ?_; blk_ext [e8]
  · blk_simp [iblk1]; refine congrArg (V c main_v7) ?_; blk_ext [e9]
  all_goals (blk_simp [eo]; try rfl)

set_option maxHeartbeats 4000000 in
/-- Scale 2's array after its region. -/
theorem arr2 (c : Dev nD) : (dat2 (F := Ideal) V c).arrAt 10 cfg2.N
    = scaleArr 0x3D23D70A#32 32 (V c main_v0) (V c main_v3) (V c main_v5) (V c main_arg7) (V c main_v14) (V c main_arg9) (V c main_v15) (V c main_arg11) (V c main_v16) (V c main_v13) := by
  have e0 : ∀ t : Fin cfg2.N, win2_0.index t = ![(grid2.coords t 0).val, 0, 0] := (by decide +kernel : ∀ t : Fin grid2.N, _)
  have e1 : ∀ t : Fin cfg2.N, win2_1.index t = ![(grid2.coords t 0).val, (grid2.coords t 1).val, 0, 0] :=
    (by decide +kernel : ∀ t : Fin grid2.N, _)
  have e2 : ∀ t : Fin cfg2.N, win2_2.index t = ![(grid2.coords t 0).val, (grid2.coords t 1).val, 0, 0] :=
    (by decide +kernel : ∀ t : Fin grid2.N, _)
  have eo : ∀ t : Fin cfg2.N, win2_10.index t = ![(grid2.coords t 0).val, (grid2.coords t 1).val, 0, 0] :=
    (by decide +kernel : ∀ t : Fin grid2.N, _)
  have ew : ∀ t : Fin cfg2.N, win2_3.index t = ![0, 0] ∧ win2_4.index t = ![0, 0] ∧ win2_5.index t = ![0, 0] ∧ win2_6.index t = ![0, 0]
      ∧ win2_7.index t = ![0, 0] ∧ win2_8.index t = ![0, 0] ∧ win2_9.index t = ![0, 0] := (by decide +kernel : ∀ t : Fin grid2.N, _)
  refine (dat2 V c).arrAt_eq_of_covers 10 _ (by decide +kernel) fun t hf y => ?_
  obtain ⟨e3, e4, e5, e6, e7, e8, e9⟩ := ew t
  blk_simp
  rw [after2_10, out2_eq]
  frame_out
  refine block_eq_scaleArr _ _ 32 ns2 (by norm_num) _ _ _ _ _ _ _ _ _ _ _ _ _ _ _ _ _ _ _ _ (grid2.coords t 0) (grid2.coords t 1)
    (fun k j => ?_) (fun s k => ?_) (fun s k => ?_) (funext fun x => ?_) (funext fun x => ?_) (funext fun x => ?_)
    (funext fun x => ?_) (funext fun x => ?_) (funext fun x => ?_) (funext fun x => ?_) _ _ ?_ ?_ ?_
  · blk_simp [iblk2]; refine congrArg (V c main_v0) ?_; blk_ext [e0]
  · blk_simp [iblk2]; refine congrArg (V c main_v3) ?_; blk_ext [e1]
  · blk_simp [iblk2]; refine congrArg (V c main_v5) ?_; blk_ext [e2]
  · blk_simp [iblk2]; refine congrArg (V c main_arg7) ?_; blk_ext [e3]
  · blk_simp [iblk2]; refine congrArg (V c main_v14) ?_; blk_ext [e4]
  · blk_simp [iblk2]; refine congrArg (V c main_arg9) ?_; blk_ext [e5]
  · blk_simp [iblk2]; refine congrArg (V c main_v15) ?_; blk_ext [e6]
  · blk_simp [iblk2]; refine congrArg (V c main_arg11) ?_; blk_ext [e7]
  · blk_simp [iblk2]; refine congrArg (V c main_v16) ?_; blk_ext [e8]
  · blk_simp [iblk2]; refine congrArg (V c main_v13) ?_; blk_ext [e9]
  all_goals (blk_simp [eo]; try rfl)

set_option maxHeartbeats 4000000 in
/-- Scale 3's array after its region. -/
theorem arr3 (c : Dev nD) : (dat3 (F := Ideal) V c).arrAt 10 cfg3.N
    = scaleArr 0x3E23D70A#32 128 (V c main_v0) (V c main_v3) (V c main_v5) (V c main_arg13) (V c main_v20) (V c main_arg15) (V c main_v21) (V c main_arg17) (V c main_v22) (V c main_v19) := by
  have e0 : ∀ t : Fin cfg3.N, win3_0.index t = ![(grid3.coords t 0).val, 0, 0] := (by decide +kernel : ∀ t : Fin grid3.N, _)
  have e1 : ∀ t : Fin cfg3.N, win3_1.index t = ![(grid3.coords t 0).val, (grid3.coords t 1).val, 0, 0] :=
    (by decide +kernel : ∀ t : Fin grid3.N, _)
  have e2 : ∀ t : Fin cfg3.N, win3_2.index t = ![(grid3.coords t 0).val, (grid3.coords t 1).val, 0, 0] :=
    (by decide +kernel : ∀ t : Fin grid3.N, _)
  have eo : ∀ t : Fin cfg3.N, win3_10.index t = ![(grid3.coords t 0).val, (grid3.coords t 1).val, 0, 0] :=
    (by decide +kernel : ∀ t : Fin grid3.N, _)
  have ew : ∀ t : Fin cfg3.N, win3_3.index t = ![0, 0] ∧ win3_4.index t = ![0, 0] ∧ win3_5.index t = ![0, 0] ∧ win3_6.index t = ![0, 0]
      ∧ win3_7.index t = ![0, 0] ∧ win3_8.index t = ![0, 0] ∧ win3_9.index t = ![0, 0] := (by decide +kernel : ∀ t : Fin grid3.N, _)
  refine (dat3 V c).arrAt_eq_of_covers 10 _ (by decide +kernel) fun t hf y => ?_
  obtain ⟨e3, e4, e5, e6, e7, e8, e9⟩ := ew t
  blk_simp
  rw [after3_10, out3_eq]
  frame_out
  refine block_eq_scaleArr _ _ 128 ns3 (by norm_num) _ _ _ _ _ _ _ _ _ _ _ _ _ _ _ _ _ _ _ _ (grid3.coords t 0) (grid3.coords t 1)
    (fun k j => ?_) (fun s k => ?_) (fun s k => ?_) (funext fun x => ?_) (funext fun x => ?_) (funext fun x => ?_)
    (funext fun x => ?_) (funext fun x => ?_) (funext fun x => ?_) (funext fun x => ?_) _ _ ?_ ?_ ?_
  · blk_simp [iblk3]; refine congrArg (V c main_v0) ?_; blk_ext [e0]
  · blk_simp [iblk3]; refine congrArg (V c main_v3) ?_; blk_ext [e1]
  · blk_simp [iblk3]; refine congrArg (V c main_v5) ?_; blk_ext [e2]
  · blk_simp [iblk3]; refine congrArg (V c main_arg13) ?_; blk_ext [e3]
  · blk_simp [iblk3]; refine congrArg (V c main_v20) ?_; blk_ext [e4]
  · blk_simp [iblk3]; refine congrArg (V c main_arg15) ?_; blk_ext [e5]
  · blk_simp [iblk3]; refine congrArg (V c main_v21) ?_; blk_ext [e6]
  · blk_simp [iblk3]; refine congrArg (V c main_arg17) ?_; blk_ext [e7]
  · blk_simp [iblk3]; refine congrArg (V c main_v22) ?_; blk_ext [e8]
  · blk_simp [iblk3]; refine congrArg (V c main_v19) ?_; blk_ext [e9]
  all_goals (blk_simp [eo]; try rfl)

end Cert.Scale

end
-- ==== Proof.Final.lean ====
module

public import proofs.«01_k».proof.Proof.FpsSpec
public import proofs.«01_k».proof.Proof.ScaleValue

/-!
What both programs compute, at one centre: the features of the three scales, weighted and summed, plus the last bias.
-/

@[expose] public section

noncomputable section

namespace Cert.Final

open Idealize.ShloMosaic Idealize.ShloMosaic.ValueIdx Cert.Spec Cert.Scale

variable {d₁ d₂ d₃ : ℕ}

/-- The coordinates of one batch's points. -/
def pts (a0 : FVec Ideal ⟨3, ![16, 2048, 3]⟩ .f32) (b : Fin 16) : Fin 3 → Pt → EReal := fun k j => a0 (ix3 b j k)

/-- One scale's feature `o` at the centre which is point `f`: the largest output of the perceptron over the chosen neighbours. -/
def feats (r2 : BitVec 32) (ns : ℕ) (X : Fin 3 → Pt → EReal) (f : Pt) (w₁ : FVec Ideal ⟨2, ![d₁, 3]⟩ .f32) (b₁ : FVec Ideal ⟨1, ![d₁]⟩ .f32)
    (w₂ : FVec Ideal ⟨2, ![d₂, d₁]⟩ .f32) (b₂ : FVec Ideal ⟨1, ![d₂]⟩ .f32) (w₃ : FVec Ideal ⟨2, ![d₃, d₂]⟩ .f32)
    (b₃ : FVec Ideal ⟨1, ![d₃]⟩ .f32) (o : Fin d₃) : EReal :=
  feat (fun j => InBall r2 (fun k => X k f) (fun k => X k j)) ns
    (fun j => mlp (fun o k => w₁ (ix2 o k)) (fun o => b₁ (ix1 o)) (fun o k => w₂ (ix2 o k)) (fun o => b₂ (ix1 o))
      (fun o k => w₃ (ix2 o k)) (fun o => b₃ (ix1 o)) (fun k => X k j - X k f) o)

/-- The point chosen as centre `n` of batch `b`. -/
def centre (a0 : FVec Ideal ⟨3, ![16, 2048, 3]⟩ .f32) (b : Fin 16) (n : Fin 256) : Pt := Cert.Fps.far (pts a0 b) n.val

/-- One scale's share of the result: its features weighted by the entries `d, d+1, …` of the last layer's single row. -/
def part (d : ℕ) (hd : d + d₃ ≤ 160) (wp : FVec Ideal ⟨2, ![1, 160]⟩ .f32) (r2 : BitVec 32) (ns : ℕ) (X : Fin 3 → Pt → EReal) (f : Pt)
    (w₁ : FVec Ideal ⟨2, ![d₁, 3]⟩ .f32) (b₁ : FVec Ideal ⟨1, ![d₁]⟩ .f32)
    (w₂ : FVec Ideal ⟨2, ![d₂, d₁]⟩ .f32) (b₂ : FVec Ideal ⟨1, ![d₂]⟩ .f32) (w₃ : FVec Ideal ⟨2, ![d₃, d₂]⟩ .f32)
    (b₃ : FVec Ideal ⟨1, ![d₃]⟩ .f32) : EReal :=
  ∑ o : Fin d₃, wp (ix2 0 ⟨d + o.val, by omega⟩) * feats r2 ns X f w₁ b₁ w₂ b₂ w₃ b₃ o

/-- The result at batch `b` and centre `n`. -/
def out (a0 : FVec Ideal ⟨3, ![16, 2048, 3]⟩ .f32)
    (a1 : FVec Ideal ⟨2, ![16, 3]⟩ .f32) (a2 : FVec Ideal ⟨1, ![16]⟩ .f32) (a3 : FVec Ideal ⟨2, ![16, 16]⟩ .f32)
    (a4 : FVec Ideal ⟨1, ![16]⟩ .f32) (a5 : FVec Ideal ⟨2, ![32, 16]⟩ .f32) (a6 : FVec Ideal ⟨1, ![32]⟩ .f32)
    (a7 : FVec Ideal ⟨2, ![32, 3]⟩ .f32) (a8 : FVec Ideal ⟨1, ![32]⟩ .f32) (a9 : FVec Ideal ⟨2, ![32, 32]⟩ .f32)
    (a10 : FVec Ideal ⟨1, ![32]⟩ .f32) (a11 : FVec Ideal ⟨2, ![64, 32]⟩ .f32) (a12 : FVec Ideal ⟨1, ![64]⟩ .f32)
    (a13 : FVec Ideal ⟨2, ![32, 3]⟩ .f32) (a14 : FVec Ideal ⟨1, ![32]⟩ .f32) (a15 : FVec Ideal ⟨2, ![48, 32]⟩ .f32)
    (a16 : FVec Ideal ⟨1, ![48]⟩ .f32) (a17 : FVec Ideal ⟨2, ![64, 48]⟩ .f32) (a18 : FVec Ideal ⟨1, ![64]⟩ .f32)
    (a19 : FVec Ideal ⟨2, ![1, 160]⟩ .f32) (a20 : FVec Ideal ⟨1, ![1]⟩ .f32) (b : Fin 16) (n : Fin 256) : EReal :=
  part 0 (by omega) a19 0x3C23D70A#32 16 (pts a0 b) (centre a0 b n) a1 a2 a3 a4 a5 a6
    + part 32 (by omega) a19 0x3D23D70A#32 32 (pts a0 b) (centre a0 b n) a7 a8 a9 a10 a11 a12
    + part 96 (by omega) a19 0x3E23D70A#32 128 (pts a0 b) (centre a0 b n) a13 a14 a15 a16 a17 a18
    + a20 (ix1 0)

end Cert.Final

end
-- ==== Proof.KernelValue.lean ====
module

public import proofs.«01_k».proof.Proof.FpsValue
public import proofs.«01_k».proof.Proof.ScaleArray
public import proofs.«01_k».proof.Proof.KernelRun
public import proofs.«01_k».proof.Proof.Final
public import Idealize.ShloMosaic.Lib.StableHlo.RunRead

/-!
The kernel's whole program read at an index: its host lines around the four regions.
-/

@[expose] public section

set_option maxRecDepth 16384

noncomputable section

namespace Cert.KernelValue

open Idealize.SL
open Idealize.ShloMosaic hiding ix1 ix2 ix3 ix4
open Idealize.ShloMosaic.ValueIdx Cert.KernelIdeal Cert.KernelIdeal.Gen Cert.Layout Cert.Final Cert.Scale

/-- `scaleArr` at a centre, its operands read by coordinates. -/
theorem scaleArr_feats {d₁ d₂ d₃ : ℕ} (r2 : BitVec 32) (ns : ℕ) (xt : FVec Ideal ⟨3, ![16, 3, 2048]⟩ .f32) (cc : FVec Ideal ⟨4, ![16, 16, 16, 3]⟩ .f32)
    (c2 : FVec Ideal ⟨4, ![16, 16, 3, 16]⟩ .f32) (w₁ : FVec Ideal ⟨2, ![d₁, 3]⟩ .f32) (b₁ : FVec Ideal ⟨2, ![d₁, 1]⟩ .f32)
    (w₂ : FVec Ideal ⟨2, ![d₂, d₁]⟩ .f32) (b₂ : FVec Ideal ⟨2, ![d₂, 1]⟩ .f32) (w₃ : FVec Ideal ⟨2, ![d₃, d₂]⟩ .f32)
    (b₃ : FVec Ideal ⟨2, ![d₃, 1]⟩ .f32) (wp : FVec Ideal ⟨2, ![1, d₃]⟩ .f32) (b t s : Fin 16)
    (X : Fin 3 → Spec.Pt → EReal) (f : Spec.Pt) (u₁ : FVec Ideal ⟨1, ![d₁]⟩ .f32) (u₂ : FVec Ideal ⟨1, ![d₂]⟩ .f32) (u₃ : FVec Ideal ⟨1, ![d₃]⟩ .f32)
    (d : ℕ) (hd : d + d₃ ≤ 160) (q : FVec Ideal ⟨2, ![1, 160]⟩ .f32) (hx : ∀ k j, xt (ix3 b k j) = X k j) (hc : ∀ k, cc (ix4 b t s k) = X k f) (hc2 : ∀ k, c2 (ix4 b t k s) = X k f)
    (h₁ : ∀ o, b₁ (ix2 o 0) = u₁ (ix1 o)) (h₂ : ∀ o, b₂ (ix2 o 0) = u₂ (ix1 o)) (h₃ : ∀ o, b₃ (ix2 o 0) = u₃ (ix1 o))
    (hq : ∀ o : Fin d₃, wp (ix2 0 o) = q (ix2 0 ⟨d + o.val, by omega⟩)) :
    scaleArr r2 ns xt cc c2 w₁ b₁ w₂ b₂ w₃ b₃ wp (ix4 b t 0 s) = part d hd q r2 ns X f w₁ u₁ w₂ u₂ w₃ u₃ := by
  simp only [scaleArr_apply, hx, hc, hc2, h₁, h₂, h₃, hq, part, feats]

variable (m : (ℓ : Loc nD τ sig) → Buf (Elt Ideal) ℓ) (ρ : Dev nD → PrngReg) (c : Dev nD)

/-- Argument `a` of the launch. -/
abbrev arg (a : Ref sig .tc) : Buf (Elt Ideal) ((Dev.tc c : Thread nD τ).loc a) := m ((Dev.tc c : Thread nD τ).loc a)

/-- A vector broadcast to a column. -/
theorem colOf {M : ℕ} (x : FVec Ideal ⟨1, ![M]⟩ .f32) (h : (⟨1, ![M]⟩ : Shape).BroadcastsInDim ⟨2, ![M, 1]⟩ ![0]) (o : Fin M) :
    broadcastInDim ⟨2, ![M, 1]⟩ ![0] h x (ix2 o 0) = x (ix1 o) :=
  broadcastInDim_apply _ h x _ _ fun a => by
    match a with
    | ⟨0, _⟩ =>
      show o.val = if M = 1 then 0 else o.val
      split
      · have := o.isLt; omega
      · rfl

/-- A slice of the single row of weights. -/
theorem sliceOf {M N d : ℕ} (x : FVec Ideal ⟨2, ![1, N]⟩ .f32) (h : (⟨2, ![1, N]⟩ : Shape).Slices ![0, d] ⟨2, ![1, M]⟩) (o : Fin M) (hd : d + o.val < N) :
    extractStridedSlice ⟨2, ![1, M]⟩ ![0, d] x h (ix2 0 o) = x (ix2 0 ⟨d + o.val, hd⟩) :=
  extractStridedSlice_apply _ x h _ _ fun a => by
    match a with
    | ⟨0, _⟩ => rfl
    | ⟨1, _⟩ => rfl

theorem w1_v0 (b : Fin 16) (k : Fin 3) (j : Fin 2048) : W1 m ρ c (Proc.devRef .tc main_v0) (ix3 b k j) = arg m c main_arg0 (ix3 b j k) := by
  unfold W1 hostOps0
  after_reads_simp
  exact transpose_apply _ _ _ _ (ix3 b j k) fun a => by
    match a with
    | ⟨0, _⟩ => rfl
    | ⟨1, _⟩ => rfl
    | ⟨2, _⟩ => rfl

/-- The first region's result: the coordinates of the centres. -/
theorem w2_v1 (b : Fin 16) (r : Fin 3) (n : Fin 256) :
    W2 m ρ c (Proc.devRef .tc main_v1) (ix3 b r n) = pts (arg m c main_arg0) b r (centre (arg m c main_arg0) b n) := by
  have h : (fun (r : Fin 3) (j : Spec.Pt) => W1 m ρ c (Proc.devRef .tc main_v0) (ix3 b r j)) = pts (arg m c main_arg0) b :=
    funext fun k => funext fun j => w1_v0 m ρ c b k j
  refine (congrFun ((W2_arr m ρ c 1).trans (Cert.Fps.arr0 c)) (ix3 b r n)).trans ?_
  refine (Cert.Fps.loop_apply _ b r n).trans ?_
  rw [centre, ← h]

theorem castSplit (x : FVec Ideal ⟨3, ![16, 3, 256]⟩ .f32) (h : (⟨3, ![16, 3, 256]⟩ : Shape).ShapeCasts ⟨4, ![16, 3, 16, 16]⟩) (b t s : Fin 16) (k : Fin 3) :
    shapeCast ⟨4, ![16, 3, 16, 16]⟩ x h (ix4 b k t s) = x (ix3 b k ⟨16 * t.val + s.val, by omega⟩) :=
  shapeCast_apply x h _ _ (by
    rw [Shape.rowMajor_val_three, Shape.rowMajor_val_four]
    show (b.val * 3 + k.val) * 256 + (16 * t.val + s.val) = ((b.val * 3 + k.val) * 16 + t.val) * 16 + s.val
    omega)

theorem w3_v3 (b t s : Fin 16) (k : Fin 3) : W3 m ρ c (Proc.devRef .tc main_v3) (ix4 b t s k)
    = pts (arg m c main_arg0) b k (centre (arg m c main_arg0) b ⟨16 * t.val + s.val, by omega⟩) := by
  refine Eq.trans ?_ (w2_v1 m ρ c b k _)
  unfold W3 hostOps1
  after_reads_simp
  refine (transpose_apply _ _ _ _ (ix4 b k t s) fun a => ?_).trans (castSplit _ _ b t s k)
  match a with
  | ⟨0, _⟩ => rfl
  | ⟨1, _⟩ => rfl
  | ⟨2, _⟩ => rfl
  | ⟨3, _⟩ => rfl

theorem w3_v5 (b t s : Fin 16) (k : Fin 3) : W3 m ρ c (Proc.devRef .tc main_v5) (ix4 b t k s)
    = pts (arg m c main_arg0) b k (centre (arg m c main_arg0) b ⟨16 * t.val + s.val, by omega⟩) := by
  refine Eq.trans ?_ (w2_v1 m ρ c b k _)
  unfold W3 hostOps1
  after_reads_simp
  refine (transpose_apply _ _ _ _ (ix4 b k t s) fun a => ?_).trans (castSplit _ _ b t s k)
  match a with
  | ⟨0, _⟩ => rfl
  | ⟨1, _⟩ => rfl
  | ⟨2, _⟩ => rfl
  | ⟨3, _⟩ => rfl

/-- Nothing after the first host line and before the last region rewrites what the regions share. -/
theorem w3_v0 : W3 m ρ c (Proc.devRef .tc main_v0) = W1 m ρ c (Proc.devRef .tc main_v0) :=
  (W3_of m ρ c _ (by decide)).trans (W2_of m ρ c _ (by decide))

theorem w5_keep (r : Ref sig .tc) (h₂ : r ∉ hostOps2_W) (h₁ : ∀ w : Fin cfg1.W, Pipeline.arrRef spec1 w = r → (cfg1.win w).isOut = false) :
    W5 m ρ c (Proc.devRef .tc r) = W3 m ρ c (Proc.devRef .tc r) :=
  (W5_of m ρ c r h₂).trans (W4_of m ρ c r h₁)

theorem w7_keep (r : Ref sig .tc) (h₂ : r ∉ hostOps3_W) (h₁ : ∀ w : Fin cfg2.W, Pipeline.arrRef spec2 w = r → (cfg2.win w).isOut = false) :
    W7 m ρ c (Proc.devRef .tc r) = W5 m ρ c (Proc.devRef .tc r) :=
  (W7_of m ρ c r h₂).trans (W6_of m ρ c r h₁)

/-- The second region's result. -/
theorem w4_v11 (b t s : Fin 16) : W4 m ρ c (Proc.devRef .tc main_v11) (ix4 b t 0 s)
    = part 0 (by omega) (arg m c main_arg19) 0x3C23D70A#32 16 (pts (arg m c main_arg0) b) (centre (arg m c main_arg0) b ⟨16 * t.val + s.val, by omega⟩)
        (arg m c main_arg1) (arg m c main_arg2) (arg m c main_arg3) (arg m c main_arg4) (arg m c main_arg5) (arg m c main_arg6) := by
  refine (congrFun ((W4_arr m ρ c 10).trans (arr1 c)) (ix4 b t 0 s)).trans ?_
  rw [show V3 m ρ c main_arg1 = arg m c main_arg1 from W3_args m ρ c main_arg1 (by decide),
    show V3 m ρ c main_arg3 = arg m c main_arg3 from W3_args m ρ c main_arg3 (by decide),
    show V3 m ρ c main_arg5 = arg m c main_arg5 from W3_args m ρ c main_arg5 (by decide)]
  refine scaleArr_feats _ _ _ _ _ _ _ _ _ _ _ _ b t s _ _ _ _ _ 0 (by omega) (arg m c main_arg19)
    (fun k j => (congrFun (w3_v0 m ρ c) _).trans (w1_v0 m ρ c b k j))
    (w3_v3 m ρ c b t s) (w3_v5 m ρ c b t s) ?_ ?_ ?_ ?_
  all_goals intro o; show W3 m ρ c _ _ = _; unfold W3 hostOps1; after_reads_simp
  · rw [W2_args m ρ c main_arg2 (by decide)]; exact colOf _ _ o
  · rw [W2_args m ρ c main_arg4 (by decide)]; exact colOf _ _ o
  · rw [W2_args m ρ c main_arg6 (by decide)]; exact colOf _ _ o
  · rw [W2_args m ρ c main_arg19 (by decide)]; exact sliceOf _ _ o (by omega)

/-- The third region's result. -/
theorem w6_v17 (b t s : Fin 16) : W6 m ρ c (Proc.devRef .tc main_v17) (ix4 b t 0 s)
    = part 32 (by omega) (arg m c main_arg19) 0x3D23D70A#32 32 (pts (arg m c main_arg0) b) (centre (arg m c main_arg0) b ⟨16 * t.val + s.val, by omega⟩)
        (arg m c main_arg7) (arg m c main_arg8) (arg m c main_arg9) (arg m c main_arg10) (arg m c main_arg11) (arg m c main_arg12) := by
  refine (congrFun ((W6_arr m ρ c 10).trans (arr2 c)) (ix4 b t 0 s)).trans ?_
  rw [show V5 m ρ c main_arg7 = arg m c main_arg7 from W5_args m ρ c main_arg7 (by decide),
    show V5 m ρ c main_arg9 = arg m c main_arg9 from W5_args m ρ c main_arg9 (by decide),
    show V5 m ρ c main_arg11 = arg m c main_arg11 from W5_args m ρ c main_arg11 (by decide)]
  refine scaleArr_feats _ _ _ _ _ _ _ _ _ _ _ _ b t s _ _ _ _ _ 32 (by omega) (arg m c main_arg19)
    (fun k j => (congrFun ((w5_keep m ρ c main_v0 (by decide) (by decide)).trans (w3_v0 m ρ c)) _).trans (w1_v0 m ρ c b k j))
    (fun k => (congrFun (w5_keep m ρ c main_v3 (by decide) (by decide)) _).trans (w3_v3 m ρ c b t s k)) (fun k => (congrFun (w5_keep m ρ c main_v5 (by decide) (by decide)) _).trans (w3_v5 m ρ c b t s k)) ?_ ?_ ?_ ?_
  all_goals intro o; show W5 m ρ c _ _ = _; unfold W5 hostOps2; after_reads_simp
  · rw [W4_args m ρ c main_arg8 (by decide)]; exact colOf _ _ o
  · rw [W4_args m ρ c main_arg10 (by decide)]; exact colOf _ _ o
  · rw [W4_args m ρ c main_arg12 (by decide)]; exact colOf _ _ o
  · rw [W4_args m ρ c main_arg19 (by decide)]; exact sliceOf _ _ o (by omega)

/-- The fourth region's result. -/
theorem w8_v23 (b t s : Fin 16) : W8 m ρ c (Proc.devRef .tc main_v23) (ix4 b t 0 s)
    = part 96 (by omega) (arg m c main_arg19) 0x3E23D70A#32 128 (pts (arg m c main_arg0) b) (centre (arg m c main_arg0) b ⟨16 * t.val + s.val, by omega⟩)
        (arg m c main_arg13) (arg m c main_arg14) (arg m c main_arg15) (arg m c main_arg16) (arg m c main_arg17) (arg m c main_arg18) := by
  refine (congrFun ((W8_arr m ρ c 10).trans (arr3 c)) (ix4 b t 0 s)).trans ?_
  rw [show V7 m ρ c main_arg13 = arg m c main_arg13 from W7_args m ρ c main_arg13 (by decide),
    show V7 m ρ c main_arg15 = arg m c main_arg15 from W7_args m ρ c main_arg15 (by decide),
    show V7 m ρ c main_arg17 = arg m c main_arg17 from W7_args m ρ c main_arg17 (by decide)]
  refine scaleArr_feats _ _ _ _ _ _ _ _ _ _ _ _ b t s _ _ _ _ _ 96 (by omega) (arg m c main_arg19)
    (fun k j => (congrFun (((w7_keep m ρ c main_v0 (by decide) (by decide)).trans (w5_keep m ρ c main_v0 (by decide) (by decide))).trans (w3_v0 m ρ c)) _).trans (w1_v0 m ρ c b k j))
    (fun k => (congrFun ((w7_keep m ρ c main_v3 (by decide) (by decide)).trans (w5_keep m ρ c main_v3 (by decide) (by decide))) _).trans (w3_v3 m ρ c b t s k)) (fun k => (congrFun ((w7_keep m ρ c main_v5 (by decide) (by decide)).trans (w5_keep m ρ c main_v5 (by decide) (by decide))) _).trans (w3_v5 m ρ c b t s k)) ?_ ?_ ?_ ?_
  all_goals intro o; show W7 m ρ c _ _ = _; unfold W7 hostOps3; after_reads_simp
  · rw [W6_args m ρ c main_arg14 (by decide)]; exact colOf _ _ o
  · rw [W6_args m ρ c main_arg16 (by decide)]; exact colOf _ _ o
  · rw [W6_args m ρ c main_arg18 (by decide)]; exact colOf _ _ o
  · rw [W6_args m ρ c main_arg19 (by decide)]; exact sliceOf _ _ o (by omega)

/-- The zeros the first sum starts from. -/
theorem w4_v6 (b t s : Fin 16) : W4 m ρ c (Proc.devRef .tc main_v6) (ix4 b t 0 s) = (0 : EReal) := by
  rw [W4_of m ρ c main_v6 (by decide)]
  unfold W3 hostOps1
  after_reads_simp
  exact Ideal.ofBits_zero_f32

theorem w6_v12 (b t s : Fin 16) : W6 m ρ c (Proc.devRef .tc main_v12) (ix4 b t 0 s)
    = @HAdd.hAdd EReal EReal EReal _ (W4 m ρ c (Proc.devRef .tc main_v6) (ix4 b t 0 s)) (W4 m ρ c (Proc.devRef .tc main_v11) (ix4 b t 0 s)) := by
  rw [W6_of m ρ c main_v12 (by decide)]
  unfold W5 hostOps2
  after_reads_simp
  rfl

theorem w8_v18 (b t s : Fin 16) : W8 m ρ c (Proc.devRef .tc main_v18) (ix4 b t 0 s)
    = @HAdd.hAdd EReal EReal EReal _ (W6 m ρ c (Proc.devRef .tc main_v12) (ix4 b t 0 s)) (W6 m ρ c (Proc.devRef .tc main_v17) (ix4 b t 0 s)) := by
  rw [W8_of m ρ c main_v18 (by decide)]
  unfold W7 hostOps3
  after_reads_simp
  rfl

theorem castJoin (x : FVec Ideal ⟨4, ![16, 1, 16, 16]⟩ .f32) (h : (⟨4, ![16, 1, 16, 16]⟩ : Shape).ShapeCasts ⟨3, ![16, 1, 256]⟩) (b t s : Fin 16) :
    shapeCast ⟨3, ![16, 1, 256]⟩ x h (ix3 b 0 ⟨16 * t.val + s.val, by omega⟩) = x (ix4 b 0 t s) :=
  shapeCast_apply x h _ _ (by
    rw [Shape.rowMajor_val_three, Shape.rowMajor_val_four]
    show ((b.val * 1 + 0) * 16 + t.val) * 16 + s.val = (b.val * 1 + 0) * 256 + (16 * t.val + s.val)
    omega)

/-- The last lines: the bias is added to the sum of the regions' results. -/
theorem w9_v29 (b t s : Fin 16) : W9 m ρ c (Proc.devRef .tc main_v29) (ix3 b 0 ⟨16 * t.val + s.val, by omega⟩)
    = @HAdd.hAdd EReal EReal EReal _ (@HAdd.hAdd EReal EReal EReal _ (W8 m ρ c (Proc.devRef .tc main_v18) (ix4 b t 0 s)) (W8 m ρ c (Proc.devRef .tc main_v23) (ix4 b t 0 s))) (arg m c main_arg20 (ix1 0)) := by
  unfold W9 hostOps4
  after_reads_simp
  rw [W8_args m ρ c main_arg20 (by decide)]
  refine congrArg₂ (fun x y : EReal => x + y) ?_ ?_
  · refine (castJoin _ _ b t s).trans (transpose_apply _ _ _ _ (ix4 b t 0 s) fun a => ?_)
    match a with
    | ⟨0, _⟩ => rfl
    | ⟨1, _⟩ => rfl
    | ⟨2, _⟩ => rfl
    | ⟨3, _⟩ => rfl
  · refine (broadcastInDim_apply _ _ _ _ (ix3 0 0 0) fun a => ?_).trans (broadcastInDim_apply _ _ _ _ (ix1 0) fun a => ?_)
    · match a with
      | ⟨0, _⟩ => rfl
      | ⟨1, _⟩ => rfl
      | ⟨2, _⟩ => rfl
    · match a with
      | ⟨0, _⟩ => rfl

/-- The kernel's result, at batch `b` and centre `n`. -/
theorem value (b : Fin 16) (n : Fin 256) : W9 m ρ c (Proc.devRef .tc main_v29) (ix3 b 0 n)
    = out (arg m c main_arg0) (arg m c main_arg1) (arg m c main_arg2) (arg m c main_arg3) (arg m c main_arg4) (arg m c main_arg5) (arg m c main_arg6)
        (arg m c main_arg7) (arg m c main_arg8) (arg m c main_arg9) (arg m c main_arg10) (arg m c main_arg11) (arg m c main_arg12) (arg m c main_arg13)
        (arg m c main_arg14) (arg m c main_arg15) (arg m c main_arg16) (arg m c main_arg17) (arg m c main_arg18) (arg m c main_arg19) (arg m c main_arg20) b n := by
  obtain ⟨t, s, rfl⟩ : ∃ t s : Fin 16, n = ⟨16 * t.val + s.val, by omega⟩ :=
    ⟨⟨n.val / 16, by omega⟩, ⟨n.val % 16, by omega⟩, Fin.ext (by show n.val = 16 * (n.val / 16) + n.val % 16; omega)⟩
  rw [w9_v29, w8_v18, w6_v12, w4_v6, w4_v11, w6_v17, w8_v23, out]
  exact congrArg (fun x : EReal => x + _ + _ + _) (zero_add _)

end Cert.KernelValue

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference's operations as lists: what stands before its loop, the loop's body, and what stands after the loop
cut as the printed function is cut into parts. Each list only touches TensorCore references, and `main` and the
loop's body are the chains of these lists.
-/

@[expose] public section

set_option maxRecDepth 4096

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 14 operations of @main, in order. -/
abbrev main_part0_ops0 : List (HloOp τ sig (Elt F)) :=
  [ StableHlo.nullary main_cst (constant S_ .f32 0x501502F9#32),
    StableHlo.unary main_cst main_v0 (broadcastInDim S16x2048 ![] bcast_S_S16x2048 : (⟨S_, .f32⟩ : BufTy).Contents (Elt F) → (⟨S16x2048, .f32⟩ : BufTy).Contents (Elt F)),
    StableHlo.nullary main_c (constantI S_ 32 0#32),
    StableHlo.unary main_c main_v1 (broadcastInDim S16 ![] bcast_S_S16 : (⟨S_, .i32⟩ : BufTy).Contents (Elt F) → (⟨S16, .i32⟩ : BufTy).Contents (Elt F)),
    StableHlo.nullary main_c_0 (constantI S_ 32 0#32),
    StableHlo.unary main_c_0 main_v2 (broadcastInDim S16x256 ![] bcast_S_S16x256 : (⟨S_, .i32⟩ : BufTy).Contents (Elt F) → (⟨S16x256, .i32⟩ : BufTy).Contents (Elt F)),
    StableHlo.nullary main_c_1 (constantI S_ 32 0#32),
    StableHlo.nullary main_c_2 (constantI S_ 32 0#32),
    StableHlo.unary main_arg0 main_v3_0 id,
    StableHlo.unary main_c_2 main_v3_1 id,
    StableHlo.unary main_c_1 main_v3_2 id,
    StableHlo.unary main_v0 main_v3_3 id,
    StableHlo.unary main_v1 main_v3_4 id,
    StableHlo.unary main_v2 main_v3_5 id ]
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 44 operations of @main, in order. -/
abbrev main_part0_ops1 : List (HloOp τ sig (Elt F)) :=
  ( StableHlo.nullary main_v4 (iotaInDim S16 32 0)
  :: StableHlo.reshape main_v4 main_v5 (rfl : (.i32 : EltTy) = .i32) shapeCasts_S16_S16x1
  :: StableHlo.nullary main_c_3 (constantI S_ 32 0#32)
  :: StableHlo.unary main_c_3 main_v6 (broadcastInDim S16x1 ![] bcast_S_S16x1 : (⟨S_, .i32⟩ : BufTy).Contents (Elt F) → (⟨S16x1, .i32⟩ : BufTy).Contents (Elt F))
  :: StableHlo.binary main_v5 main_v6 main_v7 (cmpi .slt : (⟨S16x1, .i32⟩ : BufTy).Contents (Elt F) → (⟨S16x1, .i32⟩ : BufTy).Contents (Elt F) → (⟨S16x1, .i1⟩ : BufTy).Contents (Elt F))
  :: StableHlo.nullary main_c_4 (constantI S_ 32 16#32)
  :: StableHlo.unary main_c_4 main_v8 (broadcastInDim S16x1 ![] bcast_S_S16x1 : (⟨S_, .i32⟩ : BufTy).Contents (Elt F) → (⟨S16x1, .i32⟩ : BufTy).Contents (Elt F))
  :: StableHlo.binary main_v5 main_v8 main_v9 (addi : (⟨S16x1, .i32⟩ : BufTy).Contents (Elt F) → (⟨S16x1, .i32⟩ : BufTy).Contents (Elt F) → (⟨S16x1, .i32⟩ : BufTy).Contents (Elt F))
  :: StableHlo.ternary main_v7 main_v9 main_v5 main_v10 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F))
  :: StableHlo.nullary main_c_5 (constantI S_ 32 0#32)
  :: StableHlo.unary main_c_5 main_v11 (broadcastInDim S16x256 ![] bcast_S_S16x256 : (⟨S_, .i32⟩ : BufTy).Contents (Elt F) → (⟨S16x256, .i32⟩ : BufTy).Contents (Elt F))
  :: StableHlo.binary main_v3_5 main_v11 main_v12 (cmpi .slt : (⟨S16x256, .i32⟩ : BufTy).Contents (Elt F) → (⟨S16x256, .i32⟩ : BufTy).Contents (Elt F) → (⟨S16x256, .i1⟩ : BufTy).Contents (Elt F))
  :: StableHlo.nullary main_c_6 (constantI S_ 32 2048#32)
  :: StableHlo.unary main_c_6 main_v13 (broadcastInDim S16x256 ![] bcast_S_S16x256 : (⟨S_, .i32⟩ : BufTy).Contents (Elt F) → (⟨S16x256, .i32⟩ : BufTy).Contents (Elt F))
  :: StableHlo.binary main_v3_5 main_v13 main_v14 (addi : (⟨S16x256, .i32⟩ : BufTy).Contents (Elt F) → (⟨S16x256, .i32⟩ : BufTy).Contents (Elt F) → (⟨S16x256, .i32⟩ : BufTy).Contents (Elt F))
  :: StableHlo.ternary main_v12 main_v14 main_v3_5 main_v15 (select : (⟨S16x256, .i1⟩ : BufTy).Contents (Elt F) → (⟨S16x256, .i32⟩ : BufTy).Contents (Elt F) → (⟨S16x256, .i32⟩ : BufTy).Contents (Elt F) → (⟨S16x256, .i32⟩ : BufTy).Contents (Elt F))
  :: StableHlo.unary main_v10 main_v16 (broadcastInDim S16x256 ![0, 1] bcast_S16x1_S16x256_0_1 : (⟨S16x1, .i32⟩ : BufTy).Contents (Elt F) → (⟨S16x256, .i32⟩ : BufTy).Contents (Elt F))
  :: StableHlo.unary main_v16 main_v17 (broadcastInDim S16x256x1 ![0, 1] bcast_S16x256_S16x256x1_0_1 : (⟨S16x256, .i32⟩ : BufTy).Contents (Elt F) → (⟨S16x256x1, .i32⟩ : BufTy).Contents (Elt F))
  :: StableHlo.unary main_v15 main_v18 (broadcastInDim S16x256x1 ![0, 1] bcast_S16x256_S16x256x1_0_1 : (⟨S16x256, .i32⟩ : BufTy).Contents (Elt F) → (⟨S16x256x1, .i32⟩ : BufTy).Contents (Elt F))
  :: StableHlo.binary main_v17 main_v18 main_v19 ((fun a b => concatenate S16x256x2 2 [⟨S16x256x1, a⟩, ⟨S16x256x1, b⟩] concatenates_S16x256x1_S16x256x1_S16x256x2_d2) : (⟨S16x256x1, .i32⟩ : BufTy).Contents (Elt F) → (⟨S16x256x1, .i32⟩ : BufTy).Contents (Elt F) → (⟨S16x256x2, .i32⟩ : BufTy).Contents (Elt F))
  :: StableHlo.binary main_arg0 main_v19 main_v20 ((fun x i => Host.gather gather_S16x2048x3_S16x256x2_S16x256x3_2_01_n_n_01_2_113 x i) : (⟨S16x2048x3, .f32⟩ : BufTy).Contents (Elt F) → (⟨S16x256x2, .i32⟩ : BufTy).Contents (Elt F) → (⟨S16x256x3, .f32⟩ : BufTy).Contents (Elt F))
  :: StableHlo.unary main_arg0 main_v21 ((transpose S16x3x2048 [0, 2, 1] · transposes_S16x2048x3_S16x3x2048_0_2_1) : (⟨S16x2048x3, .f32⟩ : BufTy).Contents (Elt F) → (⟨S16x3x2048, .f32⟩ : BufTy).Contents (Elt F))
  :: StableHlo.binary main_v20 main_v21 main_v22 ((fun l r => Host.dotGeneral dot_S16x256x3_S16x3x2048_S16x256x2048_2_1_1_2_0_0 none l r) : (⟨S16x256x3, .f32⟩ : BufTy).Contents (Elt F) → (⟨S16x3x2048, .f32⟩ : BufTy).Contents (Elt F) → (⟨S16x256x2048, .f32⟩ : BufTy).Contents (Elt F))
  :: StableHlo.nullary main_cst_7 (constant S_ .f32 0xC0000000#32)
  :: StableHlo.unary main_cst_7 main_v23 (broadcastInDim S16x256x2048 ![] bcast_S_S16x256x2048 : (⟨S_, .f32⟩ : BufTy).Contents (Elt F) → (⟨S16x256x2048, .f32⟩ : BufTy).Contents (Elt F))
  :: StableHlo.binary main_v23 main_v22 main_v24 (mulf : (⟨S16x256x2048, .f32⟩ : BufTy).Contents (Elt F) → (⟨S16x256x2048, .f32⟩ : BufTy).Contents (Elt F) → (⟨S16x256x2048, .f32⟩ : BufTy).Contents (Elt F))
  :: StableHlo.binary main_v20 main_v20 main_v25 (mulf : (⟨S16x256x3, .f32⟩ : BufTy).Contents (Elt F) → (⟨S16x256x3, .f32⟩ : BufTy).Contents (Elt F) → (⟨S16x256x3, .f32⟩ : BufTy).Contents (Elt F))
  :: StableHlo.nullary main_cst_8 (constant S_ .f32 0x00000000#32)
  :: StableHlo.binary main_v25 main_cst_8 main_v26 ((fun x v => Host.reduceAdd x v reducesTo_S16x256x3_S16x256_d2 h_S_) : (⟨S16x256x3, .f32⟩ : BufTy).Contents (Elt F) → (⟨S_, .f32⟩ : BufTy).Contents (Elt F) → (⟨S16x256, .f32⟩ : BufTy).Contents (Elt F))
  :: StableHlo.unary main_v26 main_v27 (broadcastInDim S16x256x1 ![0, 1] bcast_S16x256_S16x256x1_0_1 : (⟨S16x256, .f32⟩ : BufTy).Contents (Elt F) → (⟨S16x256x1, .f32⟩ : BufTy).Contents (Elt F))
  :: StableHlo.unary main_v27 main_v28 (broadcastInDim S16x256x2048 ![0, 1, 2] bcast_S16x256x1_S16x256x2048_0_1_2 : (⟨S16x256x1, .f32⟩ : BufTy).Contents (Elt F) → (⟨S16x256x2048, .f32⟩ : BufTy).Contents (Elt F))
  :: StableHlo.binary main_v24 main_v28 main_v29 (addf : (⟨S16x256x2048, .f32⟩ : BufTy).Contents (Elt F) → (⟨S16x256x2048, .f32⟩ : BufTy).Contents (Elt F) → (⟨S16x256x2048, .f32⟩ : BufTy).Contents (Elt F))
  :: StableHlo.binary main_arg0 main_arg0 main_v30 (mulf : (⟨S16x2048x3, .f32⟩ : BufTy).Contents (Elt F) → (⟨S16x2048x3, .f32⟩ : BufTy).Contents (Elt F) → (⟨S16x2048x3, .f32⟩ : BufTy).Contents (Elt F))
  :: StableHlo.nullary main_cst_9 (constant S_ .f32 0x00000000#32)
  :: StableHlo.binary main_v30 main_cst_9 main_v31 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F))
  :: StableHlo.unary main_v31 main_v32 (broadcastInDim S16x1x2048 ![0, 2] bcast_S16x2048_S16x1x2048_0_2 : (⟨S16x2048, .f32⟩ : BufTy).Contents (Elt F) → (⟨S16x1x2048, .f32⟩ : BufTy).Contents (Elt F))
  :: StableHlo.unary main_v32 main_v33 (broadcastInDim S16x256x2048 ![0, 1, 2] bcast_S16x1x2048_S16x256x2048_0_1_2 : (⟨S16x1x2048, .f32⟩ : BufTy).Contents (Elt F) → (⟨S16x256x2048, .f32⟩ : BufTy).Contents (Elt F))
  :: StableHlo.binary main_v29 main_v33 main_v34 (addf : (⟨S16x256x2048, .f32⟩ : BufTy).Contents (Elt F) → (⟨S16x256x2048, .f32⟩ : BufTy).Contents (Elt F) → (⟨S16x256x2048, .f32⟩ : BufTy).Contents (Elt F))
  :: StableHlo.nullary main_v35 (iotaInDim S2048 32 0)
  :: StableHlo.unary main_v35 main_v36 (broadcastInDim S16x256x2048 ![2] bcast_S2048_S16x256x2048_2 : (⟨S2048, .i32⟩ : BufTy).Contents (Elt F) → (⟨S16x256x2048, .i32⟩ : BufTy).Contents (Elt F))
  :: StableHlo.nullary main_cst_10 (constant S_ .f32 0x3C23D70A#32)
  :: StableHlo.unary main_cst_10 main_v37 (broadcastInDim S16x256x2048 ![] bcast_S_S16x256x2048 : (⟨S_, .f32⟩ : BufTy).Contents (Elt F) → (⟨S16x256x2048, .f32⟩ : BufTy).Contents (Elt F))
  :: StableHlo.binary main_v34 main_v37 main_v38 (cmpf .ogt : (⟨S16x256x2048, .f32⟩ : BufTy).Contents (Elt F) → (⟨S16x256x2048, .f32⟩ : BufTy).Contents (Elt F) → (⟨S16x256x2048, .i1⟩ : BufTy).Contents (Elt F))
  :: StableHlo.nullary main_c_11 (constantI S_ 32 2048#32)
  :: [] )
theorem main_part0_ops1_sub : (main_part0_ops1 : List (HloOp τ sig (Elt F))).Forall fun op => op.bufs ⊆ StableHlo.tcRefs τ sig :=
  ⟨StableHlo.nullary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub ..⟩
/-- 3 operations of @_where, in order. -/
abbrev main_part0_ops2 : List (HloOp τ sig (Elt F)) :=
  [ StableHlo.TRef.unary (.of main_c_11 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S16x256x2048, .i32⟩) (broadcastInDim S16x256x2048 ![] bcast_S_S16x256x2048),
    StableHlo.TRef.ternary (.of main_v38 : StableHlo.TRef sig ⟨S16x256x2048, .i1⟩) (.of main_call1_v1 : StableHlo.TRef sig ⟨S16x256x2048, .i32⟩) (.of main_v36 : StableHlo.TRef sig ⟨S16x256x2048, .i32⟩) (.of main_v39 : StableHlo.TRef sig ⟨S16x256x2048, .i32⟩) select ]
theorem main_part0_ops2_sub : (main_part0_ops2 : List (HloOp τ sig (Elt F))).Forall fun op => op.bufs ⊆ StableHlo.tcRefs τ sig :=
  ⟨StableHlo.unary_bufs_sub .., StableHlo.unary_bufs_sub .., StableHlo.ternary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1 ]
  (StableHlo.seq main_part0_ops2) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons]
  chain_rfl

/-- 1 operations of @sort, in order. -/
abbrev main_part1_ops0 : List (HloOp τ sig (Elt F)) :=
  [ StableHlo.TRef.unary (.of main_v39 : StableHlo.TRef sig ⟨S16x256x2048, .i32⟩) (.of main_v40 : StableHlo.TRef sig ⟨S16x256x2048, .i32⟩) (fun x => Host.sort S16x256x2048 2 comparator_i32_d2 x) ]
theorem main_part1_ops0_sub : (main_part1_ops0 : List (HloOp τ sig (Elt F))).Forall fun op => op.bufs ⊆ StableHlo.tcRefs τ sig :=
  StableHlo.unary_bufs_sub ..
/-- 6 operations of @main, in order. -/
abbrev main_part1_ops1 : List (HloOp τ sig (Elt F)) :=
  [ StableHlo.unary main_v40 main_v41 ((extractStridedSlice S16x256x16 ![0, 0, 0] · slices_S16x256x2048_S16x256x16_0_0_0) : (⟨S16x256x2048, .i32⟩ : BufTy).Contents (Elt F) → (⟨S16x256x16, .i32⟩ : BufTy).Contents (Elt F)),
    StableHlo.unary main_v41 main_v42 ((extractStridedSlice S16x256x1 ![0, 0, 0] · slices_S16x256x16_S16x256x1_0_0_0) : (⟨S16x256x16, .i32⟩ : BufTy).Contents (Elt F) → (⟨S16x256x1, .i32⟩ : BufTy).Contents (Elt F)),
    StableHlo.nullary main_c_12 (constantI S_ 32 2048#32),
    StableHlo.unary main_c_12 main_v43 (broadcastInDim S16x256x16 ![] bcast_S_S16x256x16 : (⟨S_, .i32⟩ : BufTy).Contents (Elt F) → (⟨S16x256x16, .i32⟩ : BufTy).Contents (Elt F)),
    StableHlo.binary main_v41 main_v43 main_v44 (cmpi .eq : (⟨S16x256x16, .i32⟩ : BufTy).Contents (Elt F) → (⟨S16x256x16, .i32⟩ : BufTy).Contents (Elt F) → (⟨S16x256x16, .i1⟩ : BufTy).Contents (Elt F)),
    StableHlo.unary main_v42 main_v45 (broadcastInDim S16x256x16 ![0, 1, 2] bcast_S16x256x1_S16x256x16_0_1_2 : (⟨S16x256x1, .i32⟩ : BufTy).Contents (Elt F) → (⟨S16x256x16, .i32⟩ : BufTy).Contents (Elt F)) ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub ..⟩
/-- 1 operations of @_where_0, in order. -/
abbrev main_part1_ops2 : List (HloOp τ sig (Elt F)) :=
  [ StableHlo.TRef.ternary (.of main_v44 : StableHlo.TRef sig ⟨S16x256x16, .i1⟩) (.of main_v45 : StableHlo.TRef sig ⟨S16x256x16, .i32⟩) (.of main_v41 : StableHlo.TRef sig ⟨S16x256x16, .i32⟩) (.of main_v46 : StableHlo.TRef sig ⟨S16x256x16, .i32⟩) select ]
theorem main_part1_ops2_sub : (main_part1_ops2 : List (HloOp τ sig (Elt F))).Forall fun op => op.bufs ⊆ StableHlo.tcRefs τ sig :=
  StableHlo.ternary_bufs_sub ..
/-- 28 operations of @main, in order. -/
abbrev main_part1_ops3 : List (HloOp τ sig (Elt F)) :=
  [ StableHlo.nullary main_v47 (iotaInDim S16 32 0),
    StableHlo.reshape main_v47 main_v48 (rfl : (.i32 : EltTy) = .i32) shapeCasts_S16_S16x1x1,
    StableHlo.nullary main_c_13 (constantI S_ 32 0#32),
    StableHlo.unary main_c_13 main_v49 (broadcastInDim S16x1x1 ![] bcast_S_S16x1x1 : (⟨S_, .i32⟩ : BufTy).Contents (Elt F) → (⟨S16x1x1, .i32⟩ : BufTy).Contents (Elt F)),
    StableHlo.binary main_v48 main_v49 main_v50 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_14 (constantI S_ 32 16#32),
    StableHlo.unary main_c_14 main_v51 (broadcastInDim S16x1x1 ![] bcast_S_S16x1x1 : (⟨S_, .i32⟩ : BufTy).Contents (Elt F) → (⟨S16x1x1, .i32⟩ : BufTy).Contents (Elt F)),
    StableHlo.binary main_v48 main_v51 main_v52 (addi : (⟨S16x1x1, .i32⟩ : BufTy).Contents (Elt F) → (⟨S16x1x1, .i32⟩ : BufTy).Contents (Elt F) → (⟨S16x1x1, .i32⟩ : BufTy).Contents (Elt F)),
    StableHlo.ternary main_v50 main_v52 main_v48 main_v53 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_15 (constantI S_ 32 0#32),
    StableHlo.unary main_c_15 main_v54 (broadcastInDim S16x256x16 ![] bcast_S_S16x256x16 : (⟨S_, .i32⟩ : BufTy).Contents (Elt F) → (⟨S16x256x16, .i32⟩ : BufTy).Contents (Elt F)),
    StableHlo.binary main_v46 main_v54 main_v55 (cmpi .slt : (⟨S16x256x16, .i32⟩ : BufTy).Contents (Elt F) → (⟨S16x256x16, .i32⟩ : BufTy).Contents (Elt F) → (⟨S16x256x16, .i1⟩ : BufTy).Contents (Elt F)),
    StableHlo.nullary main_c_16 (constantI S_ 32 2048#32),
    StableHlo.unary main_c_16 main_v56 (broadcastInDim S16x256x16 ![] bcast_S_S16x256x16 : (⟨S_, .i32⟩ : BufTy).Contents (Elt F) → (⟨S16x256x16, .i32⟩ : BufTy).Contents (Elt F)),
    StableHlo.binary main_v46 main_v56 main_v57 (addi : (⟨S16x256x16, .i32⟩ : BufTy).Contents (Elt F) → (⟨S16x256x16, .i32⟩ : BufTy).Contents (Elt F) → (⟨S16x256x16, .i32⟩ : BufTy).Contents (Elt F)),
    StableHlo.ternary main_v55 main_v57 main_v46 main_v58 (select : (⟨S16x256x16, .i1⟩ : BufTy).Contents (Elt F) → (⟨S16x256x16, .i32⟩ : BufTy).Contents (Elt F) → (⟨S16x256x16, .i32⟩ : BufTy).Contents (Elt F) → (⟨S16x256x16, .i32⟩ : BufTy).Contents (Elt F)),
    StableHlo.unary main_v53 main_v59 (broadcastInDim S16x256x16 ![0, 1, 2] bcast_S16x1x1_S16x256x16_0_1_2 : (⟨S16x1x1, .i32⟩ : BufTy).Contents (Elt F) → (⟨S16x256x16, .i32⟩ : BufTy).Contents (Elt F)),
    StableHlo.unary main_v59 main_v60 (broadcastInDim S16x256x16x1 ![0, 1, 2] bcast_S16x256x16_S16x256x16x1_0_1_2 : (⟨S16x256x16, .i32⟩ : BufTy).Contents (Elt F) → (⟨S16x256x16x1, .i32⟩ : BufTy).Contents (Elt F)),
    StableHlo.unary main_v58 main_v61 (broadcastInDim S16x256x16x1 ![0, 1, 2] bcast_S16x256x16_S16x256x16x1_0_1_2 : (⟨S16x256x16, .i32⟩ : BufTy).Contents (Elt F) → (⟨S16x256x16x1, .i32⟩ : BufTy).Contents (Elt F)),
    StableHlo.binary main_v60 main_v61 main_v62 ((fun a b => concatenate S16x256x16x2 3 [⟨S16x256x16x1, a⟩, ⟨S16x256x16x1, b⟩] concatenates_S16x256x16x1_S16x256x16x1_S16x256x16x2_d3) : (⟨S16x256x16x1, .i32⟩ : BufTy).Contents (Elt F) → (⟨S16x256x16x1, .i32⟩ : BufTy).Contents (Elt F) → (⟨S16x256x16x2, .i32⟩ : BufTy).Contents (Elt F)),
    StableHlo.binary main_arg0 main_v62 main_v63 ((fun x i => Host.gather gather_S16x2048x3_S16x256x16x2_S16x256x16x3_3_01_n_n_01_3_113 x i) : (⟨S16x2048x3, .f32⟩ : BufTy).Contents (Elt F) → (⟨S16x256x16x2, .i32⟩ : BufTy).Contents (Elt F) → (⟨S16x256x16x3, .f32⟩ : BufTy).Contents (Elt F)),
    StableHlo.unary main_v20 main_v64 (broadcastInDim S16x256x1x3 ![0, 1, 3] bcast_S16x256x3_S16x256x1x3_0_1_3 : (⟨S16x256x3, .f32⟩ : BufTy).Contents (Elt F) → (⟨S16x256x1x3, .f32⟩ : BufTy).Contents (Elt F)),
    StableHlo.unary main_v64 main_v65 (broadcastInDim S16x256x16x3 ![0, 1, 2, 3] bcast_S16x256x1x3_S16x256x16x3_0_1_2_3 : (⟨S16x256x1x3, .f32⟩ : BufTy).Contents (Elt F) → (⟨S16x256x16x3, .f32⟩ : BufTy).Contents (Elt F)),
    StableHlo.binary main_v63 main_v65 main_v66 (subf : (⟨S16x256x16x3, .f32⟩ : BufTy).Contents (Elt F) → (⟨S16x256x16x3, .f32⟩ : BufTy).Contents (Elt F) → (⟨S16x256x16x3, .f32⟩ : BufTy).Contents (Elt F)),
    StableHlo.binary main_v66 main_arg1 main_v67 ((fun l r => Host.dotGeneral dot_S16x256x16x3_S16x3_S16x256x16x16_3_1_012_0_n_n none l r) : (⟨S16x256x16x3, .f32⟩ : BufTy).Contents (Elt F) → (⟨S16x3, .f32⟩ : BufTy).Contents (Elt F) → (⟨S16x256x16x16, .f32⟩ : BufTy).Contents (Elt F)),
    StableHlo.unary main_arg2 main_v68 (broadcastInDim S1x1x1x16 ![3] bcast_S16_S1x1x1x16_3 : (⟨S16, .f32⟩ : BufTy).Contents (Elt F) → (⟨S1x1x1x16, .f32⟩ : BufTy).Contents (Elt F)),
    StableHlo.unary main_v68 main_v69 (broadcastInDim S16x256x16x16 ![0, 1, 2, 3] bcast_S1x1x1x16_S16x256x16x16_0_1_2_3 : (⟨S1x1x1x16, .f32⟩ : BufTy).Contents (Elt F) → (⟨S16x256x16x16, .f32⟩ : BufTy).Contents (Elt F)),
    StableHlo.binary main_v67 main_v69 main_v70 (addf : (⟨S16x256x16x16, .f32⟩ : BufTy).Contents (Elt F) → (⟨S16x256x16x16, .f32⟩ : BufTy).Contents (Elt F) → (⟨S16x256x16x16, .f32⟩ : BufTy).Contents (Elt F)) ]
theorem main_part1_ops3_sub : (main_part1_ops3 : List (HloOp τ sig (Elt F))).Forall fun op => op.bufs ⊆ StableHlo.tcRefs τ sig :=
  ⟨StableHlo.nullary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- 3 operations of @relu, in order. -/
abbrev main_part1_ops4 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S16x256x16x16, .f32⟩) (broadcastInDim S16x256x16x16 ![] bcast_S_S16x256x16x16),
    StableHlo.TRef.binary (.of main_v70 : StableHlo.TRef sig ⟨S16x256x16x16, .f32⟩) (.of main_call4_v0 : StableHlo.TRef sig ⟨S16x256x16x16, .f32⟩) (.of main_v71 : StableHlo.TRef sig ⟨S16x256x16x16, .f32⟩) maximumf ]
theorem main_part1_ops4_sub : (main_part1_ops4 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev main_part1_ops5 : List (HloOp τ sig (Elt F)) :=
  [ StableHlo.binary main_v71 main_arg3 main_v72 ((fun l r => Host.dotGeneral dot_S16x256x16x16_S16x16_S16x256x16x16_3_1_012_0_n_n none l r) : (⟨S16x256x16x16, .f32⟩ : BufTy).Contents (Elt F) → (⟨S16x16, .f32⟩ : BufTy).Contents (Elt F) → (⟨S16x256x16x16, .f32⟩ : BufTy).Contents (Elt F)),
    StableHlo.unary main_arg4 main_v73 (broadcastInDim S1x1x1x16 ![3] bcast_S16_S1x1x1x16_3 : (⟨S16, .f32⟩ : BufTy).Contents (Elt F) → (⟨S1x1x1x16, .f32⟩ : BufTy).Contents (Elt F)),
    StableHlo.unary main_v73 main_v74 (broadcastInDim S16x256x16x16 ![0, 1, 2, 3] bcast_S1x1x1x16_S16x256x16x16_0_1_2_3 : (⟨S1x1x1x16, .f32⟩ : BufTy).Contents (Elt F) → (⟨S16x256x16x16, .f32⟩ : BufTy).Contents (Elt F)),
    StableHlo.binary main_v72 main_v74 main_v75 (addf : (⟨S16x256x16x16, .f32⟩ : BufTy).Contents (Elt F) → (⟨S16x256x16x16, .f32⟩ : BufTy).Contents (Elt F) → (⟨S16x256x16x16, .f32⟩ : BufTy).Contents (Elt F)) ]
theorem main_part1_ops5_sub : (main_part1_ops5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 operations of @relu, in order. -/
abbrev main_part1_ops6 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S16x256x16x16, .f32⟩) (broadcastInDim S16x256x16x16 ![] bcast_S_S16x256x16x16),
    StableHlo.TRef.binary (.of main_v75 : StableHlo.TRef sig ⟨S16x256x16x16, .f32⟩) (.of main_call5_v0 : StableHlo.TRef sig ⟨S16x256x16x16, .f32⟩) (.of main_v76 : StableHlo.TRef sig ⟨S16x256x16x16, .f32⟩) maximumf ]
theorem main_part1_ops6_sub : (main_part1_ops6 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev main_part1_ops7 : List (HloOp τ sig (Elt F)) :=
  [ StableHlo.binary main_v76 main_arg5 main_v77 ((fun l r => Host.dotGeneral dot_S16x256x16x16_S32x16_S16x256x16x32_3_1_012_0_n_n none l r) : (⟨S16x256x16x16, .f32⟩ : BufTy).Contents (Elt F) → (⟨S32x16, .f32⟩ : BufTy).Contents (Elt F) → (⟨S16x256x16x32, .f32⟩ : BufTy).Contents (Elt F)),
    StableHlo.unary main_arg6 main_v78 (broadcastInDim S1x1x1x32 ![3] bcast_S32_S1x1x1x32_3 : (⟨S32, .f32⟩ : BufTy).Contents (Elt F) → (⟨S1x1x1x32, .f32⟩ : BufTy).Contents (Elt F)),
    StableHlo.unary main_v78 main_v79 (broadcastInDim S16x256x16x32 ![0, 1, 2, 3] bcast_S1x1x1x32_S16x256x16x32_0_1_2_3 : (⟨S1x1x1x32, .f32⟩ : BufTy).Contents (Elt F) → (⟨S16x256x16x32, .f32⟩ : BufTy).Contents (Elt F)),
    StableHlo.binary main_v77 main_v79 main_v80 (addf : (⟨S16x256x16x32, .f32⟩ : BufTy).Contents (Elt F) → (⟨S16x256x16x32, .f32⟩ : BufTy).Contents (Elt F) → (⟨S16x256x16x32, .f32⟩ : BufTy).Contents (Elt F)) ]
theorem main_part1_ops7_sub : (main_part1_ops7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 operations of @relu_1, in order. -/
abbrev main_part1_ops8 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S16x256x16x32, .f32⟩) (broadcastInDim S16x256x16x32 ![] bcast_S_S16x256x16x32),
    StableHlo.TRef.binary (.of main_v80 : StableHlo.TRef sig ⟨S16x256x16x32, .f32⟩) (.of main_call6_v0 : StableHlo.TRef sig ⟨S16x256x16x32, .f32⟩) (.of main_v81 : StableHlo.TRef sig ⟨S16x256x16x32, .f32⟩) maximumf ]
theorem main_part1_ops8_sub : (main_part1_ops8 : List (HloOp τ sig (Elt F))).Forall fun op => op.bufs ⊆ StableHlo.tcRefs τ sig :=
  ⟨StableHlo.nullary_bufs_sub .., StableHlo.unary_bufs_sub .., StableHlo.binary_bufs_sub ..⟩
/-- 13 operations of @main, in order. -/
abbrev main_part1_ops9 : List (HloOp τ sig (Elt F)) :=
  [ StableHlo.nullary main_cst_17 (constant S_ .f32 0xFF800000#32),
    StableHlo.binary main_v81 main_cst_17 main_v82 ((fun x v => Host.reduce FloatOps.maximumf x v reducesTo_S16x256x16x32_S16x256x32_d2 h_S_) : (⟨S16x256x16x32, .f32⟩ : BufTy).Contents (Elt F) → (⟨S_, .f32⟩ : BufTy).Contents (Elt F) → (⟨S16x256x32, .f32⟩ : BufTy).Contents (Elt F)),
    StableHlo.unary main_arg0 main_v83 ((transpose S16x3x2048 [0, 2, 1] · transposes_S16x2048x3_S16x3x2048_0_2_1) : (⟨S16x2048x3, .f32⟩ : BufTy).Contents (Elt F) → (⟨S16x3x2048, .f32⟩ : BufTy).Contents (Elt F)),
    StableHlo.binary main_v20 main_v83 main_v84 ((fun l r => Host.dotGeneral dot_S16x256x3_S16x3x2048_S16x256x2048_2_1_1_2_0_0 none l r) : (⟨S16x256x3, .f32⟩ : BufTy).Contents (Elt F) → (⟨S16x3x2048, .f32⟩ : BufTy).Contents (Elt F) → (⟨S16x256x2048, .f32⟩ : BufTy).Contents (Elt F)),
    StableHlo.nullary main_cst_18 (constant S_ .f32 0xC0000000#32),
    StableHlo.unary main_cst_18 main_v85 (broadcastInDim S16x256x2048 ![] bcast_S_S16x256x2048 : (⟨S_, .f32⟩ : BufTy).Contents (Elt F) → (⟨S16x256x2048, .f32⟩ : BufTy).Contents (Elt F)),
    StableHlo.binary main_v85 main_v84 main_v86 (mulf : (⟨S16x256x2048, .f32⟩ : BufTy).Contents (Elt F) → (⟨S16x256x2048, .f32⟩ : BufTy).Contents (Elt F) → (⟨S16x256x2048, .f32⟩ : BufTy).Contents (Elt F)),
    StableHlo.binary main_v20 main_v20 main_v87 (mulf : (⟨S16x256x3, .f32⟩ : BufTy).Contents (Elt F) → (⟨S16x256x3, .f32⟩ : BufTy).Contents (Elt F) → (⟨S16x256x3, .f32⟩ : BufTy).Contents (Elt F)),
    StableHlo.nullary main_cst_19 (constant S_ .f32 0x00000000#32),
    StableHlo.binary main_v87 main_cst_19 main_v88 ((fun x v => Host.reduceAdd x v reducesTo_S16x256x3_S16x256_d2 h_S_) : (⟨S16x256x3, .f32⟩ : BufTy).Contents (Elt F) → (⟨S_, .f32⟩ : BufTy).Contents (Elt F) → (⟨S16x256, .f32⟩ : BufTy).Contents (Elt F)),
    StableHlo.unary main_v88 main_v89 (broadcastInDim S16x256x1 ![0, 1] bcast_S16x256_S16x256x1_0_1 : (⟨S16x256, .f32⟩ : BufTy).Contents (Elt F) → (⟨S16x256x1, .f32⟩ : BufTy).Contents (Elt F)),
    StableHlo.unary main_v89 main_v90 (broadcastInDim S16x256x2048 ![0, 1, 2] bcast_S16x256x1_S16x256x2048_0_1_2 : (⟨S16x256x1, .f32⟩ : BufTy).Contents (Elt F) → (⟨S16x256x2048, .f32⟩ : BufTy).Contents (Elt F)),
    StableHlo.binary main_v86 main_v90 main_v91 (addf : (⟨S16x256x2048, .f32⟩ : BufTy).Contents (Elt F) → (⟨S16x256x2048, .f32⟩ : BufTy).Contents (Elt F) → (⟨S16x256x2048, .f32⟩ : BufTy).Contents (Elt F)) ]
theorem main_part1_ops9_sub : (main_part1_ops9 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8 ]
  (StableHlo.seq main_part1_ops9) : Prog (TpuEff nD τ sig (Elt F) (HostLoop.Sig (Pipeline.Sig Λ₀ (Fin 0) fun p => (pcfgs (F := F) p).Adm) 1) .tc) PUnit) := by
  rewrite [Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 12 operations of @main, in order. -/
abbrev main_part2_ops0 : List (HloOp τ sig (Elt F)) :=
  [ StableHlo.binary main_arg0 main_arg0 main_v92 (mulf : (⟨S16x2048x3, .f32⟩ : BufTy).Contents (Elt F) → (⟨S16x2048x3, .f32⟩ : BufTy).Contents (Elt F) → (⟨S16x2048x3, .f32⟩ : BufTy).Contents (Elt F)),
    StableHlo.nullary main_cst_20 (constant S_ .f32 0x00000000#32),
    StableHlo.binary main_v92 main_cst_20 main_v93 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    StableHlo.unary main_v93 main_v94 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v94 main_v95 (broadcastInDim S16x256x2048 ![0, 1, 2] bcast_S16x1x2048_S16x256x2048_0_1_2 : (⟨S16x1x2048, .f32⟩ : BufTy).Contents (Elt F) → (⟨S16x256x2048, .f32⟩ : BufTy).Contents (Elt F)),
    StableHlo.binary main_v91 main_v95 main_v96 (addf : (⟨S16x256x2048, .f32⟩ : BufTy).Contents (Elt F) → (⟨S16x256x2048, .f32⟩ : BufTy).Contents (Elt F) → (⟨S16x256x2048, .f32⟩ : BufTy).Contents (Elt F)),
    StableHlo.nullary main_v97 (iotaInDim S2048 32 0),
    StableHlo.unary main_v97 main_v98 (broadcastInDim S16x256x2048 ![2] bcast_S2048_S16x256x2048_2 : (⟨S2048, .i32⟩ : BufTy).Contents (Elt F) → (⟨S16x256x2048, .i32⟩ : BufTy).Contents (Elt F)),
    StableHlo.nullary main_cst_21 (constant S_ .f32 0x3D23D70A#32),
    StableHlo.unary main_cst_21 main_v99 (broadcastInDim S16x256x2048 ![] bcast_S_S16x256x2048 : (⟨S_, .f32⟩ : BufTy).Contents (Elt F) → (⟨S16x256x2048, .f32⟩ : BufTy).Contents (Elt F)),
    StableHlo.binary main_v96 main_v99 main_v100 (cmpf .ogt : (⟨S16x256x2048, .f32⟩ : BufTy).Contents (Elt F) → (⟨S16x256x2048, .f32⟩ : BufTy).Contents (Elt F) → (⟨S16x256x2048, .i1⟩ : BufTy).Contents (Elt F)),
    StableHlo.nullary main_c_22 (constantI S_ 32 2048#32) ]
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub ..⟩
/-- 3 operations of @_where, in order. -/
abbrev main_part2_ops1 : List (HloOp τ sig (Elt F)) :=
  [ StableHlo.TRef.unary (.of main_c_22 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S16x256x2048, .i32⟩) (broadcastInDim S16x256x2048 ![] bcast_S_S16x256x2048),
    StableHlo.TRef.ternary (.of main_v100 : StableHlo.TRef sig ⟨S16x256x2048, .i1⟩) (.of main_call7_v1 : StableHlo.TRef sig ⟨S16x256x2048, .i32⟩) (.of main_v98 : StableHlo.TRef sig ⟨S16x256x2048, .i32⟩) (.of main_v101 : StableHlo.TRef sig ⟨S16x256x2048, .i32⟩) select ]
theorem main_part2_ops1_sub : (main_part2_ops1 : List (HloOp τ sig (Elt F))).Forall fun op => op.bufs ⊆ StableHlo.tcRefs τ sig :=
  ⟨StableHlo.unary_bufs_sub .., StableHlo.unary_bufs_sub .., StableHlo.ternary_bufs_sub ..⟩
/-- 1 operations of @sort, in order. -/
abbrev main_part2_ops2 : List (HloOp τ sig (Elt F)) :=
  [ StableHlo.TRef.unary (.of main_v101 : StableHlo.TRef sig ⟨S16x256x2048, .i32⟩) (.of main_v102 : StableHlo.TRef sig ⟨S16x256x2048, .i32⟩) (fun x => Host.sort S16x256x2048 2 comparator_i32_d2 x) ]
theorem main_part2_ops2_sub : (main_part2_ops2 : List (HloOp τ sig (Elt F))).Forall fun op => op.bufs ⊆ StableHlo.tcRefs τ sig :=
  StableHlo.unary_bufs_sub ..
/-- 6 operations of @main, in order. -/
abbrev main_part2_ops3 : List (HloOp τ sig (Elt F)) :=
  [ StableHlo.unary main_v102 main_v103 ((extractStridedSlice S16x256x32 ![0, 0, 0] · slices_S16x256x2048_S16x256x32_0_0_0) : (⟨S16x256x2048, .i32⟩ : BufTy).Contents (Elt F) → (⟨S16x256x32, .i32⟩ : BufTy).Contents (Elt F)),
    StableHlo.unary main_v103 main_v104 ((extractStridedSlice S16x256x1 ![0, 0, 0] · slices_S16x256x32_S16x256x1_0_0_0) : (⟨S16x256x32, .i32⟩ : BufTy).Contents (Elt F) → (⟨S16x256x1, .i32⟩ : BufTy).Contents (Elt F)),
    StableHlo.nullary main_c_23 (constantI S_ 32 2048#32),
    StableHlo.unary main_c_23 main_v105 (broadcastInDim S16x256x32 ![] bcast_S_S16x256x32 : (⟨S_, .i32⟩ : BufTy).Contents (Elt F) → (⟨S16x256x32, .i32⟩ : BufTy).Contents (Elt F)),
    StableHlo.binary main_v103 main_v105 main_v106 (cmpi .eq : (⟨S16x256x32, .i32⟩ : BufTy).Contents (Elt F) → (⟨S16x256x32, .i32⟩ : BufTy).Contents (Elt F) → (⟨S16x256x32, .i1⟩ : BufTy).Contents (Elt F)),
    StableHlo.unary main_v104 main_v107 (broadcastInDim S16x256x32 ![0, 1, 2] bcast_S16x256x1_S16x256x32_0_1_2 : (⟨S16x256x1, .i32⟩ : BufTy).Contents (Elt F) → (⟨S16x256x32, .i32⟩ : BufTy).Contents (Elt F)) ]
theorem main_part2_ops3_sub : (main_part2_ops3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub ..⟩
/-- 1 operations of @_where_2, in order. -/
abbrev main_part2_ops4 : List (HloOp τ sig (Elt F)) :=
  [ StableHlo.TRef.ternary (.of main_v106 : StableHlo.TRef sig ⟨S16x256x32, .i1⟩) (.of main_v107 : StableHlo.TRef sig ⟨S16x256x32, .i32⟩) (.of main_v103 : StableHlo.TRef sig ⟨S16x256x32, .i32⟩) (.of main_v108 : StableHlo.TRef sig ⟨S16x256x32, .i32⟩) select ]
theorem main_part2_ops4_sub : (main_part2_ops4 : List (HloOp τ sig (Elt F))).Forall fun op => op.bufs ⊆ StableHlo.tcRefs τ sig :=
  StableHlo.ternary_bufs_sub ..
/-- 28 operations of @main, in order. -/
abbrev main_part2_ops5 : List (HloOp τ sig (Elt F)) :=
  [ StableHlo.nullary main_v109 (iotaInDim S16 32 0),
    StableHlo.reshape main_v109 main_v110 (rfl : (.i32 : EltTy) = .i32) shapeCasts_S16_S16x1x1,
    StableHlo.nullary main_c_24 (constantI S_ 32 0#32),
    StableHlo.unary main_c_24 main_v111 (broadcastInDim S16x1x1 ![] bcast_S_S16x1x1 : (⟨S_, .i32⟩ : BufTy).Contents (Elt F) → (⟨S16x1x1, .i32⟩ : BufTy).Contents (Elt F)),
    StableHlo.binary main_v110 main_v111 main_v112 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_25 (constantI S_ 32 16#32),
    StableHlo.unary main_c_25 main_v113 (broadcastInDim S16x1x1 ![] bcast_S_S16x1x1 : (⟨S_, .i32⟩ : BufTy).Contents (Elt F) → (⟨S16x1x1, .i32⟩ : BufTy).Contents (Elt F)),
    StableHlo.binary main_v110 main_v113 main_v114 (addi : (⟨S16x1x1, .i32⟩ : BufTy).Contents (Elt F) → (⟨S16x1x1, .i32⟩ : BufTy).Contents (Elt F) → (⟨S16x1x1, .i32⟩ : BufTy).Contents (Elt F)),
    StableHlo.ternary main_v112 main_v114 main_v110 main_v115 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_26 (constantI S_ 32 0#32),
    StableHlo.unary main_c_26 main_v116 (broadcastInDim S16x256x32 ![] bcast_S_S16x256x32 : (⟨S_, .i32⟩ : BufTy).Contents (Elt F) → (⟨S16x256x32, .i32⟩ : BufTy).Contents (Elt F)),
    StableHlo.binary main_v108 main_v116 main_v117 (cmpi .slt : (⟨S16x256x32, .i32⟩ : BufTy).Contents (Elt F) → (⟨S16x256x32, .i32⟩ : BufTy).Contents (Elt F) → (⟨S16x256x32, .i1⟩ : BufTy).Contents (Elt F)),
    StableHlo.nullary main_c_27 (constantI S_ 32 2048#32),
    StableHlo.unary main_c_27 main_v118 (broadcastInDim S16x256x32 ![] bcast_S_S16x256x32 : (⟨S_, .i32⟩ : BufTy).Contents (Elt F) → (⟨S16x256x32, .i32⟩ : BufTy).Contents (Elt F)),
    StableHlo.binary main_v108 main_v118 main_v119 (addi : (⟨S16x256x32, .i32⟩ : BufTy).Contents (Elt F) → (⟨S16x256x32, .i32⟩ : BufTy).Contents (Elt F) → (⟨S16x256x32, .i32⟩ : BufTy).Contents (Elt F)),
    StableHlo.ternary main_v117 main_v119 main_v108 main_v120 (select : (⟨S16x256x32, .i1⟩ : BufTy).Contents (Elt F) → (⟨S16x256x32, .i32⟩ : BufTy).Contents (Elt F) → (⟨S16x256x32, .i32⟩ : BufTy).Contents (Elt F) → (⟨S16x256x32, .i32⟩ : BufTy).Contents (Elt F)),
    StableHlo.unary main_v115 main_v121 (broadcastInDim S16x256x32 ![0, 1, 2] bcast_S16x1x1_S16x256x32_0_1_2 : (⟨S16x1x1, .i32⟩ : BufTy).Contents (Elt F) → (⟨S16x256x32, .i32⟩ : BufTy).Contents (Elt F)),
    StableHlo.unary main_v121 main_v122 (broadcastInDim S16x256x32x1 ![0, 1, 2] bcast_S16x256x32_S16x256x32x1_0_1_2 : (⟨S16x256x32, .i32⟩ : BufTy).Contents (Elt F) → (⟨S16x256x32x1, .i32⟩ : BufTy).Contents (Elt F)),
    StableHlo.unary main_v120 main_v123 (broadcastInDim S16x256x32x1 ![0, 1, 2] bcast_S16x256x32_S16x256x32x1_0_1_2 : (⟨S16x256x32, .i32⟩ : BufTy).Contents (Elt F) → (⟨S16x256x32x1, .i32⟩ : BufTy).Contents (Elt F)),
    StableHlo.binary main_v122 main_v123 main_v124 ((fun a b => concatenate S16x256x32x2 3 [⟨S16x256x32x1, a⟩, ⟨S16x256x32x1, b⟩] concatenates_S16x256x32x1_S16x256x32x1_S16x256x32x2_d3) : (⟨S16x256x32x1, .i32⟩ : BufTy).Contents (Elt F) → (⟨S16x256x32x1, .i32⟩ : BufTy).Contents (Elt F) → (⟨S16x256x32x2, .i32⟩ : BufTy).Contents (Elt F)),
    StableHlo.binary main_arg0 main_v124 main_v125 ((fun x i => Host.gather gather_S16x2048x3_S16x256x32x2_S16x256x32x3_3_01_n_n_01_3_113 x i) : (⟨S16x2048x3, .f32⟩ : BufTy).Contents (Elt F) → (⟨S16x256x32x2, .i32⟩ : BufTy).Contents (Elt F) → (⟨S16x256x32x3, .f32⟩ : BufTy).Contents (Elt F)),
    StableHlo.unary main_v20 main_v126 (broadcastInDim S16x256x1x3 ![0, 1, 3] bcast_S16x256x3_S16x256x1x3_0_1_3 : (⟨S16x256x3, .f32⟩ : BufTy).Contents (Elt F) → (⟨S16x256x1x3, .f32⟩ : BufTy).Contents (Elt F)),
    StableHlo.unary main_v126 main_v127 (broadcastInDim S16x256x32x3 ![0, 1, 2, 3] bcast_S16x256x1x3_S16x256x32x3_0_1_2_3 : (⟨S16x256x1x3, .f32⟩ : BufTy).Contents (Elt F) → (⟨S16x256x32x3, .f32⟩ : BufTy).Contents (Elt F)),
    StableHlo.binary main_v125 main_v127 main_v128 (subf : (⟨S16x256x32x3, .f32⟩ : BufTy).Contents (Elt F) → (⟨S16x256x32x3, .f32⟩ : BufTy).Contents (Elt F) → (⟨S16x256x32x3, .f32⟩ : BufTy).Contents (Elt F)),
    StableHlo.binary main_v128 main_arg7 main_v129 ((fun l r => Host.dotGeneral dot_S16x256x32x3_S32x3_S16x256x32x32_3_1_012_0_n_n none l r) : (⟨S16x256x32x3, .f32⟩ : BufTy).Contents (Elt F) → (⟨S32x3, .f32⟩ : BufTy).Contents (Elt F) → (⟨S16x256x32x32, .f32⟩ : BufTy).Contents (Elt F)),
    StableHlo.unary main_arg8 main_v130 (broadcastInDim S1x1x1x32 ![3] bcast_S32_S1x1x1x32_3 : (⟨S32, .f32⟩ : BufTy).Contents (Elt F) → (⟨S1x1x1x32, .f32⟩ : BufTy).Contents (Elt F)),
    StableHlo.unary main_v130 main_v131 (broadcastInDim S16x256x32x32 ![0, 1, 2, 3] bcast_S1x1x1x32_S16x256x32x32_0_1_2_3 : (⟨S1x1x1x32, .f32⟩ : BufTy).Contents (Elt F) → (⟨S16x256x32x32, .f32⟩ : BufTy).Contents (Elt F)),
    StableHlo.binary main_v129 main_v131 main_v132 (addf : (⟨S16x256x32x32, .f32⟩ : BufTy).Contents (Elt F) → (⟨S16x256x32x32, .f32⟩ : BufTy).Contents (Elt F) → (⟨S16x256x32x32, .f32⟩ : BufTy).Contents (Elt F)) ]
theorem main_part2_ops5_sub : (main_part2_ops5 : List (HloOp τ sig (Elt F))).Forall fun op => op.bufs ⊆ StableHlo.tcRefs τ sig :=
  ⟨StableHlo.nullary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- 3 operations of @relu_3, in order. -/
abbrev main_part2_ops6 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S16x256x32x32, .f32⟩) (broadcastInDim S16x256x32x32 ![] bcast_S_S16x256x32x32),
    StableHlo.TRef.binary (.of main_v132 : StableHlo.TRef sig ⟨S16x256x32x32, .f32⟩) (.of main_call10_v0 : StableHlo.TRef sig ⟨S16x256x32x32, .f32⟩) (.of main_v133 : StableHlo.TRef sig ⟨S16x256x32x32, .f32⟩) maximumf ]
theorem main_part2_ops6_sub : (main_part2_ops6 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev main_part2_ops7 : List (HloOp τ sig (Elt F)) :=
  [ StableHlo.binary main_v133 main_arg9 main_v134 ((fun l r => Host.dotGeneral dot_S16x256x32x32_S32x32_S16x256x32x32_3_1_012_0_n_n none l r) : (⟨S16x256x32x32, .f32⟩ : BufTy).Contents (Elt F) → (⟨S32x32, .f32⟩ : BufTy).Contents (Elt F) → (⟨S16x256x32x32, .f32⟩ : BufTy).Contents (Elt F)),
    StableHlo.unary main_arg10 main_v135 (broadcastInDim S1x1x1x32 ![3] bcast_S32_S1x1x1x32_3 : (⟨S32, .f32⟩ : BufTy).Contents (Elt F) → (⟨S1x1x1x32, .f32⟩ : BufTy).Contents (Elt F)),
    StableHlo.unary main_v135 main_v136 (broadcastInDim S16x256x32x32 ![0, 1, 2, 3] bcast_S1x1x1x32_S16x256x32x32_0_1_2_3 : (⟨S1x1x1x32, .f32⟩ : BufTy).Contents (Elt F) → (⟨S16x256x32x32, .f32⟩ : BufTy).Contents (Elt F)),
    StableHlo.binary main_v134 main_v136 main_v137 (addf : (⟨S16x256x32x32, .f32⟩ : BufTy).Contents (Elt F) → (⟨S16x256x32x32, .f32⟩ : BufTy).Contents (Elt F) → (⟨S16x256x32x32, .f32⟩ : BufTy).Contents (Elt F)) ]
theorem main_part2_ops7_sub : (main_part2_ops7 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 operations of @relu_3, in order. -/
abbrev main_part2_ops8 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S16x256x32x32, .f32⟩) (broadcastInDim S16x256x32x32 ![] bcast_S_S16x256x32x32),
    StableHlo.TRef.binary (.of main_v137 : StableHlo.TRef sig ⟨S16x256x32x32, .f32⟩) (.of main_call11_v0 : StableHlo.TRef sig ⟨S16x256x32x32, .f32⟩) (.of main_v138 : StableHlo.TRef sig ⟨S16x256x32x32, .f32⟩) maximumf ]
theorem main_part2_ops8_sub : (main_part2_ops8 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev main_part2_ops9 : List (HloOp τ sig (Elt F)) :=
  [ StableHlo.binary main_v138 main_arg11 main_v139 ((fun l r => Host.dotGeneral dot_S16x256x32x32_S64x32_S16x256x32x64_3_1_012_0_n_n none l r) : (⟨S16x256x32x32, .f32⟩ : BufTy).Contents (Elt F) → (⟨S64x32, .f32⟩ : BufTy).Contents (Elt F) → (⟨S16x256x32x64, .f32⟩ : BufTy).Contents (Elt F)),
    StableHlo.unary main_arg12 main_v140 (broadcastInDim S1x1x1x64 ![3] bcast_S64_S1x1x1x64_3 : (⟨S64, .f32⟩ : BufTy).Contents (Elt F) → (⟨S1x1x1x64, .f32⟩ : BufTy).Contents (Elt F)),
    StableHlo.unary main_v140 main_v141 (broadcastInDim S16x256x32x64 ![0, 1, 2, 3] bcast_S1x1x1x64_S16x256x32x64_0_1_2_3 : (⟨S1x1x1x64, .f32⟩ : BufTy).Contents (Elt F) → (⟨S16x256x32x64, .f32⟩ : BufTy).Contents (Elt F)),
    StableHlo.binary main_v139 main_v141 main_v142 (addf : (⟨S16x256x32x64, .f32⟩ : BufTy).Contents (Elt F) → (⟨S16x256x32x64, .f32⟩ : BufTy).Contents (Elt F) → (⟨S16x256x32x64, .f32⟩ : BufTy).Contents (Elt F)) ]
theorem main_part2_ops9_sub : (main_part2_ops9 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 operations of @relu_4, in order. -/
abbrev main_part2_ops10 : List (HloOp τ sig (Elt F)) :=
  [ StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S16x256x32x64, .f32⟩) (broadcastInDim S16x256x32x64 ![] bcast_S_S16x256x32x64),
    StableHlo.TRef.binary (.of main_v142 : StableHlo.TRef sig ⟨S16x256x32x64, .f32⟩) (.of main_call12_v0 : StableHlo.TRef sig ⟨S16x256x32x64, .f32⟩) (.of main_v143 : StableHlo.TRef sig ⟨S16x256x32x64, .f32⟩) maximumf ]
theorem main_part2_ops10_sub : (main_part2_ops10 : List (HloOp τ sig (Elt F))).Forall fun op => op.bufs ⊆ StableHlo.tcRefs τ sig :=
  ⟨StableHlo.nullary_bufs_sub .., StableHlo.unary_bufs_sub .., StableHlo.binary_bufs_sub ..⟩
/-- Window 2 of `main` (`main_part2`, statements 121 … 180) is the chain of ITS items ending in the last
    (`Pipeline.chainK`: no closing `pure`, the window's last statement being in tail position), each item but the last aligned with the
    window's statements, then `chain_rfl`. -/
theorem main_part2_chain (c : Dev nD) : main_part2 (F := F) c = (Pipeline.chainK
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part2_ops9 ]
  (StableHlo.seq main_part2_ops10) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, Pipeline.chainK_cons, StableHlo.chainK_seq_cons, Pipeline.chainK_cons, StableHlo.chainK_seq_cons, Pipeline.chainK_cons, StableHlo.chainK_seq_cons, Pipeline.chainK_cons, StableHlo.chainK_seq_cons]
  chain_rfl

/-- 25 operations of @main, in order. -/
abbrev main_part3_ops0 : List (HloOp τ sig (Elt F)) :=
  [ StableHlo.nullary main_cst_28 (constant S_ .f32 0xFF800000#32),
    StableHlo.binary main_v143 main_cst_28 main_v144 ((fun x v => Host.reduce FloatOps.maximumf x v reducesTo_S16x256x32x64_S16x256x64_d2 h_S_) : (⟨S16x256x32x64, .f32⟩ : BufTy).Contents (Elt F) → (⟨S_, .f32⟩ : BufTy).Contents (Elt F) → (⟨S16x256x64, .f32⟩ : BufTy).Contents (Elt F)),
    StableHlo.unary main_arg0 main_v145 ((transpose S16x3x2048 [0, 2, 1] · transposes_S16x2048x3_S16x3x2048_0_2_1) : (⟨S16x2048x3, .f32⟩ : BufTy).Contents (Elt F) → (⟨S16x3x2048, .f32⟩ : BufTy).Contents (Elt F)),
    StableHlo.binary main_v20 main_v145 main_v146 ((fun l r => Host.dotGeneral dot_S16x256x3_S16x3x2048_S16x256x2048_2_1_1_2_0_0 none l r) : (⟨S16x256x3, .f32⟩ : BufTy).Contents (Elt F) → (⟨S16x3x2048, .f32⟩ : BufTy).Contents (Elt F) → (⟨S16x256x2048, .f32⟩ : BufTy).Contents (Elt F)),
    StableHlo.nullary main_cst_29 (constant S_ .f32 0xC0000000#32),
    StableHlo.unary main_cst_29 main_v147 (broadcastInDim S16x256x2048 ![] bcast_S_S16x256x2048 : (⟨S_, .f32⟩ : BufTy).Contents (Elt F) → (⟨S16x256x2048, .f32⟩ : BufTy).Contents (Elt F)),
    StableHlo.binary main_v147 main_v146 main_v148 (mulf : (⟨S16x256x2048, .f32⟩ : BufTy).Contents (Elt F) → (⟨S16x256x2048, .f32⟩ : BufTy).Contents (Elt F) → (⟨S16x256x2048, .f32⟩ : BufTy).Contents (Elt F)),
    StableHlo.binary main_v20 main_v20 main_v149 (mulf : (⟨S16x256x3, .f32⟩ : BufTy).Contents (Elt F) → (⟨S16x256x3, .f32⟩ : BufTy).Contents (Elt F) → (⟨S16x256x3, .f32⟩ : BufTy).Contents (Elt F)),
    StableHlo.nullary main_cst_30 (constant S_ .f32 0x00000000#32),
    StableHlo.binary main_v149 main_cst_30 main_v150 ((fun x v => Host.reduceAdd x v reducesTo_S16x256x3_S16x256_d2 h_S_) : (⟨S16x256x3, .f32⟩ : BufTy).Contents (Elt F) → (⟨S_, .f32⟩ : BufTy).Contents (Elt F) → (⟨S16x256, .f32⟩ : BufTy).Contents (Elt F)),
    StableHlo.unary main_v150 main_v151 (broadcastInDim S16x256x1 ![0, 1] bcast_S16x256_S16x256x1_0_1 : (⟨S16x256, .f32⟩ : BufTy).Contents (Elt F) → (⟨S16x256x1, .f32⟩ : BufTy).Contents (Elt F)),
    StableHlo.unary main_v151 main_v152 (broadcastInDim S16x256x2048 ![0, 1, 2] bcast_S16x256x1_S16x256x2048_0_1_2 : (⟨S16x256x1, .f32⟩ : BufTy).Contents (Elt F) → (⟨S16x256x2048, .f32⟩ : BufTy).Contents (Elt F)),
    StableHlo.binary main_v148 main_v152 main_v153 (addf : (⟨S16x256x2048, .f32⟩ : BufTy).Contents (Elt F) → (⟨S16x256x2048, .f32⟩ : BufTy).Contents (Elt F) → (⟨S16x256x2048, .f32⟩ : BufTy).Contents (Elt F)),
    StableHlo.binary main_arg0 main_arg0 main_v154 (mulf : (⟨S16x2048x3, .f32⟩ : BufTy).Contents (Elt F) → (⟨S16x2048x3, .f32⟩ : BufTy).Contents (Elt F) → (⟨S16x2048x3, .f32⟩ : BufTy).Contents (Elt F)),
    StableHlo.nullary main_cst_31 (constant S_ .f32 0x00000000#32),
    StableHlo.binary main_v154 main_cst_31 main_v155 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    StableHlo.unary main_v155 main_v156 (broadcastInDim S16x1x2048 ![0, 2] bcast_S16x2048_S16x1x2048_0_2 : (⟨S16x2048, .f32⟩ : BufTy).Contents (Elt F) → (⟨S16x1x2048, .f32⟩ : BufTy).Contents (Elt F)),
    StableHlo.unary main_v156 main_v157 (broadcastInDim S16x256x2048 ![0, 1, 2] bcast_S16x1x2048_S16x256x2048_0_1_2 : (⟨S16x1x2048, .f32⟩ : BufTy).Contents (Elt F) → (⟨S16x256x2048, .f32⟩ : BufTy).Contents (Elt F)),
    StableHlo.binary main_v153 main_v157 main_v158 (addf : (⟨S16x256x2048, .f32⟩ : BufTy).Contents (Elt F) → (⟨S16x256x2048, .f32⟩ : BufTy).Contents (Elt F) → (⟨S16x256x2048, .f32⟩ : BufTy).Contents (Elt F)),
    StableHlo.nullary main_v159 (iotaInDim S2048 32 0),
    StableHlo.unary main_v159 main_v160 (broadcastInDim S16x256x2048 ![2] bcast_S2048_S16x256x2048_2 : (⟨S2048, .i32⟩ : BufTy).Contents (Elt F) → (⟨S16x256x2048, .i32⟩ : BufTy).Contents (Elt F)),
    StableHlo.nullary main_cst_32 (constant S_ .f32 0x3E23D70A#32),
    StableHlo.unary main_cst_32 main_v161 (broadcastInDim S16x256x2048 ![] bcast_S_S16x256x2048 : (⟨S_, .f32⟩ : BufTy).Contents (Elt F) → (⟨S16x256x2048, .f32⟩ : BufTy).Contents (Elt F)),
    StableHlo.binary main_v158 main_v161 main_v162 (cmpf .ogt : (⟨S16x256x2048, .f32⟩ : BufTy).Contents (Elt F) → (⟨S16x256x2048, .f32⟩ : BufTy).Contents (Elt F) → (⟨S16x256x2048, .i1⟩ : BufTy).Contents (Elt F)),
    StableHlo.nullary main_c_33 (constantI S_ 32 2048#32) ]
theorem main_part3_ops0_sub : (main_part3_ops0 : List (HloOp τ sig (Elt F))).Forall fun op => op.bufs ⊆ StableHlo.tcRefs τ sig :=
  ⟨StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub ..⟩
/-- 3 operations of @_where, in order. -/
abbrev main_part3_ops1 : List (HloOp τ sig (Elt F)) :=
  [ StableHlo.TRef.unary (.of main_c_33 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S16x256x2048, .i32⟩) (broadcastInDim S16x256x2048 ![] bcast_S_S16x256x2048),
    StableHlo.TRef.ternary (.of main_v162 : StableHlo.TRef sig ⟨S16x256x2048, .i1⟩) (.of main_call13_v1 : StableHlo.TRef sig ⟨S16x256x2048, .i32⟩) (.of main_v160 : StableHlo.TRef sig ⟨S16x256x2048, .i32⟩) (.of main_v163 : StableHlo.TRef sig ⟨S16x256x2048, .i32⟩) select ]
theorem main_part3_ops1_sub : (main_part3_ops1 : List (HloOp τ sig (Elt F))).Forall fun op => op.bufs ⊆ StableHlo.tcRefs τ sig :=
  ⟨StableHlo.unary_bufs_sub .., StableHlo.unary_bufs_sub .., StableHlo.ternary_bufs_sub ..⟩
/-- 1 operations of @sort, in order. -/
abbrev main_part3_ops2 : List (HloOp τ sig (Elt F)) :=
  [ StableHlo.TRef.unary (.of main_v163 : StableHlo.TRef sig ⟨S16x256x2048, .i32⟩) (.of main_v164 : StableHlo.TRef sig ⟨S16x256x2048, .i32⟩) (fun x => Host.sort S16x256x2048 2 comparator_i32_d2 x) ]
theorem main_part3_ops2_sub : (main_part3_ops2 : List (HloOp τ sig (Elt F))).Forall fun op => op.bufs ⊆ StableHlo.tcRefs τ sig :=
  StableHlo.unary_bufs_sub ..
/-- 6 operations of @main, in order. -/
abbrev main_part3_ops3 : List (HloOp τ sig (Elt F)) :=
  [ StableHlo.unary main_v164 main_v165 ((extractStridedSlice S16x256x128 ![0, 0, 0] · slices_S16x256x2048_S16x256x128_0_0_0) : (⟨S16x256x2048, .i32⟩ : BufTy).Contents (Elt F) → (⟨S16x256x128, .i32⟩ : BufTy).Contents (Elt F)),
    StableHlo.unary main_v165 main_v166 ((extractStridedSlice S16x256x1 ![0, 0, 0] · slices_S16x256x128_S16x256x1_0_0_0) : (⟨S16x256x128, .i32⟩ : BufTy).Contents (Elt F) → (⟨S16x256x1, .i32⟩ : BufTy).Contents (Elt F)),
    StableHlo.nullary main_c_34 (constantI S_ 32 2048#32),
    StableHlo.unary main_c_34 main_v167 (broadcastInDim S16x256x128 ![] bcast_S_S16x256x128 : (⟨S_, .i32⟩ : BufTy).Contents (Elt F) → (⟨S16x256x128, .i32⟩ : BufTy).Contents (Elt F)),
    StableHlo.binary main_v165 main_v167 main_v168 (cmpi .eq : (⟨S16x256x128, .i32⟩ : BufTy).Contents (Elt F) → (⟨S16x256x128, .i32⟩ : BufTy).Contents (Elt F) → (⟨S16x256x128, .i1⟩ : BufTy).Contents (Elt F)),
    StableHlo.unary main_v166 main_v169 (broadcastInDim S16x256x128 ![0, 1, 2] bcast_S16x256x1_S16x256x128_0_1_2 : (⟨S16x256x1, .i32⟩ : BufTy).Contents (Elt F) → (⟨S16x256x128, .i32⟩ : BufTy).Contents (Elt F)) ]
theorem main_part3_ops3_sub : (main_part3_ops3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub ..⟩
/-- 1 operations of @_where_5, in order. -/
abbrev main_part3_ops4 : List (HloOp τ sig (Elt F)) :=
  [ StableHlo.TRef.ternary (.of main_v168 : StableHlo.TRef sig ⟨S16x256x128, .i1⟩) (.of main_v169 : StableHlo.TRef sig ⟨S16x256x128, .i32⟩) (.of main_v165 : StableHlo.TRef sig ⟨S16x256x128, .i32⟩) (.of main_v170 : StableHlo.TRef sig ⟨S16x256x128, .i32⟩) select ]
theorem main_part3_ops4_sub : (main_part3_ops4 : List (HloOp τ sig (Elt F))).Forall fun op => op.bufs ⊆ StableHlo.tcRefs τ sig :=
  StableHlo.ternary_bufs_sub ..
/-- 26 operations of @main, in order. -/
abbrev main_part3_ops5 : List (HloOp τ sig (Elt F)) :=
  [ StableHlo.nullary main_v171 (iotaInDim S16 32 0),
    StableHlo.reshape main_v171 main_v172 (rfl : (.i32 : EltTy) = .i32) shapeCasts_S16_S16x1x1,
    StableHlo.nullary main_c_35 (constantI S_ 32 0#32),
    StableHlo.unary main_c_35 main_v173 (broadcastInDim S16x1x1 ![] bcast_S_S16x1x1 : (⟨S_, .i32⟩ : BufTy).Contents (Elt F) → (⟨S16x1x1, .i32⟩ : BufTy).Contents (Elt F)),
    StableHlo.binary main_v172 main_v173 main_v174 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_36 (constantI S_ 32 16#32),
    StableHlo.unary main_c_36 main_v175 (broadcastInDim S16x1x1 ![] bcast_S_S16x1x1 : (⟨S_, .i32⟩ : BufTy).Contents (Elt F) → (⟨S16x1x1, .i32⟩ : BufTy).Contents (Elt F)),
    StableHlo.binary main_v172 main_v175 main_v176 (addi : (⟨S16x1x1, .i32⟩ : BufTy).Contents (Elt F) → (⟨S16x1x1, .i32⟩ : BufTy).Contents (Elt F) → (⟨S16x1x1, .i32⟩ : BufTy).Contents (Elt F)),
    StableHlo.ternary main_v174 main_v176 main_v172 main_v177 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_37 (constantI S_ 32 0#32),
    StableHlo.unary main_c_37 main_v178 (broadcastInDim S16x256x128 ![] bcast_S_S16x256x128 : (⟨S_, .i32⟩ : BufTy).Contents (Elt F) → (⟨S16x256x128, .i32⟩ : BufTy).Contents (Elt F)),
    StableHlo.binary main_v170 main_v178 main_v179 (cmpi .slt : (⟨S16x256x128, .i32⟩ : BufTy).Contents (Elt F) → (⟨S16x256x128, .i32⟩ : BufTy).Contents (Elt F) → (⟨S16x256x128, .i1⟩ : BufTy).Contents (Elt F)),
    StableHlo.nullary main_c_38 (constantI S_ 32 2048#32),
    StableHlo.unary main_c_38 main_v180 (broadcastInDim S16x256x128 ![] bcast_S_S16x256x128 : (⟨S_, .i32⟩ : BufTy).Contents (Elt F) → (⟨S16x256x128, .i32⟩ : BufTy).Contents (Elt F)),
    StableHlo.binary main_v170 main_v180 main_v181 (addi : (⟨S16x256x128, .i32⟩ : BufTy).Contents (Elt F) → (⟨S16x256x128, .i32⟩ : BufTy).Contents (Elt F) → (⟨S16x256x128, .i32⟩ : BufTy).Contents (Elt F)),
    StableHlo.ternary main_v179 main_v181 main_v170 main_v182 (select : (⟨S16x256x128, .i1⟩ : BufTy).Contents (Elt F) → (⟨S16x256x128, .i32⟩ : BufTy).Contents (Elt F) → (⟨S16x256x128, .i32⟩ : BufTy).Contents (Elt F) → (⟨S16x256x128, .i32⟩ : BufTy).Contents (Elt F)),
    StableHlo.unary main_v177 main_v183 (broadcastInDim S16x256x128 ![0, 1, 2] bcast_S16x1x1_S16x256x128_0_1_2 : (⟨S16x1x1, .i32⟩ : BufTy).Contents (Elt F) → (⟨S16x256x128, .i32⟩ : BufTy).Contents (Elt F)),
    StableHlo.unary main_v183 main_v184 (broadcastInDim S16x256x128x1 ![0, 1, 2] bcast_S16x256x128_S16x256x128x1_0_1_2 : (⟨S16x256x128, .i32⟩ : BufTy).Contents (Elt F) → (⟨S16x256x128x1, .i32⟩ : BufTy).Contents (Elt F)),
    StableHlo.unary main_v182 main_v185 (broadcastInDim S16x256x128x1 ![0, 1, 2] bcast_S16x256x128_S16x256x128x1_0_1_2 : (⟨S16x256x128, .i32⟩ : BufTy).Contents (Elt F) → (⟨S16x256x128x1, .i32⟩ : BufTy).Contents (Elt F)),
    StableHlo.binary main_v184 main_v185 main_v186 ((fun a b => concatenate S16x256x128x2 3 [⟨S16x256x128x1, a⟩, ⟨S16x256x128x1, b⟩] concatenates_S16x256x128x1_S16x256x128x1_S16x256x128x2_d3) : (⟨S16x256x128x1, .i32⟩ : BufTy).Contents (Elt F) → (⟨S16x256x128x1, .i32⟩ : BufTy).Contents (Elt F) → (⟨S16x256x128x2, .i32⟩ : BufTy).Contents (Elt F)),
    StableHlo.binary main_arg0 main_v186 main_v187 ((fun x i => Host.gather gather_S16x2048x3_S16x256x128x2_S16x256x128x3_3_01_n_n_01_3_113 x i) : (⟨S16x2048x3, .f32⟩ : BufTy).Contents (Elt F) → (⟨S16x256x128x2, .i32⟩ : BufTy).Contents (Elt F) → (⟨S16x256x128x3, .f32⟩ : BufTy).Contents (Elt F)),
    StableHlo.unary main_v20 main_v188 (broadcastInDim S16x256x1x3 ![0, 1, 3] bcast_S16x256x3_S16x256x1x3_0_1_3 : (⟨S16x256x3, .f32⟩ : BufTy).Contents (Elt F) → (⟨S16x256x1x3, .f32⟩ : BufTy).Contents (Elt F)),
    StableHlo.unary main_v188 main_v189 (broadcastInDim S16x256x128x3 ![0, 1, 2, 3] bcast_S16x256x1x3_S16x256x128x3_0_1_2_3 : (⟨S16x256x1x3, .f32⟩ : BufTy).Contents (Elt F) → (⟨S16x256x128x3, .f32⟩ : BufTy).Contents (Elt F)),
    StableHlo.binary main_v187 main_v189 main_v190 (subf : (⟨S16x256x128x3, .f32⟩ : BufTy).Contents (Elt F) → (⟨S16x256x128x3, .f32⟩ : BufTy).Contents (Elt F) → (⟨S16x256x128x3, .f32⟩ : BufTy).Contents (Elt F)),
    StableHlo.binary main_v190 main_arg13 main_v191 ((fun l r => Host.dotGeneral dot_S16x256x128x3_S32x3_S16x256x128x32_3_1_012_0_n_n none l r) : (⟨S16x256x128x3, .f32⟩ : BufTy).Contents (Elt F) → (⟨S32x3, .f32⟩ : BufTy).Contents (Elt F) → (⟨S16x256x128x32, .f32⟩ : BufTy).Contents (Elt F)),
    StableHlo.unary main_arg14 main_v192 (broadcastInDim S1x1x1x32 ![3] bcast_S32_S1x1x1x32_3 : (⟨S32, .f32⟩ : BufTy).Contents (Elt F) → (⟨S1x1x1x32, .f32⟩ : BufTy).Contents (Elt F)) ]
theorem main_part3_ops5_sub : (main_part3_ops5 : List (HloOp τ sig (Elt F))).Forall fun op => op.bufs ⊆ StableHlo.tcRefs τ sig :=
  ⟨StableHlo.nullary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub ..⟩
/-- Window 3 of `main` (`main_part3`, statements 181 … 240) is the chain of ITS items ending in the last
    (`Pipeline.chainK`: no closing `pure`, the window's last statement being in tail position), each item but the last aligned with the
    window's statements, then `chain_rfl`. -/
theorem main_part3_chain (c : Dev nD) : main_part3 (F := F) c = (Pipeline.chainK
  [ StableHlo.seq main_part3_ops0,
    StableHlo.seq main_part3_ops1,
    StableHlo.seq main_part3_ops2,
    StableHlo.seq main_part3_ops3,
    StableHlo.seq main_part3_ops4 ]
  (StableHlo.seq main_part3_ops5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, Pipeline.chainK_cons, StableHlo.chainK_seq_cons, Pipeline.chainK_cons]
  chain_rfl

/-- 2 operations of @main, in order. -/
abbrev main_part4_ops0 : List (HloOp τ sig (Elt F)) :=
  [ StableHlo.unary main_v192 main_v193 (broadcastInDim S16x256x128x32 ![0, 1, 2, 3] bcast_S1x1x1x32_S16x256x128x32_0_1_2_3 : (⟨S1x1x1x32, .f32⟩ : BufTy).Contents (Elt F) → (⟨S16x256x128x32, .f32⟩ : BufTy).Contents (Elt F)),
    StableHlo.binary main_v191 main_v193 main_v194 (addf : (⟨S16x256x128x32, .f32⟩ : BufTy).Contents (Elt F) → (⟨S16x256x128x32, .f32⟩ : BufTy).Contents (Elt F) → (⟨S16x256x128x32, .f32⟩ : BufTy).Contents (Elt F)) ]
theorem main_part4_ops0_sub : (main_part4_ops0 : List (HloOp τ sig (Elt F))).Forall fun op => op.bufs ⊆ StableHlo.tcRefs τ sig :=
  ⟨StableHlo.unary_bufs_sub .., StableHlo.binary_bufs_sub ..⟩
/-- 3 operations of @relu_6, in order. -/
abbrev main_part4_ops1 : List (HloOp τ sig (Elt F)) :=
  [ StableHlo.TRef.nullary (.of main_call16_cst : StableHlo.TRef sig ⟨S_, .f32⟩) (constant S_ .f32 0x00000000#32),
    StableHlo.TRef.unary (.of main_call16_cst : StableHlo.TRef sig ⟨S_, .f32⟩) (.of main_call16_v0 : StableHlo.TRef sig ⟨S16x256x128x32, .f32⟩) (broadcastInDim S16x256x128x32 ![] bcast_S_S16x256x128x32),
    StableHlo.TRef.binary (.of main_v194 : StableHlo.TRef sig ⟨S16x256x128x32, .f32⟩) (.of main_call16_v0 : StableHlo.TRef sig ⟨S16x256x128x32, .f32⟩) (.of main_v195 : StableHlo.TRef sig ⟨S16x256x128x32, .f32⟩) maximumf ]
theorem main_part4_ops1_sub : (main_part4_ops1 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev main_part4_ops2 : List (HloOp τ sig (Elt F)) :=
  [ StableHlo.binary main_v195 main_arg15 main_v196 ((fun l r => Host.dotGeneral dot_S16x256x128x32_S48x32_S16x256x128x48_3_1_012_0_n_n none l r) : (⟨S16x256x128x32, .f32⟩ : BufTy).Contents (Elt F) → (⟨S48x32, .f32⟩ : BufTy).Contents (Elt F) → (⟨S16x256x128x48, .f32⟩ : BufTy).Contents (Elt F)),
    StableHlo.unary main_arg16 main_v197 (broadcastInDim S1x1x1x48 ![3] bcast_S48_S1x1x1x48_3 : (⟨S48, .f32⟩ : BufTy).Contents (Elt F) → (⟨S1x1x1x48, .f32⟩ : BufTy).Contents (Elt F)),
    StableHlo.unary main_v197 main_v198 (broadcastInDim S16x256x128x48 ![0, 1, 2, 3] bcast_S1x1x1x48_S16x256x128x48_0_1_2_3 : (⟨S1x1x1x48, .f32⟩ : BufTy).Contents (Elt F) → (⟨S16x256x128x48, .f32⟩ : BufTy).Contents (Elt F)),
    StableHlo.binary main_v196 main_v198 main_v199 (addf : (⟨S16x256x128x48, .f32⟩ : BufTy).Contents (Elt F) → (⟨S16x256x128x48, .f32⟩ : BufTy).Contents (Elt F) → (⟨S16x256x128x48, .f32⟩ : BufTy).Contents (Elt F)) ]
theorem main_part4_ops2_sub : (main_part4_ops2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 operations of @relu_7, in order. -/
abbrev main_part4_ops3 : List (HloOp τ sig (Elt F)) :=
  [ StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S16x256x128x48, .f32⟩) (broadcastInDim S16x256x128x48 ![] bcast_S_S16x256x128x48),
    StableHlo.TRef.binary (.of main_v199 : StableHlo.TRef sig ⟨S16x256x128x48, .f32⟩) (.of main_call17_v0 : StableHlo.TRef sig ⟨S16x256x128x48, .f32⟩) (.of main_v200 : StableHlo.TRef sig ⟨S16x256x128x48, .f32⟩) maximumf ]
theorem main_part4_ops3_sub : (main_part4_ops3 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev main_part4_ops4 : List (HloOp τ sig (Elt F)) :=
  [ StableHlo.binary main_v200 main_arg17 main_v201 ((fun l r => Host.dotGeneral dot_S16x256x128x48_S64x48_S16x256x128x64_3_1_012_0_n_n none l r) : (⟨S16x256x128x48, .f32⟩ : BufTy).Contents (Elt F) → (⟨S64x48, .f32⟩ : BufTy).Contents (Elt F) → (⟨S16x256x128x64, .f32⟩ : BufTy).Contents (Elt F)),
    StableHlo.unary main_arg18 main_v202 (broadcastInDim S1x1x1x64 ![3] bcast_S64_S1x1x1x64_3 : (⟨S64, .f32⟩ : BufTy).Contents (Elt F) → (⟨S1x1x1x64, .f32⟩ : BufTy).Contents (Elt F)),
    StableHlo.unary main_v202 main_v203 (broadcastInDim S16x256x128x64 ![0, 1, 2, 3] bcast_S1x1x1x64_S16x256x128x64_0_1_2_3 : (⟨S1x1x1x64, .f32⟩ : BufTy).Contents (Elt F) → (⟨S16x256x128x64, .f32⟩ : BufTy).Contents (Elt F)),
    StableHlo.binary main_v201 main_v203 main_v204 (addf : (⟨S16x256x128x64, .f32⟩ : BufTy).Contents (Elt F) → (⟨S16x256x128x64, .f32⟩ : BufTy).Contents (Elt F) → (⟨S16x256x128x64, .f32⟩ : BufTy).Contents (Elt F)) ]
theorem main_part4_ops4_sub : (main_part4_ops4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- 3 operations of @relu_8, in order. -/
abbrev main_part4_ops5 : List (HloOp τ sig (Elt F)) :=
  [ StableHlo.TRef.nullary (.of main_call18_cst : StableHlo.TRef sig ⟨S_, .f32⟩) (constant S_ .f32 0x00000000#32),
    StableHlo.TRef.unary (.of main_call18_cst : StableHlo.TRef sig ⟨S_, .f32⟩) (.of main_call18_v0 : StableHlo.TRef sig ⟨S16x256x128x64, .f32⟩) (broadcastInDim S16x256x128x64 ![] bcast_S_S16x256x128x64),
    StableHlo.TRef.binary (.of main_v204 : StableHlo.TRef sig ⟨S16x256x128x64, .f32⟩) (.of main_call18_v0 : StableHlo.TRef sig ⟨S16x256x128x64, .f32⟩) (.of main_v205 : StableHlo.TRef sig ⟨S16x256x128x64, .f32⟩) maximumf ]
theorem main_part4_ops5_sub : (main_part4_ops5 : List (HloOp τ sig (Elt F))).Forall fun op => op.bufs ⊆ StableHlo.tcRefs τ sig :=
  ⟨StableHlo.nullary_bufs_sub .., StableHlo.unary_bufs_sub .., StableHlo.binary_bufs_sub ..⟩
/-- 8 operations of @main, in order. -/
abbrev main_part4_ops6 : List (HloOp τ sig (Elt F)) :=
  [ StableHlo.nullary main_cst_39 (constant S_ .f32 0xFF800000#32),
    StableHlo.binary main_v205 main_cst_39 main_v206 ((fun x v => Host.reduce FloatOps.maximumf x v reducesTo_S16x256x128x64_S16x256x64_d2 h_S_) : (⟨S16x256x128x64, .f32⟩ : BufTy).Contents (Elt F) → (⟨S_, .f32⟩ : BufTy).Contents (Elt F) → (⟨S16x256x64, .f32⟩ : BufTy).Contents (Elt F)),
    StableHlo.nary ![main_v82, main_v144, main_v206] main_v207 (fun u => (concatenate S16x256x160 2 [⟨S16x256x32, (u 0 : (⟨S16x256x32, .f32⟩ : BufTy).Contents (Elt F))⟩, ⟨S16x256x64, (u 1 : (⟨S16x256x64, .f32⟩ : BufTy).Contents (Elt F))⟩, ⟨S16x256x64, (u 2 : (⟨S16x256x64, .f32⟩ : BufTy).Contents (Elt F))⟩] concatenates_S16x256x32_S16x256x64_S16x256x64_S16x256x160_d2 : (⟨S16x256x160, .f32⟩ : BufTy).Contents (Elt F))),
    StableHlo.binary main_arg19 main_v207 main_v208 ((fun l r => Host.dotGeneral dot_S1x160_S16x256x160_S1x16x256_1_2_0_01_n_n none l r) : (⟨S1x160, .f32⟩ : BufTy).Contents (Elt F) → (⟨S16x256x160, .f32⟩ : BufTy).Contents (Elt F) → (⟨S1x16x256, .f32⟩ : BufTy).Contents (Elt F)),
    StableHlo.unary main_v208 main_v209 ((transpose S16x1x256 [1, 0, 2] · transposes_S1x16x256_S16x1x256_1_0_2) : (⟨S1x16x256, .f32⟩ : BufTy).Contents (Elt F) → (⟨S16x1x256, .f32⟩ : BufTy).Contents (Elt F)),
    StableHlo.unary main_arg20 main_v210 (broadcastInDim S1x1x1 ![1] bcast_S1_S1x1x1_1 : (⟨S1, .f32⟩ : BufTy).Contents (Elt F) → (⟨S1x1x1, .f32⟩ : BufTy).Contents (Elt F)),
    StableHlo.unary main_v210 main_v211 (broadcastInDim S16x1x256 ![0, 1, 2] bcast_S1x1x1_S16x1x256_0_1_2 : (⟨S1x1x1, .f32⟩ : BufTy).Contents (Elt F) → (⟨S16x1x256, .f32⟩ : BufTy).Contents (Elt F)),
    StableHlo.binary main_v209 main_v211 main_v212 (addf : (⟨S16x1x256, .f32⟩ : BufTy).Contents (Elt F) → (⟨S16x1x256, .f32⟩ : BufTy).Contents (Elt F) → (⟨S16x1x256, .f32⟩ : BufTy).Contents (Elt F)) ]
theorem main_part4_ops6_sub : (main_part4_ops6 : List (HloOp τ sig (Elt F))).Forall fun op => op.bufs ⊆ StableHlo.tcRefs τ sig :=
  ⟨StableHlo.nullary_bufs_sub .., StableHlo.binary_bufs_sub .., StableHlo.nary_bufs_sub .., StableHlo.binary_bufs_sub .., StableHlo.unary_bufs_sub .., StableHlo.unary_bufs_sub .., StableHlo.unary_bufs_sub .., StableHlo.binary_bufs_sub ..⟩
/-- The last window of `main` (`main_part4`, statements 241 … 262) is the chain of ITS items, each item aligned with the window's
    statements, then `chain_rfl`. -/
theorem main_part4_chain (c : Dev nD) : main_part4 (F := F) c = (Pipeline.chain
  [ StableHlo.seq main_part4_ops0,
    StableHlo.seq main_part4_ops1,
    StableHlo.seq main_part4_ops2,
    StableHlo.seq main_part4_ops3,
    StableHlo.seq main_part4_ops4,
    StableHlo.seq main_part4_ops5,
    StableHlo.seq main_part4_ops6 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- `main` is the chain of its lists, with the loop as the second item. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part2_ops9,
    StableHlo.seq main_part2_ops10,
    StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part4_ops0,
    StableHlo.seq main_part4_ops1,
    StableHlo.seq main_part4_ops2,
    StableHlo.seq main_part4_ops3,
    StableHlo.seq main_part4_ops4,
    StableHlo.seq main_part4_ops5,
    StableHlo.seq main_part4_ops6 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

/-- 37 operations of host loop 0's body region, in order. -/
abbrev while0Ops0 : List (HloOp τ sig (Elt F)) :=
  ( StableHlo.nullary main_while0b_c_45 (constantI S_ 32 1#32)
  :: StableHlo.binary main_v3_2 main_while0b_c_45 main_while0b_v213 (addi : (⟨S_, .i32⟩ : BufTy).Contents (Elt F) → (⟨S_, .i32⟩ : BufTy).Contents (Elt F) → (⟨S_, .i32⟩ : BufTy).Contents (Elt F))
  :: StableHlo.nullary main_while0b_c_46 (constantI S_ 32 0#32)
  :: StableHlo.binary main_v3_2 main_while0b_c_46 main_while0b_v214 (cmpi .slt : (⟨S_, .i32⟩ : BufTy).Contents (Elt F) → (⟨S_, .i32⟩ : BufTy).Contents (Elt F) → (⟨S_, .i1⟩ : BufTy).Contents (Elt F))
  :: StableHlo.nullary main_while0b_c_47 (constantI S_ 32 256#32)
  :: StableHlo.binary main_v3_2 main_while0b_c_47 main_while0b_v215 (addi : (⟨S_, .i32⟩ : BufTy).Contents (Elt F) → (⟨S_, .i32⟩ : BufTy).Contents (Elt F) → (⟨S_, .i32⟩ : BufTy).Contents (Elt F))
  :: StableHlo.ternary main_while0b_v214 main_while0b_v215 main_v3_2 main_while0b_v216 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unary main_while0b_v216 main_while0b_v217 (id : (⟨S_, .i32⟩ : BufTy).Contents (Elt F) → (⟨S_, .i32⟩ : BufTy).Contents (Elt F))
  :: StableHlo.unary main_while0b_v217 main_while0b_v218 (broadcastInDim S1 ![] bcast_S_S1 : (⟨S_, .i32⟩ : BufTy).Contents (Elt F) → (⟨S1, .i32⟩ : BufTy).Contents (Elt F))
  :: StableHlo.ternary main_v3_5 main_while0b_v218 main_v3_4 main_while0b_v219 ((fun x i u => Host.scatter scatter_S16x256_S1_S16_0_1_1_0 (fun _ b => b) x i u) : (⟨S16x256, .i32⟩ : BufTy).Contents (Elt F) → (⟨S1, .i32⟩ : BufTy).Contents (Elt F) → (⟨S16, .i32⟩ : BufTy).Contents (Elt F) → (⟨S16x256, .i32⟩ : BufTy).Contents (Elt F))
  :: StableHlo.unary main_v3_4 main_while0b_v220 (broadcastInDim S16x1 ![0] bcast_S16_S16x1_0 : (⟨S16, .i32⟩ : BufTy).Contents (Elt F) → (⟨S16x1, .i32⟩ : BufTy).Contents (Elt F))
  :: StableHlo.nullary main_while0b_v221 (iotaInDim S16 32 0)
  :: StableHlo.reshape main_while0b_v221 main_while0b_v222 (rfl : (.i32 : EltTy) = .i32) shapeCasts_S16_S16x1
  :: StableHlo.nullary main_while0b_c_48 (constantI S_ 32 0#32)
  :: StableHlo.unary main_while0b_c_48 main_while0b_v223 (broadcastInDim S16x1 ![] bcast_S_S16x1 : (⟨S_, .i32⟩ : BufTy).Contents (Elt F) → (⟨S16x1, .i32⟩ : BufTy).Contents (Elt F))
  :: StableHlo.binary main_while0b_v222 main_while0b_v223 main_while0b_v224 (cmpi .slt : (⟨S16x1, .i32⟩ : BufTy).Contents (Elt F) → (⟨S16x1, .i32⟩ : BufTy).Contents (Elt F) → (⟨S16x1, .i1⟩ : BufTy).Contents (Elt F))
  :: StableHlo.nullary main_while0b_c_49 (constantI S_ 32 16#32)
  :: StableHlo.unary main_while0b_c_49 main_while0b_v225 (broadcastInDim S16x1 ![] bcast_S_S16x1 : (⟨S_, .i32⟩ : BufTy).Contents (Elt F) → (⟨S16x1, .i32⟩ : BufTy).Contents (Elt F))
  :: StableHlo.binary main_while0b_v222 main_while0b_v225 main_while0b_v226 (addi : (⟨S16x1, .i32⟩ : BufTy).Contents (Elt F) → (⟨S16x1, .i32⟩ : BufTy).Contents (Elt F) → (⟨S16x1, .i32⟩ : BufTy).Contents (Elt F))
  :: StableHlo.ternary main_while0b_v224 main_while0b_v226 main_while0b_v222 main_while0b_v227 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F))
  :: StableHlo.nullary main_while0b_c_50 (constantI S_ 32 0#32)
  :: StableHlo.unary main_while0b_c_50 main_while0b_v228 (broadcastInDim S16x1 ![] bcast_S_S16x1 : (⟨S_, .i32⟩ : BufTy).Contents (Elt F) → (⟨S16x1, .i32⟩ : BufTy).Contents (Elt F))
  :: StableHlo.binary main_while0b_v220 main_while0b_v228 main_while0b_v229 (cmpi .slt : (⟨S16x1, .i32⟩ : BufTy).Contents (Elt F) → (⟨S16x1, .i32⟩ : BufTy).Contents (Elt F) → (⟨S16x1, .i1⟩ : BufTy).Contents (Elt F))
  :: StableHlo.nullary main_while0b_c_51 (constantI S_ 32 2048#32)
  :: StableHlo.unary main_while0b_c_51 main_while0b_v230 (broadcastInDim S16x1 ![] bcast_S_S16x1 : (⟨S_, .i32⟩ : BufTy).Contents (Elt F) → (⟨S16x1, .i32⟩ : BufTy).Contents (Elt F))
  :: StableHlo.binary main_while0b_v220 main_while0b_v230 main_while0b_v231 (addi : (⟨S16x1, .i32⟩ : BufTy).Contents (Elt F) → (⟨S16x1, .i32⟩ : BufTy).Contents (Elt F) → (⟨S16x1, .i32⟩ : BufTy).Contents (Elt F))
  :: StableHlo.ternary main_while0b_v229 main_while0b_v231 main_while0b_v220 main_while0b_v232 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F))
  :: StableHlo.unary main_while0b_v227 main_while0b_v233 (broadcastInDim S16x1x1 ![0, 1] bcast_S16x1_S16x1x1_0_1 : (⟨S16x1, .i32⟩ : BufTy).Contents (Elt F) → (⟨S16x1x1, .i32⟩ : BufTy).Contents (Elt F))
  :: StableHlo.unary main_while0b_v232 main_while0b_v234 (broadcastInDim S16x1x1 ![0, 1] bcast_S16x1_S16x1x1_0_1 : (⟨S16x1, .i32⟩ : BufTy).Contents (Elt F) → (⟨S16x1x1, .i32⟩ : BufTy).Contents (Elt F))
  :: StableHlo.binary main_while0b_v233 main_while0b_v234 main_while0b_v235 ((fun a b => concatenate S16x1x2 2 [⟨S16x1x1, a⟩, ⟨S16x1x1, b⟩] concatenates_S16x1x1_S16x1x1_S16x1x2_d2) : (⟨S16x1x1, .i32⟩ : BufTy).Contents (Elt F) → (⟨S16x1x1, .i32⟩ : BufTy).Contents (Elt F) → (⟨S16x1x2, .i32⟩ : BufTy).Contents (Elt F))
  :: StableHlo.binary main_v3_0 main_while0b_v235 main_while0b_v236 ((fun x i => Host.gather gather_S16x2048x3_S16x1x2_S16x1x3_2_01_n_n_01_2_113 x i) : (⟨S16x2048x3, .f32⟩ : BufTy).Contents (Elt F) → (⟨S16x1x2, .i32⟩ : BufTy).Contents (Elt F) → (⟨S16x1x3, .f32⟩ : BufTy).Contents (Elt F))
  :: StableHlo.unary main_while0b_v236 main_while0b_v237 (broadcastInDim S16x2048x3 ![0, 1, 2] bcast_S16x1x3_S16x2048x3_0_1_2 : (⟨S16x1x3, .f32⟩ : BufTy).Contents (Elt F) → (⟨S16x2048x3, .f32⟩ : BufTy).Contents (Elt F))
  :: StableHlo.binary main_v3_0 main_while0b_v237 main_while0b_v238 (subf : (⟨S16x2048x3, .f32⟩ : BufTy).Contents (Elt F) → (⟨S16x2048x3, .f32⟩ : BufTy).Contents (Elt F) → (⟨S16x2048x3, .f32⟩ : BufTy).Contents (Elt F))
  :: StableHlo.binary main_while0b_v238 main_while0b_v238 main_while0b_v239 (mulf : (⟨S16x2048x3, .f32⟩ : BufTy).Contents (Elt F) → (⟨S16x2048x3, .f32⟩ : BufTy).Contents (Elt F) → (⟨S16x2048x3, .f32⟩ : BufTy).Contents (Elt F))
  :: StableHlo.nullary main_while0b_cst_52 (constant S_ .f32 0x00000000#32)
  :: StableHlo.binary main_while0b_v239 main_while0b_cst_52 main_while0b_v240 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F))
  :: StableHlo.binary main_v3_3 main_while0b_v240 main_while0b_v241 (minimumf : (⟨S16x2048, .f32⟩ : BufTy).Contents (Elt F) → (⟨S16x2048, .f32⟩ : BufTy).Contents (Elt F) → (⟨S16x2048, .f32⟩ : BufTy).Contents (Elt F))
  :: [] )
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub .., StableHlo.nullary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub ..⟩
/-- 5 operations of @argmax, in order. -/
abbrev while0Ops0_1 : List (HloOp τ sig (Elt F)) :=
  [ StableHlo.TRef.nullary (.of main_while0b_call0_v0 : StableHlo.TRef sig ⟨S16x2048, .i32⟩) (iotaInDim S16x2048 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v241 : StableHlo.TRef sig ⟨S16x2048, .f32⟩) (.of main_while0b_call0_v0 : StableHlo.TRef sig ⟨S16x2048, .i32⟩) (.of main_while0b_call0_cst : StableHlo.TRef sig ⟨S_, .f32⟩) (.of main_while0b_call0_c : StableHlo.TRef sig ⟨S_, .i32⟩) (.of main_while0b_call0_v1_0 : StableHlo.TRef sig ⟨S16, .f32⟩) (fun x y u v j => (Host.argReduce reducer_argmax_f32_i32 x y u v reducesTo_S16x2048_S16_d1 h_S_ j).1),
    StableHlo.TRef.quaternary (.of main_while0b_v241 : StableHlo.TRef sig ⟨S16x2048, .f32⟩) (.of main_while0b_call0_v0 : StableHlo.TRef sig ⟨S16x2048, .i32⟩) (.of main_while0b_call0_cst : StableHlo.TRef sig ⟨S_, .f32⟩) (.of main_while0b_call0_c : StableHlo.TRef sig ⟨S_, .i32⟩) (.of main_while0b_v242 : StableHlo.TRef sig ⟨S16, .i32⟩) (fun x y u v j => (Host.argReduce reducer_argmax_f32_i32 x y u v reducesTo_S16x2048_S16_d1 h_S_ j).2) ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 7 operations of host loop 0's body region, in order. -/
abbrev while0Ops0_2 : List (HloOp τ sig (Elt F)) :=
  [ StableHlo.nullary main_while0b_c_53 (constantI S_ 32 1#32),
    StableHlo.binary main_v3_1 main_while0b_c_53 main_while0b_v243 (addi : (⟨S_, .i32⟩ : BufTy).Contents (Elt F) → (⟨S_, .i32⟩ : BufTy).Contents (Elt F) → (⟨S_, .i32⟩ : BufTy).Contents (Elt F)),
    StableHlo.unary main_while0b_v243 main_v3_1 id,
    StableHlo.unary main_while0b_v213 main_v3_2 id,
    StableHlo.unary main_while0b_v241 main_v3_3 id,
    StableHlo.unary main_while0b_v242 main_v3_4 id,
    StableHlo.unary main_while0b_v219 main_v3_5 id ]
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The loop's body is the chain of its three lists. -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

end Cert.RefRun
-- ==== Proof.RefRun.lean ====
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference runs: on every weakly fair execution it ends with every buffer at the fold of its operations, 256 times
round the loop (`run_fold`, by the library's `run_loop`). The condition of the loop is the trip counter below 256.
-/

@[expose] public section

set_option maxRecDepth 4096

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.StableHlo
open Idealize.ShloMosaic.Pipeline (ucRefs sub_ucRefs)

variable {F : FTy → Type} [FloatOps F]

/-- What `while0Ops0` writes. -/
abbrev while0Ops0_W : List (Ref sig .tc) := [main_while0b_c_45, main_while0b_v213, main_while0b_c_46, main_while0b_v214, main_while0b_c_47, main_while0b_v215, main_while0b_v216, main_while0b_v217, main_while0b_v218, main_while0b_v219, main_while0b_v220, main_while0b_v221, main_while0b_v222, main_while0b_c_48, main_while0b_v223, main_while0b_v224, main_while0b_c_49, main_while0b_v225, main_while0b_v226, main_while0b_v227, main_while0b_c_50, main_while0b_v228, main_while0b_v229, main_while0b_c_51, main_while0b_v230, main_while0b_v231, main_while0b_v232, main_while0b_v233, main_while0b_v234, main_while0b_v235, main_while0b_v236, main_while0b_v237, main_while0b_v238, main_while0b_v239, main_while0b_cst_52, main_while0b_v240, main_while0b_v241]
theorem while0Ops0_writes : (while0Ops0 : List (HloOp τ sig (Elt F))).Forall fun op => op.writes ⊆ (while0Ops0_W.map (Proc.devRef (τ := τ) .tc)).toFinset :=
  StableHlo.forall_writes_sub_of_map rfl
/-- What `while0Ops0_1` writes. -/
abbrev while0Ops0_1_W : List (Ref sig .tc) := [main_while0b_call0_v0, main_while0b_call0_cst, main_while0b_call0_c, main_while0b_call0_v1_0, main_while0b_v242]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- What `while0Ops0_2` writes. -/
abbrev while0Ops0_2_W : List (Ref sig .tc) := [main_while0b_c_53, main_while0b_v243, main_v3_1, main_v3_2, main_v3_3, main_v3_4, main_v3_5]
theorem while0Ops0_2_writes : (while0Ops0_2 : List (HloOp τ sig (Elt F))).Forall fun op => op.writes ⊆ (while0Ops0_2_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_45 (constantI S_ 32 256#32),
    StableHlo.binary main_v3_1 main_while0c_c_45 main_while0c_v213 (cmpi .slt) ]

/-- @main's stretches before the loop, the loop body's, and @main's after the loop. -/
abbrev preI : List (List (HloOp τ sig (Elt F))) := [main_part0_ops0]
abbrev bodyI : List (List (HloOp τ sig (Elt F))) := [while0Ops0, while0Ops0_1, while0Ops0_2]
abbrev postI : List (List (HloOp τ sig (Elt F))) := [main_part0_ops1, main_part0_ops2, main_part1_ops0, main_part1_ops1, main_part1_ops2, main_part1_ops3, main_part1_ops4, main_part1_ops5, main_part1_ops6, main_part1_ops7, main_part1_ops8, main_part1_ops9, main_part2_ops0, main_part2_ops1, main_part2_ops2, main_part2_ops3, main_part2_ops4, main_part2_ops5, main_part2_ops6, main_part2_ops7, main_part2_ops8, main_part2_ops9, main_part2_ops10, main_part3_ops0, main_part3_ops1, main_part3_ops2, main_part3_ops3, main_part3_ops4, main_part3_ops5, main_part4_ops0, main_part4_ops1, main_part4_ops2, main_part4_ops3, main_part4_ops4, main_part4_ops5, main_part4_ops6]

theorem hpre : Plain (preI (F := F)) := .cons main_part0_ops0_sub (.nil) (hf := List.forall_iff_forall_mem.mp (StableHlo.forall_fresh_of_map rfl))
theorem hbodyI : Plain (bodyI (F := F)) := .cons while0Ops0_sub (.cons while0Ops0_1_sub (.cons while0Ops0_2_sub (.nil) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))
theorem hpost : Plain (postI (F := F)) := .cons main_part0_ops1_sub (.cons main_part0_ops2_sub (.cons main_part1_ops0_sub (.cons main_part1_ops1_sub (.cons main_part1_ops2_sub (.cons main_part1_ops3_sub (.cons main_part1_ops4_sub (.cons main_part1_ops5_sub (.cons main_part1_ops6_sub (.cons main_part1_ops7_sub (.cons main_part1_ops8_sub (.cons main_part1_ops9_sub (.cons main_part2_ops0_sub (.cons main_part2_ops1_sub (.cons main_part2_ops2_sub (.cons main_part2_ops3_sub (.cons main_part2_ops4_sub (.cons main_part2_ops5_sub (.cons main_part2_ops6_sub (.cons main_part2_ops7_sub (.cons main_part2_ops8_sub (.cons main_part2_ops9_sub (.cons main_part2_ops10_sub (.cons main_part3_ops0_sub (.cons main_part3_ops1_sub (.cons main_part3_ops2_sub (.cons main_part3_ops3_sub (.cons main_part3_ops4_sub (.cons main_part3_ops5_sub (.cons main_part4_ops0_sub (.cons main_part4_ops1_sub (.cons main_part4_ops2_sub (.cons main_part4_ops3_sub (.cons main_part4_ops4_sub (.cons main_part4_ops5_sub (.cons main_part4_ops6_sub (.nil) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))) (hf := List.forall_iff_forall_mem.mp (StableHlo.forall_fresh_of_map rfl))

/-- The reference each operation of `condOps` writes, in order. -/
abbrev condOps_W : List (Ref sig .tc) := [main_while0c_c_45, main_while0c_v213]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v3_1`) is written by one stretch of the body, `while0Ops0_2`: not by the condition, nor by the
    body's other stretches. -/
theorem ctr_cond (V : Valuation τ sig (Elt F)) : after condOps V (Proc.devRef .tc main_v3_1) = V (Proc.devRef .tc main_v3_1) :=
  after_of_writes_sub condOps V condOps_writes (by decide +kernel)
theorem ctr_while0Ops0 (V : Valuation τ sig (Elt F)) : after while0Ops0 V (Proc.devRef .tc main_v3_1) = V (Proc.devRef .tc main_v3_1) :=
  after_of_writes_sub while0Ops0 V while0Ops0_writes (by decide +kernel)
theorem ctr_while0Ops0_1 (V : Valuation τ sig (Elt F)) : after while0Ops0_1 V (Proc.devRef .tc main_v3_1) = V (Proc.devRef .tc main_v3_1) :=
  after_of_writes_sub while0Ops0_1 V while0Ops0_1_writes (by decide +kernel)

set_option maxRecDepth 100000 in
/-- `while0Ops0_2` leaves the counter one step on. -/
theorem ctr_step (X : Valuation τ sig (Elt F)) :
    after while0Ops0_2 X (Proc.devRef .tc main_v3_1) = addi (X (Proc.devRef .tc main_v3_1)) (constantI S_ 32 1#32) := by
  after_results
  rfl

/-- The counter is the loop's lower bound at the loop's entry: its last writer before the loop read back. -/
theorem ctr_entry (c : Dev nD) : entryContents preI m c (Proc.devRef .tc main_v3_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 256 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_45 HostLoop.idx0) = 1#1) (k < 256)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 256 m c (Proc.devRef .tc b)) :=
  run_loop (pcfgs (F := F)) defs₀ loops main 0 main_while0_cond main_while0_body rfl preI bodyI postI condOps hpre hbodyI hpost
    (fun c => by rw [main_chain_windows]; rfl) (by rw [while0_body_chain]; rfl) 256 m ρ (cond_spec m)

end Cert.RefRun
-- ==== Proof.RefArgs.lean ====
module

public import proofs.«01_k».proof.Proof.RefRun

/-!
What the reference leaves unchanged: a buffer that no operation writes ends as launched, so every argument does. The
frame of the reference follows.
-/

@[expose] public section

set_option maxRecDepth 4096

noncomputable section

namespace Cert.RefRun

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.StableHlo
open Idealize.ShloMosaic.Pipeline (ucRefs sub_ucRefs)

variable {F : FTy → Type} [FloatOps F]

/-- What the operations before the loop write. -/
abbrev preW : List (Ref sig .tc) := [main_cst, main_v0, main_c, main_v1, main_c_0, main_v2, main_c_1, main_c_2, main_v3_0, main_v3_1, main_v3_2, main_v3_3, main_v3_4,
   main_v3_5]
theorem preW_eq : (preI (F := F)).flatten.map HloOp.writes = preW.map fun w => {Proc.devRef (τ := τ) .tc w} := rfl

/-- What the condition and the loop's body write. -/
abbrev loopW : List (Ref sig .tc) := condOps_W ++ while0Ops0_W ++ while0Ops0_1_W ++ while0Ops0_2_W
theorem loopW_eq : ((condOps (F := F)) ++ (bodyI (F := F)).flatten).map HloOp.writes = loopW.map fun w => {Proc.devRef (τ := τ) .tc w} := rfl

/-- What the operations after the loop write. -/
abbrev postW : List (Ref sig .tc) := [main_v4, main_v5, main_c_3, main_v6, main_v7, main_c_4, main_v8, main_v9, main_v10, main_c_5, main_v11, main_v12, main_c_6, main_v13,
   main_v14, main_v15, main_v16, main_v17, main_v18, main_v19, main_v20, main_v21, main_v22, main_cst_7, main_v23, main_v24, main_v25,
   main_cst_8, main_v26, main_v27, main_v28, main_v29, main_v30, main_cst_9, main_v31, main_v32, main_v33, main_v34, main_v35, main_v36,
   main_cst_10, main_v37, main_v38, main_c_11, main_call1_v0, main_call1_v1, main_v39, main_v40, main_v41, main_v42, main_c_12, main_v43,
   main_v44, main_v45, main_v46, main_v47, main_v48, main_c_13, main_v49, main_v50, main_c_14, main_v51, main_v52, main_v53, main_c_15,
   main_v54, main_v55, main_c_16, main_v56, main_v57, main_v58, main_v59, main_v60, main_v61, main_v62, main_v63, main_v64, main_v65,
   main_v66, main_v67, main_v68, main_v69, main_v70, main_call4_cst, main_call4_v0, main_v71, main_v72, main_v73, main_v74, main_v75,
   main_call5_cst, main_call5_v0, main_v76, main_v77, main_v78, main_v79, main_v80, main_call6_cst, main_call6_v0, main_v81, main_cst_17,
   main_v82, main_v83, main_v84, main_cst_18, main_v85, main_v86, main_v87, main_cst_19, main_v88, main_v89, main_v90, main_v91, main_v92,
   main_cst_20, main_v93, main_v94, main_v95, main_v96, main_v97, main_v98, main_cst_21, main_v99, main_v100, main_c_22, main_call7_v0,
   main_call7_v1, main_v101, main_v102, main_v103, main_v104, main_c_23, main_v105, main_v106, main_v107, main_v108, main_v109, main_v110,
   main_c_24, main_v111, main_v112, main_c_25, main_v113, main_v114, main_v115, main_c_26, main_v116, main_v117, main_c_27, main_v118,
   main_v119, main_v120, main_v121, main_v122, main_v123, main_v124, main_v125, main_v126, main_v127, main_v128, main_v129, main_v130,
   main_v131, main_v132, main_call10_cst, main_call10_v0, main_v133, main_v134, main_v135, main_v136, main_v137, main_call11_cst,
   main_call11_v0, main_v138, main_v139, main_v140, main_v141, main_v142, main_call12_cst, main_call12_v0, main_v143, main_cst_28, main_v144,
   main_v145, main_v146, main_cst_29, main_v147, main_v148, main_v149, main_cst_30, main_v150, main_v151, main_v152, main_v153, main_v154,
   main_cst_31, main_v155, main_v156, main_v157, main_v158, main_v159, main_v160, main_cst_32, main_v161, main_v162, main_c_33,
   main_call13_v0, main_call13_v1, main_v163, main_v164, main_v165, main_v166, main_c_34, main_v167, main_v168, main_v169, main_v170,
   main_v171, main_v172, main_c_35, main_v173, main_v174, main_c_36, main_v175, main_v176, main_v177, main_c_37, main_v178, main_v179,
   main_c_38, main_v180, main_v181, main_v182, main_v183, main_v184, main_v185, main_v186, main_v187, main_v188, main_v189, main_v190,
   main_v191, main_v192, main_v193, main_v194, main_call16_cst, main_call16_v0, main_v195, main_v196, main_v197, main_v198, main_v199,
   main_call17_cst, main_call17_v0, main_v200, main_v201, main_v202, main_v203, main_v204, main_call18_cst, main_call18_v0, main_v205,
   main_cst_39, main_v206, main_v207, main_v208, main_v209, main_v210, main_v211, main_v212]
theorem postW_eq : (postI (F := F)).flatten.map HloOp.writes = postW.map fun w => {Proc.devRef (τ := τ) .tc w} := rfl

variable (m : (ℓ : Loc nD τ sig) → Buf (Elt F) ℓ) (ρ : Dev nD → PrngReg)

/-- A buffer the operations before the loop do not write enters the loop as launched. -/
theorem entry_unwritten (c : Dev nD) {r : Ref sig .tc} (h₁ : r ∉ preW) :
    entryContents preI m c (Proc.devRef .tc r) = launchContents m c (Proc.devRef .tc r) := by
  rw [entryContents, afterL_eq_after_flatten, after_unwritten preW preW_eq h₁]

/-- A buffer the loop does not write is, before each trip, as at the loop's entry. -/
theorem atTrip_unwritten (c : Dev nD) {r : Ref sig .tc} (h₂ : r ∉ loopW) (k : ℕ) :
    atK m k c (Proc.devRef .tc r) = entryContents preI m c (Proc.devRef .tc r) := by
  induction k with
  | zero => rfl
  | succ k ih =>
    rw [← ih]
    show afterL bodyI (after condOps (atK m k c)) (Proc.devRef .tc r) = _
    rw [afterL_eq_after_flatten, ← after_append, after_unwritten loopW loopW_eq h₂]

/-- A buffer no operation writes ends as launched. -/
theorem final_unwritten (c : Dev nD) {r : Ref sig .tc} (h₁ : r ∉ preW) (h₂ : r ∉ loopW) (h₃ : r ∉ postW) :
    finalContents condOps preI bodyI postI 256 m c (Proc.devRef .tc r) = launchContents m c (Proc.devRef .tc r) := by
  rw [finalContents, afterL_eq_after_flatten, after_unwritten postW postW_eq h₃]
  rw [after_of_writes_sub condOps _ condOps_writes (fun h => h₂ (by simp only [loopW, List.mem_append]; exact .inl (.inl (.inl h)))),
    ← entry_unwritten m c h₁, ← atTrip_unwritten m c h₂ 256]

/-- The reference ends with its arguments as launched, and its result at the fold. -/
theorem run_args : θ_run (defs (F := F)) (onTc (τ := τ) (main (F := F))) ⟨m, fun _ => 0, ρ⟩ (fun r => ∀ c : Dev nD,
      r.2.mem ((c.tc : Thread nD τ).loc main_v212) = finalContents condOps preI bodyI postI 256 m c (Proc.devRef .tc main_v212)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run _ _ _).mono (fun r h c =>
    have at_arg : ∀ b : Ref sig .tc, (Proc.devRef .tc b : DevRef τ sig).isScoped = false → b ∉ preW → b ∉ loopW → b ∉ postW →
        r.2.mem ((c.tc : Thread nD τ).loc b) = m ((c.tc : Thread nD τ).loc b) := fun b hb h₁ h₂ h₃ =>
      (h c b hb).trans (final_unwritten m c h₁ h₂ h₃)
    ⟨h c main_v212 rfl,
    at_arg main_arg0 rfl (by decide +kernel) (by decide +kernel) (by decide +kernel),
    at_arg main_arg1 rfl (by decide +kernel) (by decide +kernel) (by decide +kernel),
    at_arg main_arg2 rfl (by decide +kernel) (by decide +kernel) (by decide +kernel),
    at_arg main_arg3 rfl (by decide +kernel) (by decide +kernel) (by decide +kernel),
    at_arg main_arg4 rfl (by decide +kernel) (by decide +kernel) (by decide +kernel),
    at_arg main_arg5 rfl (by decide +kernel) (by decide +kernel) (by decide +kernel),
    at_arg main_arg6 rfl (by decide +kernel) (by decide +kernel) (by decide +kernel),
    at_arg main_arg7 rfl (by decide +kernel) (by decide +kernel) (by decide +kernel),
    at_arg main_arg8 rfl (by decide +kernel) (by decide +kernel) (by decide +kernel),
    at_arg main_arg9 rfl (by decide +kernel) (by decide +kernel) (by decide +kernel),
    at_arg main_arg10 rfl (by decide +kernel) (by decide +kernel) (by decide +kernel),
    at_arg main_arg11 rfl (by decide +kernel) (by decide +kernel) (by decide +kernel),
    at_arg main_arg12 rfl (by decide +kernel) (by decide +kernel) (by decide +kernel),
    at_arg main_arg13 rfl (by decide +kernel) (by decide +kernel) (by decide +kernel),
    at_arg main_arg14 rfl (by decide +kernel) (by decide +kernel) (by decide +kernel),
    at_arg main_arg15 rfl (by decide +kernel) (by decide +kernel) (by decide +kernel),
    at_arg main_arg16 rfl (by decide +kernel) (by decide +kernel) (by decide +kernel),
    at_arg main_arg17 rfl (by decide +kernel) (by decide +kernel) (by decide +kernel),
    at_arg main_arg18 rfl (by decide +kernel) (by decide +kernel) (by decide +kernel),
    at_arg main_arg19 rfl (by decide +kernel) (by decide +kernel) (by decide +kernel),
    at_arg main_arg20 rfl (by decide +kernel) (by decide +kernel) (by decide +kernel)⟩) (run_fold m ρ)

/-- The reference's frame: its arguments end as launched and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run _ _ _).mono (fun r h => ⟨fun c => (h c).2, Idealize.ShloMosaic.sem_eq_zero_of_no_sems (by decide) r.2⟩) (run_args m ρ)

end Cert.RefRun
-- ==== Proof.SortFeat.lean ====
module

public import proofs.«01_k».proof.Proof.Spec
public import Idealize.ShloMosaic.Lib.SortFacts

/-!
The reference's neighbour list: the indices are sorted with the points outside the ball keyed by the number of points, the
list is cut, and the entries outside the ball are overwritten by the first one. The largest value over that list is `feat`.
-/

@[expose] public section

set_option maxRecDepth 16384

noncomputable section

namespace Cert.SortFeat

open Finset Cert.Spec Idealize.ShloMosaic
open scoped Classical

/-- The sort's key: a point in the ball has its own index, any other the number of points. -/
def key {N : ℕ} (P : Fin N → Prop) (j : Fin N) : ℕ := if P j then j.val else N

theorem key_pos {N : ℕ} {P : Fin N → Prop} {j : Fin N} (h : P j) : key P j = j.val := if_pos h
theorem key_neg {N : ℕ} {P : Fin N → Prop} {j : Fin N} (h : ¬ P j) : key P j = N := if_neg h

theorem of_key_lt {N : ℕ} {P : Fin N → Prop} {j : Fin N} (h : key P j < N) : P j := by
  by_contra hn; rw [key_neg hn] at h; omega

theorem key_le {N : ℕ} (P : Fin N → Prop) (j : Fin N) : key P j ≤ N := by
  by_cases h : P j
  · rw [key_pos h]; exact j.isLt.le
  · rw [key_neg h]

section
variable {N : ℕ} {P : Fin N → Prop} {σ : Fin N → Fin N} (hb : Function.Bijective σ) (hs : ∀ i j, i < j → ¬ key P (σ j) < key P (σ i))
include hb hs

/-- A point in the ball stands at the place numbered by the points of the ball up to it. -/
theorem card_le (k : Fin N) (hk : P (σ k)) : (univ.filter fun i => i ≤ σ k ∧ P i).card = k.val + 1 := by
  have : (univ.filter fun i => i ≤ σ k ∧ P i) = (Finset.Iic k).image σ := by
    ext i
    obtain ⟨k', rfl⟩ := hb.2 i
    simp only [mem_filter, mem_univ, true_and, mem_image, Finset.mem_Iic]
    constructor
    · rintro ⟨h1, h2⟩
      refine ⟨k', ?_, rfl⟩
      by_contra hlt
      have h3 := hs k k' (not_le.mp hlt)
      rw [key_pos h2, key_pos hk, not_lt] at h3
      have := hb.1 (le_antisymm h1 (Fin.le_def.mpr h3))
      exact hlt this.le
    · rintro ⟨a, ha, e⟩
      obtain rfl := hb.1 e
      rcases ha.lt_or_eq with hlt | rfl
      · have h3 := hs a k hlt
        rw [key_pos hk, not_lt] at h3
        have hp : P (σ a) := of_key_lt (h3.trans_lt (σ k).isLt)
        rw [key_pos hp] at h3
        exact ⟨Fin.le_def.mpr h3, hp⟩
      · exact ⟨le_rfl, hk⟩
  rw [this, Finset.card_image_of_injective _ hb.1, Fin.card_Iic]

/-- The first of the list is in the ball when any point is. -/
theorem first_in (z : Fin N) (hz : z.val = 0) (i : Fin N) (hi : P i) : P (σ z) := by
  obtain ⟨k, rfl⟩ := hb.2 i
  rcases Nat.eq_zero_or_pos k.val with h0 | hpos
  · rwa [show z = k from Fin.ext (by omega)]
  · have h3 := hs z k (Fin.lt_def.mpr (by omega))
    rw [key_pos hi, not_lt] at h3
    exact of_key_lt (h3.trans_lt (σ k).isLt)

end

/-- The largest value over the cut and padded list. -/
theorem sup_eq_feat (P : Pt → Prop) (σ : Pt → Pt) (hb : Function.Bijective σ) (hs : ∀ i j, i < j → ¬ key P (σ j) < key P (σ i))
    (ns : ℕ) (h1 : 1 ≤ ns) (hns : ns ≤ 2048) (H : Pt → EReal) (p : Fin ns → Pt)
    (hp : ∀ k : Fin ns, (p k).val = min (if key P (σ (k.castLE hns)) = 2048 then key P (σ ⟨0, by omega⟩) else key P (σ (k.castLE hns))) 2047) :
    (univ : Finset (Fin ns)).sup (fun k => H (p k)) = feat P ns H := by
  have hin : ∀ k : Fin ns, P (σ (k.castLE hns)) → p k = σ (k.castLE hns) := fun k hk => Fin.ext (by
    have := (σ (k.castLE hns)).isLt
    rw [hp, key_pos hk, if_neg (by omega)]; omega)
  have hout : ∀ k : Fin ns, ¬ P (σ (k.castLE hns)) → (p k).val = min (key P (σ ⟨0, by omega⟩)) 2047 := fun k hk => by
    rw [hp, if_pos (key_neg hk)]
  apply le_antisymm
  · refine Finset.sup_le fun k _ => Finset.le_sup (f := H) (mem_filter.mpr ⟨mem_univ _, ?_⟩)
    by_cases hk : P (σ (k.castLE hns))
    · rw [hin k hk]
      refine Or.inl ⟨hk, ?_⟩
      unfold cnt
      have := card_le hb hs _ hk
      refine le_trans (le_of_eq ?_) (Nat.succ_le_of_lt k.isLt)
      exact this
    · by_cases he : ∃ i, P i
      · obtain ⟨i, hi⟩ := he
        have h0 := first_in hb hs ⟨0, by omega⟩ rfl i hi
        have hv := hout k hk
        rw [key_pos h0] at hv
        have e : p k = σ ⟨0, by omega⟩ := Fin.ext (by have := (σ ⟨0, by omega⟩ : Pt).isLt; omega)
        rw [e]
        refine Or.inl ⟨h0, ?_⟩
        unfold cnt
        exact le_trans (le_of_eq (card_le hb hs _ h0)) h1
      · have hn : ∀ i, ¬ P i := fun i hi => he ⟨i, hi⟩
        refine Or.inr ⟨hn, ?_⟩
        rw [hout k hk, key_neg (hn _)]; omega
  · refine Finset.sup_le fun j hj => ?_
    rcases (mem_filter.mp hj).2 with ⟨h2, h3⟩ | ⟨h2, h3⟩
    · obtain ⟨k, rfl⟩ := hb.2 j
      have hc : cnt P (σ k) = k.val + 1 := card_le hb hs k h2
      have hk : k.val < ns := by omega
      have e : p ⟨k.val, hk⟩ = σ k := hin ⟨k.val, hk⟩ h2
      rw [← e]
      exact Finset.le_sup (f := fun k => H (p k)) (mem_univ _)
    · have e : p ⟨0, by omega⟩ = j := Fin.ext (by rw [hout _ (h2 _), key_neg (h2 _), h3]; omega)
      rw [← e]
      exact Finset.le_sup (f := fun k => H (p k)) (mem_univ _)

theorem slt_ofNat (a b : ℕ) (ha : a < 2 ^ 31) (hb : b < 2 ^ 31) : IntOp.cmpi .slt (BitVec.ofNat 32 a) (BitVec.ofNat 32 b) = 1#1 ↔ a < b := by
  have h1 : (BitVec.ofNat 32 a).toInt = a := by
    rw [BitVec.toInt_eq_toNat_of_lt, BitVec.toNat_ofNat, Nat.mod_eq_of_lt (by omega)]
    rw [BitVec.toNat_ofNat, Nat.mod_eq_of_lt (by omega)]; omega
  have h2 : (BitVec.ofNat 32 b).toInt = b := by
    rw [BitVec.toInt_eq_toNat_of_lt, BitVec.toNat_ofNat, Nat.mod_eq_of_lt (by omega)]
    rw [BitVec.toNat_ofNat, Nat.mod_eq_of_lt (by omega)]; omega
  simp only [IntOp.cmpi, BitVec.slt, h1, h2]
  by_cases h : a < b <;> simp [h]

/-- The order the host's sort puts the points in, at their keys. -/
def order {N : ℕ} (P : Fin N → Prop) : Fin N → Fin N :=
  sortedFrom fun k k' => IntOp.cmpi .slt (BitVec.ofNat 32 (key P k)) (BitVec.ofNat 32 (key P k')) == 1#1

theorem order_bij {N : ℕ} (P : Fin N → Prop) : Function.Bijective (order P) := ⟨sortedFrom_injective _, sortedFrom_surjective _⟩

theorem order_sorted {N : ℕ} (hN : N < 2 ^ 31) (P : Fin N → Prop) (i j : Fin N) (h : i < j) : ¬ key P (order P j) < key P (order P i) := by
  have e : ∀ a b : Fin N, (IntOp.cmpi .slt (BitVec.ofNat 32 (key P a)) (BitVec.ofNat 32 (key P b)) == 1#1) = decide (key P a < key P b) := fun a b => by
    rw [Bool.eq_iff_iff, beq_iff_eq, decide_eq_true_iff]
    exact slt_ofNat _ _ ((key_le P a).trans_lt hN) ((key_le P b).trans_lt hN)
  have := sortedFrom_noInversion (fun k k' => IntOp.cmpi .slt (BitVec.ofNat 32 (key P k)) (BitVec.ofNat 32 (key P k')) == 1#1)
    (fun k k' => IntOp.cmpi .slt (BitVec.ofNat 32 (key P k)) (BitVec.ofNat 32 (key P k')) == 1#1)
    (fun a b hab => by rw [e] at hab ⊢; simp only [decide_eq_true_iff, decide_eq_false_iff_not] at *; omega) (fun _ _ h => h)
    (fun a b c hab hbc => by rw [e] at *; simp only [decide_eq_false_iff_not] at *; omega) i j h
  rw [e] at this
  exact of_decide_eq_false this

end Cert.SortFeat

end
-- ==== Proof.RefTake.lean ====
module

public import Idealize.ShloMosaic.Lib.ValueIdx
public import Idealize.ShloMosaic.Lib.IdealHost
public import proofs.«01_k».proof.Proof.SortFeat

/-!
The reference's index lookups: a batch index and a point index, made non-negative and put side by side, read a row of the points.
-/

@[expose] public section

set_option maxRecDepth 16384

noncomputable section

namespace Cert.RefTake

open Idealize.ShloMosaic
open Idealize.ShloMosaic.ValueIdx

variable {α : Type} {B N M n : ℕ}

/-- Rows of a batch of tables, read at pairs of a batch index and a row index. -/
abbrev rows3 (B N M : ℕ) (wf : GatherDims.WF ⟨3, ![B, N, 3]⟩ ⟨3, ![B, M, 2]⟩ ⟨3, ![B, M, 3]⟩ [2] [0, 1] [] [0, 1] [] 2 ![1, 1, 3]) :
    GatherDims ⟨3, ![B, N, 3]⟩ ⟨3, ![B, M, 2]⟩ ⟨3, ![B, M, 3]⟩ where
  offsetDims := [2]
  collapsedSliceDims := [0, 1]
  operandBatchingDims := []
  startIndicesBatchingDims := []
  startIndexMap := [0, 1]
  indexVectorDim := 2
  sliceSizes := ![1, 1, 3]
  wf := wf

/-- The same with one more axis of indices. -/
abbrev rows4 (B N M n : ℕ) (wf : GatherDims.WF ⟨3, ![B, N, 3]⟩ ⟨4, ![B, M, n, 2]⟩ ⟨4, ![B, M, n, 3]⟩ [3] [0, 1] [] [0, 1] [] 3 ![1, 1, 3]) :
    GatherDims ⟨3, ![B, N, 3]⟩ ⟨4, ![B, M, n, 2]⟩ ⟨4, ![B, M, n, 3]⟩ where
  offsetDims := [3]
  collapsedSliceDims := [0, 1]
  operandBatchingDims := []
  startIndicesBatchingDims := []
  startIndexMap := [0, 1]
  indexVectorDim := 3
  sliceSizes := ![1, 1, 3]
  wf := wf

/-- A row lookup at pairs `(b', r)` of in-range indices. -/
theorem rows3_apply (wf : GatherDims.WF ⟨3, ![B, N, 3]⟩ ⟨3, ![B, M, 2]⟩ ⟨3, ![B, M, 3]⟩ [2] [0, 1] [] [0, 1] [] 2 ![1, 1, 3])
    (x : (⟨3, ![B, N, 3]⟩ : Shape).Idx → α) (idx : IVec ⟨3, ![B, M, 2]⟩ 32) (b : Fin B) (i : Fin M) (k : Fin 3) (b' : Fin B) (r : Fin N)
    (hb : min (idx (ix3 b i 0)).toInt.toNat (B - 1) = b'.val) (hr : min (idx (ix3 b i 1)).toInt.toNat (N - 1) = r.val) :
    Host.gather (rows3 B N M wf) x idx (ix3 b i k) = x (ix3 b' r k) := by
  unfold Host.gather
  congr 1
  funext a
  refine Fin.ext ?_
  show (rows3 B N M wf).start (ix3 b i k) idx a + (rows3 B N M wf).batchCoord (ix3 b i k) a + (rows3 B N M wf).offCoord (ix3 b i k) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by simp [rows3]))]
    simp only [Nat.add_zero]
    unfold GatherDims.start
    rw [dif_pos (show (0 : Fin 3) ∈ (rows3 B N M wf).startIndexMap by simp [rows3])]
    have hsi : (rows3 B N M wf).siIdx (ix3 b i k) ⟨List.idxOf (0 : Fin 3) (rows3 B N M wf).startIndexMap,
        List.idxOf_lt_length_iff.2 (by simp [rows3])⟩ = ix3 b i 0 := by
      funext b; refine Fin.ext ?_
      match b with
      | ⟨0, _⟩ => rfl
      | ⟨1, _⟩ => rfl
      | ⟨2, _⟩ => rfl
    exact (congrArg (fun z => min (idx z).toInt.toNat (B - 1)) hsi).trans hb
  · rw [GatherDims.offCoord_eq_zero _ _ _ (fun h => ((GatherDims.mem_sKept _ _).mp h).1 (by simp [rows3]))]
    simp only [Nat.add_zero]
    unfold GatherDims.start
    rw [dif_pos (show (1 : Fin 3) ∈ (rows3 B N M wf).startIndexMap by simp [rows3])]
    have hsi : (rows3 B N M wf).siIdx (ix3 b i k) ⟨List.idxOf (1 : Fin 3) (rows3 B N M wf).startIndexMap,
        List.idxOf_lt_length_iff.2 (by simp [rows3])⟩ = ix3 b i 1 := by
      funext b; refine Fin.ext ?_
      match b with
      | ⟨0, _⟩ => rfl
      | ⟨1, _⟩ => rfl
      | ⟨2, _⟩ => rfl
    exact (congrArg (fun z => min (idx z).toInt.toNat (N - 1)) hsi).trans hr
  · unfold GatherDims.start
    rw [dif_neg (show ¬ (2 : Fin 3) ∈ (rows3 B N M wf).startIndexMap by simp [rows3])]
    simp only [Nat.zero_add]
    rfl

theorem rows4_apply (wf : GatherDims.WF ⟨3, ![B, N, 3]⟩ ⟨4, ![B, M, n, 2]⟩ ⟨4, ![B, M, n, 3]⟩ [3] [0, 1] [] [0, 1] [] 3 ![1, 1, 3])
    (x : (⟨3, ![B, N, 3]⟩ : Shape).Idx → α) (idx : IVec ⟨4, ![B, M, n, 2]⟩ 32) (b : Fin B) (i : Fin M) (t : Fin n) (k : Fin 3) (b' : Fin B) (r : Fin N)
    (hb : min (idx (ix4 b i t 0)).toInt.toNat (B - 1) = b'.val) (hr : min (idx (ix4 b i t 1)).toInt.toNat (N - 1) = r.val) :
    Host.gather (rows4 B N M n wf) x idx (ix4 b i t k) = x (ix3 b' r k) := by
  unfold Host.gather
  congr 1
  funext a
  refine Fin.ext ?_
  show (rows4 B N M n wf).start (ix4 b i t k) idx a + (rows4 B N M n wf).batchCoord (ix4 b i t k) a + (rows4 B N M n wf).offCoord (ix4 b i t k) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by simp [rows4]))]
    simp only [Nat.add_zero]
    unfold GatherDims.start
    rw [dif_pos (show (0 : Fin 3) ∈ (rows4 B N M n wf).startIndexMap by simp [rows4])]
    have hsi : (rows4 B N M n wf).siIdx (ix4 b i t k) ⟨List.idxOf (0 : Fin 3) (rows4 B N M n wf).startIndexMap,
        List.idxOf_lt_length_iff.2 (by simp [rows4])⟩ = ix4 b i t 0 := by
      funext b; refine Fin.ext ?_
      match b with
      | ⟨0, _⟩ => rfl
      | ⟨1, _⟩ => rfl
      | ⟨2, _⟩ => rfl
      | ⟨3, _⟩ => rfl
    exact (congrArg (fun z => min (idx z).toInt.toNat (B - 1)) hsi).trans hb
  · rw [GatherDims.offCoord_eq_zero _ _ _ (fun h => ((GatherDims.mem_sKept _ _).mp h).1 (by simp [rows4]))]
    simp only [Nat.add_zero]
    unfold GatherDims.start
    rw [dif_pos (show (1 : Fin 3) ∈ (rows4 B N M n wf).startIndexMap by simp [rows4])]
    have hsi : (rows4 B N M n wf).siIdx (ix4 b i t k) ⟨List.idxOf (1 : Fin 3) (rows4 B N M n wf).startIndexMap,
        List.idxOf_lt_length_iff.2 (by simp [rows4])⟩ = ix4 b i t 1 := by
      funext b; refine Fin.ext ?_
      match b with
      | ⟨0, _⟩ => rfl
      | ⟨1, _⟩ => rfl
      | ⟨2, _⟩ => rfl
      | ⟨3, _⟩ => rfl
    exact (congrArg (fun z => min (idx z).toInt.toNat (N - 1)) hsi).trans hr
  · unfold GatherDims.start
    rw [dif_neg (show ¬ (2 : Fin 3) ∈ (rows4 B N M n wf).startIndexMap by simp [rows4])]
    simp only [Nat.zero_add]
    rfl

theorem toInt_ofNat (a : ℕ) (ha : a < 2 ^ 31) : (BitVec.ofNat 32 a).toInt = a := by
  rw [BitVec.toInt_eq_toNat_of_lt, BitVec.toNat_ofNat, Nat.mod_eq_of_lt (by omega)]
  rw [BitVec.toNat_ofNat, Nat.mod_eq_of_lt (by omega)]; omega

/-- A non-negative index is left as it is by the wrap of negative ones. -/
theorem wrap (a : ℕ) (ha : a < 2 ^ 31) (c : BitVec 32) :
    Scalar.select (IntOp.cmpi .slt (BitVec.ofNat 32 a) 0#32) (IntOp.addi (BitVec.ofNat 32 a) c) (BitVec.ofNat 32 a) = BitVec.ofNat 32 a := by
  have h : IntOp.cmpi .slt (BitVec.ofNat 32 a) 0#32 ≠ 1#1 := fun h => absurd ((SortFeat.slt_ofNat a 0 ha (by norm_num)).mp h) (Nat.not_lt_zero _)
  unfold Scalar.select
  exact if_neg h

/-- The row a clamped index names. -/
theorem clamp (a : ℕ) (ha : a < 2 ^ 31) (N : ℕ) (w : BitVec 32) (hw : w = BitVec.ofNat 32 a) : min w.toInt.toNat (N - 1) = min a (N - 1) := by
  rw [hw, toInt_ofNat a ha, Int.toNat_natCast]

end Cert.RefTake

end
-- ==== Proof.RefLook.lean ====
module

public import Idealize.ShloMosaic.Lib.Pipeline.Value
public import Idealize.ShloMosaic.Lib.Pointwise.Reduce
public import proofs.«01_k».proof.Proof.RefTake

/-!
A row looked up where its two indices are laid side by side.
-/

@[expose] public section

set_option maxRecDepth 16384

noncomputable section

namespace Cert.RefTake

open Idealize.ShloMosaic hiding ix1 ix2 ix3 ix4
open Idealize.ShloMosaic.ValueIdx
open scoped BigOperators

variable {α : Type} {M n : ℕ}

/-- The batch index beside the point index reads the point's row of the batch. -/
theorem look3 (wf : GatherDims.WF ⟨3, ![16, 2048, 3]⟩ ⟨3, ![16, M, 2]⟩ ⟨3, ![16, M, 3]⟩ [2] [0, 1] [] [0, 1] [] 2 ![1, 1, 3])
    (x : (⟨3, ![16, 2048, 3]⟩ : Shape).Idx → α) (p q : IVec ⟨3, ![16, M, 1]⟩ 32)
    (hc : Shape.Concatenates [(⟨3, ![16, M, 1]⟩ : Shape), ⟨3, ![16, M, 1]⟩] ⟨3, ![16, M, 2]⟩ 2) (b : Fin 16) (i : Fin M) (k : Fin 3) (r : Fin 2048)
    (hp : p (ix3 b i 0) = BitVec.ofNat 32 b.val) (hq : q (ix3 b i 0) = BitVec.ofNat 32 r.val) :
    Host.gather (rows3 16 2048 M wf) x (concatenate ⟨3, ![16, M, 2]⟩ 2 [⟨⟨3, ![16, M, 1]⟩, p⟩, ⟨⟨3, ![16, M, 1]⟩, q⟩] hc) (ix3 b i k) = x (ix3 b r k) := by
  refine rows3_apply wf x _ b i k b r ?_ ?_
  · rw [clamp b.val (by omega) 16 _ ((concatenate_pair_apply_left (t := ⟨3, ![16, M, 2]⟩) 2 p q hc (ix3 b i 0) rfl (ix3 b i 0)
      (fun a => match a with | ⟨0, _⟩ => rfl | ⟨1, _⟩ => rfl | ⟨2, _⟩ => rfl)).trans hp)]
    omega
  · rw [clamp r.val (by omega) 2048 _ ((concatenate_pair_apply_right (t := ⟨3, ![16, M, 2]⟩) 2 p q hc (ix3 b i 1) rfl rfl (ix3 b i 0)
      (fun a => match a with | ⟨0, _⟩ => fun _ => rfl | ⟨1, _⟩ => fun _ => rfl | ⟨2, _⟩ => fun h => (h rfl).elim) rfl).trans hq)]
    omega

/-- The same with one more axis of indices. -/
theorem look4 (wf : GatherDims.WF ⟨3, ![16, 2048, 3]⟩ ⟨4, ![16, M, n, 2]⟩ ⟨4, ![16, M, n, 3]⟩ [3] [0, 1] [] [0, 1] [] 3 ![1, 1, 3])
    (x : (⟨3, ![16, 2048, 3]⟩ : Shape).Idx → α) (p q : IVec ⟨4, ![16, M, n, 1]⟩ 32)
    (hc : Shape.Concatenates [(⟨4, ![16, M, n, 1]⟩ : Shape), ⟨4, ![16, M, n, 1]⟩] ⟨4, ![16, M, n, 2]⟩ 3) (b : Fin 16) (i : Fin M) (t : Fin n) (k : Fin 3)
    (r : Fin 2048) (w : ℕ) (hw : w < 2 ^ 31) (hr : min w 2047 = r.val)
    (hp : p (ix4 b i t 0) = BitVec.ofNat 32 b.val) (hq : q (ix4 b i t 0) = BitVec.ofNat 32 w) :
    Host.gather (rows4 16 2048 M n wf) x (concatenate ⟨4, ![16, M, n, 2]⟩ 3 [⟨⟨4, ![16, M, n, 1]⟩, p⟩, ⟨⟨4, ![16, M, n, 1]⟩, q⟩] hc) (ix4 b i t k)
      = x (ix3 b r k) := by
  refine rows4_apply wf x _ b i t k b r ?_ ?_
  · rw [clamp b.val (by omega) 16 _ ((concatenate_pair_apply_left (t := ⟨4, ![16, M, n, 2]⟩) 3 p q hc (ix4 b i t 0) rfl (ix4 b i t 0)
      (fun a => match a with | ⟨0, _⟩ => rfl | ⟨1, _⟩ => rfl | ⟨2, _⟩ => rfl | ⟨3, _⟩ => rfl)).trans hp)]
    omega
  · rw [clamp w hw 2048 _ ((concatenate_pair_apply_right (t := ⟨4, ![16, M, n, 2]⟩) 3 p q hc (ix4 b i t 1) rfl rfl (ix4 b i t 0)
      (fun a => match a with | ⟨0, _⟩ => fun _ => rfl | ⟨1, _⟩ => fun _ => rfl | ⟨2, _⟩ => fun _ => rfl | ⟨3, _⟩ => fun h => (h rfl).elim) rfl).trans hq)]
    exact hr

/-- A non-negative word is left as it is where negative ones are moved up. -/
theorem wrapAt {s : Shape} (v z c : IVec s 32) (j : s.Idx) (a : ℕ) (ha : a < 2 ^ 31) (hv : v j = BitVec.ofNat 32 a) (hz : z j = 0#32) :
    select (cmpi .slt v z) (addi v c) v j = BitVec.ofNat 32 a := by
  show Scalar.select (IntOp.cmpi .slt (v j) (z j)) (IntOp.addi (v j) (c j)) (v j) = _
  rw [hv, hz]
  exact wrap a ha _

/-- A sum along the last of three axes, from zero. -/
theorem sumLast {a b c : ℕ} (v : FVec Ideal ⟨3, ![a, b, c]⟩ .f32) (h : (⟨3, ![a, b, c]⟩ : Shape).ReducesTo [2] ⟨2, ![a, b]⟩)
    (hs : 0 < (⟨0, ![]⟩ : Shape).numel) (i : Fin a) (j : Fin b) :
    Host.reduceAdd v (constant (F := Ideal) ⟨0, ![]⟩ .f32 0x00000000#32) h hs (ix2 i j) = ∑ k : Fin c, v (ix3 i j k) := by
  refine (Ideal.hostReduceAdd_r3_a2 h v _ (ix2 i j)).trans ?_
  show Ideal.ofBits .f32 0#32 + _ = _
  rw [Ideal.ofBits_zero_f32, zero_add]
  rfl

end Cert.RefTake
-- ==== Proof.RefArgmax.lean ====
module

public import proofs.«01_k».proof.Proof.FpsSpec
public import proofs.«01_k».proof.Proof.RefTake
public import proofs.«01_k».proof.Proof.RefOps

/-!
The reference's arg-max: a fold of (value, index) pairs whose result is the first index of the largest value.
-/

@[expose] public section

set_option maxRecDepth 16384

noncomputable section

namespace Cert.RefArgmax

open Idealize.ShloMosaic Idealize.ShloMosaic.ValueIdx Cert.ReferenceIdeal Cert.Fps

/-- The combiner on extended reals: the larger value, and between equal values the smaller index. -/
theorem comb (a b : EReal × BitVec 32) : reducer_argmax_f32_i32 (F := Ideal) a b
    = if b.1 < a.1 then a else if a.1 = b.1 then (b.1, if IntOp.cmpi .slt a.2 b.2 = 1#1 then a.2 else b.2) else b := by
  have hx : reducer_argmax_f32_i32 (F := Ideal) a b
      = (Scalar.select (IntOp.ori (Ideal.cmp .ogt a.1 b.1) (Ideal.cmp .une a.1 a.1)) a.1 b.1,
         Scalar.select (IntOp.ori (IntOp.ori (Ideal.cmp .ogt a.1 b.1) (Ideal.cmp .une a.1 a.1)) (IntOp.andi (Ideal.cmp .oeq a.1 b.1) (IntOp.cmpi .slt a.2 b.2))) a.2 b.2) := rfl
  rw [hx]
  have hc : IntOp.cmpi .slt a.2 b.2 = 1#1 ∨ IntOp.cmpi .slt a.2 b.2 = 0#1 := by
    generalize IntOp.cmpi .slt a.2 b.2 = w
    revert w; decide
  rcases lt_trichotomy b.1 a.1 with h | h | h
  · rcases hc with h' | h' <;> simp [Ideal.cmp, h, h.ne, h.ne', h', IntOp.ori, IntOp.andi, Scalar.select]
  · rcases hc with h' | h' <;> simp [Ideal.cmp, h, h', IntOp.ori, IntOp.andi, Scalar.select]
  · rcases hc with h' | h' <;> simp [Ideal.cmp, h, h.ne, h.ne', h.not_gt, h', IntOp.ori, IntOp.andi, Scalar.select]

/-- What the fold holds once the points of `S` are met: the largest value among them and its first index. -/
def Inv (d : Pt → EReal) (S : Set Pt) (a : EReal × BitVec 32) : Prop :=
  ∃ f : Pt, a.2 = BitVec.ofNat 32 f.val ∧ (∀ j ∈ S, d j ≤ a.1 ∧ (d j = a.1 → f ≤ j)) ∧ ((a.1 = ⊥ ∧ f.val = 0) ∨ d f = a.1)

theorem inv_step (d : Pt → EReal) (S : Set Pt) (a : EReal × BitVec 32) (h : Inv d S a) (j : Pt) :
    Inv d (insert j S) (reducer_argmax_f32_i32 (F := Ideal) a (d j, BitVec.ofNat 32 j.val)) := by
  obtain ⟨f, h1, h2, h3⟩ := h
  rw [comb]
  dsimp only
  rcases lt_trichotomy (d j) a.1 with h | h | h
  · rw [if_pos h]
    refine ⟨f, h1, fun i hi => ?_, h3⟩
    rcases hi with rfl | hi
    · exact ⟨h.le, fun e => absurd e h.ne⟩
    · exact h2 i hi
  · rw [if_neg h.not_lt, if_pos h.symm, h1]
    have hs := SortFeat.slt_ofNat f.val j.val (by have := f.isLt; omega) (by have := j.isLt; omega)
    by_cases hf : f.val < j.val
    · rw [if_pos (hs.mpr hf)]
      refine ⟨f, rfl, fun i hi => ?_, ?_⟩
      · rcases hi with rfl | hi
        · exact ⟨le_rfl, fun _ => Fin.le_def.mpr hf.le⟩
        · dsimp only; rw [h]; exact h2 i hi
      · dsimp only; rw [h]; exact h3
    · rw [if_neg (mt hs.mp hf)]
      refine ⟨j, rfl, fun i hi => ?_, Or.inr rfl⟩
      rcases hi with rfl | hi
      · exact ⟨le_rfl, fun _ => le_rfl⟩
      · dsimp only; rw [h]
        exact ⟨(h2 i hi).1, fun e => le_trans (Fin.le_def.mpr (not_lt.mp hf)) ((h2 i hi).2 e)⟩
  · rw [if_neg h.not_gt, if_neg h.ne]
    refine ⟨j, rfl, fun i hi => ?_, Or.inr rfl⟩
    rcases hi with rfl | hi
    · exact ⟨le_rfl, fun _ => le_rfl⟩
    · exact ⟨(h2 i hi).1.trans h.le, fun e => absurd e ((h2 i hi).1.trans_lt h).ne⟩

theorem inv_foldl (d : Pt → EReal) (L : List Pt) : ∀ (S : Set Pt) (a : EReal × BitVec 32), Inv d S a →
    Inv d (S ∪ {j | j ∈ L}) ((L.map fun j => (d j, BitVec.ofNat 32 j.val)).foldl (reducer_argmax_f32_i32 (F := Ideal)) a) := by
  induction L with
  | nil => intro S a h; simpa using h
  | cons j L ih =>
    intro S a h
    have := ih _ _ (inv_step d S a h j)
    have e : insert j S ∪ {i | i ∈ L} = S ∪ {i | i ∈ j :: L} := by
      ext i; simp only [Set.mem_union, Set.mem_insert_iff, Set.mem_setOf_eq, List.mem_cons]; tauto
    rw [← e]
    exact this

/-- Once every point is met, the index is the first of the largest value. -/
theorem inv_univ (d : Pt → EReal) (S : Set Pt) (hS : ∀ j, j ∈ S) (a : EReal × BitVec 32) (h : Inv d S a) :
    a.2 = BitVec.ofNat 32 (firstMax d).val := by
  obtain ⟨f, h1, h2, h3⟩ := h
  have : IsFirst d f := by
    rcases h3 with ⟨h3, h4⟩ | h3
    · have hb : ∀ i, d i = ⊥ := fun i => le_bot_iff.mp (h3 ▸ (h2 i (hS i)).1)
      exact ⟨fun i => by rw [hb i]; exact bot_le, fun i hi => absurd (Fin.lt_def.mp hi) (by omega)⟩
    · refine ⟨fun i => by rw [h3]; exact (h2 i (hS i)).1, fun i hi => ?_⟩
      rw [h3]
      exact lt_of_le_of_ne (h2 i (hS i)).1 fun e => absurd ((h2 i (hS i)).2 e) (not_le.mpr hi)
  rw [firstMax_eq this, h1]

/-- The reference's arg-max of each row. -/
theorem argmax_apply (x : FVec Ideal ⟨2, ![16, 2048]⟩ .f32) (y : IVec ⟨2, ![16, 2048]⟩ 32) (ix : FVec Ideal ⟨0, ![]⟩ .f32) (iy : IVec ⟨0, ![]⟩ 32)
    (h : (⟨2, ![16, 2048]⟩ : Shape).ReducesTo [1] ⟨1, ![16]⟩) (hu : 0 < (⟨0, ![]⟩ : Shape).numel)
    (hy : ∀ (b : Fin 16) (j : Pt), y (ix2 b j) = BitVec.ofNat 32 j.val) (hix : ∀ i, ix i = (⊥ : EReal)) (hiy : ∀ i, iy i = 0#32) (b : Fin 16) :
    (Host.argReduce (reducer_argmax_f32_i32 (F := Ideal)) x y ix iy h hu (ix1 b)).2 = BitVec.ofNat 32 (firstMax fun j => x (ix2 b j)).val := by
  rw [Ideal.argReduce_eq_reduce2, Host.reduce2_eq_foldl_fiber]
  set F := (List.finRange (⟨2, ![16, 2048]⟩ : Shape).numel).filter fun n => h.drop ((⟨2, ![16, 2048]⟩ : Shape).rowMajor.symm n) = ix1 b with hF
  have hdrop : ∀ i : (⟨2, ![16, 2048]⟩ : Shape).Idx, (h.drop i (0 : Fin 1)).val = (i 0).val := fun i => rfl
  obtain ⟨col, hcol⟩ : ∃ col : Fin (⟨2, ![16, 2048]⟩ : Shape).numel → Pt, ∀ n, col n = ((⟨2, ![16, 2048]⟩ : Shape).rowMajor.symm n) 1 :=
    ⟨fun n => ((⟨2, ![16, 2048]⟩ : Shape).rowMajor.symm n) 1, fun _ => rfl⟩
  have hmem : ∀ n ∈ F, ((⟨2, ![16, 2048]⟩ : Shape).rowMajor.symm n) = ix2 b (col n) := fun n hn => by
    have h1 := of_decide_eq_true (List.mem_filter.mp hn).2
    have h2 : (((⟨2, ![16, 2048]⟩ : Shape).rowMajor.symm n) 0).val = b.val := by
      rw [← hdrop, h1]
    refine (eq_ix2 _).trans ?_
    exact congrArg₂ ix2 (Fin.ext h2) (hcol n).symm
  have hfib : Host.argReduceFiber x y h (ix1 b) = (F.map col).map fun j => (x (ix2 b j), BitVec.ofNat 32 j.val) := by
    refine Eq.trans ?_ (List.map_map ..).symm
    refine List.map_congr_left fun n hn => ?_
    show (x _, y _) = (x (ix2 b (col n)), BitVec.ofNat 32 (col n).val)
    rw [← hy b, ← hmem n hn]
  rw [hfib, hix, hiy]
  refine inv_univ (fun j => x (ix2 b j)) _ (fun j => Or.inr ?_) _ (inv_foldl (fun j => x (ix2 b j)) _ ∅ _ ⟨0, rfl, fun _ hj => hj.elim, Or.inl ⟨rfl, rfl⟩⟩)
  refine List.mem_map.mpr ⟨(⟨2, ![16, 2048]⟩ : Shape).rowMajor (ix2 b j), List.mem_filter.mpr ⟨List.mem_finRange _, decide_eq_true ?_⟩, ?_⟩
  · rw [Equiv.symm_apply_apply]
    funext a
    match a with
    | ⟨0, _⟩ => exact Fin.ext (hdrop _)
  · rw [hcol, Equiv.symm_apply_apply]

end Cert.RefArgmax

end
-- ==== Proof.RefLoop.lean ====
module

public import Idealize.ShloMosaic.Lib.Routing.OpsOne
public import proofs.«01_k».proof.Proof.RefArgs
public import proofs.«01_k».proof.Proof.RefLook
public import proofs.«01_k».proof.Proof.RefArgmax
public import proofs.«01_k».proof.Proof.Final

/-!
The reference's loop, trip by trip: the distances to the chosen points, the point chosen next, and the list of chosen points.
-/

@[expose] public section

set_option maxRecDepth 16384

noncomputable section

namespace Cert.RefLoop

open Cert.ReferenceIdeal Cert.ReferenceIdeal.Gen Cert.RefRun Cert.RefTake Cert.Final
open Idealize.ShloMosaic hiding ix1 ix2 ix3 ix4
open Idealize.ShloMosaic.TcCoe Idealize.ShloMosaic.StableHlo
open Idealize.ShloMosaic.ValueIdx
open scoped BigOperators

/-- The trip's distances: the least of the carried one and the one to the last chosen point. -/
theorem dist_step (V : Valuation τ sig (Elt Ideal)) (x : FVec Ideal ⟨3, ![16, 2048, 3]⟩ .f32) (d : FVec Ideal ⟨2, ![16, 2048]⟩ .f32) (f : Fin 16 → Fin 2048)
    (hx : V (Proc.devRef .tc main_v3_0) = x) (hd : V (Proc.devRef .tc main_v3_3) = d)
    (hf : ∀ b : Fin 16, V (Proc.devRef .tc main_v3_4) (ix1 b) = BitVec.ofNat 32 (f b).val) (b : Fin 16) (j : Fin 2048) :
    after while0Ops0 V (Proc.devRef .tc main_while0b_v241) (ix2 b j) = min (d (ix2 b j)) (Cert.Fps.sqd (pts x b) (f b) j) := by
  after_reads_simp
  have hp : ∀ b : Fin 16, upto while0Ops0 V 29 (Proc.devRef .tc main_while0b_v233) (ix3 b 0 0) = BitVec.ofNat 32 b.val := fun b => by
    after_reads_simp
    refine (broadcastInDim_apply _ _ _ (ix3 b 0 0) (ix2 b 0) (fun a => match a with | ⟨0, _⟩ => rfl | ⟨1, _⟩ => rfl)).trans ?_
    refine wrapAt _ _ _ (ix2 b 0) b.val (by omega) ?_ rfl
    exact shapeCast_apply _ _ (ix2 b 0) (ix1 b) (by rw [Shape.rowMajor_val_one, Shape.rowMajor_val_two]; exact (Nat.mul_one b.val).symm)
  have hq : ∀ b : Fin 16, upto while0Ops0 V 29 (Proc.devRef .tc main_while0b_v234) (ix3 b 0 0) = BitVec.ofNat 32 (f b).val := fun b => by
    after_reads_simp
    refine (broadcastInDim_apply _ _ _ (ix3 b 0 0) (ix2 b 0) (fun a => match a with | ⟨0, _⟩ => rfl | ⟨1, _⟩ => rfl)).trans ?_
    refine wrapAt _ _ _ (ix2 b 0) (f b).val (by omega) ?_ rfl
    exact (broadcastInDim_apply _ _ _ (ix2 b 0) (ix1 b) (fun a => match a with | ⟨0, _⟩ => rfl)).trans (hf b)
  rw [hx, hd]
  generalize upto while0Ops0 V 29 (Proc.devRef .tc main_while0b_v233) = p at *
  generalize upto while0Ops0 V 29 (Proc.devRef .tc main_while0b_v234) = q at *
  refine congrArg (min (d (ix2 b j))) ((sumLast _ reducesTo_S16x2048x3_S16x2048_d2 h_S_ b j).trans (Finset.sum_congr rfl fun k _ => ?_))
  have hl := look3 gather_S16x2048x3_S16x1x2_S16x1x3_2_01_n_n_01_2_113_wf x p q concatenates_S16x1x1_S16x1x1_S16x1x2_d2 b 0 k (f b) (hp b) (hq b)
  have hb := (broadcastInDim_apply ![0, 1, 2] bcast_S16x1x3_S16x2048x3_0_1_2 _ (ix3 b j k) (ix3 b 0 k) (fun a => match a with | ⟨0, _⟩ => rfl | ⟨1, _⟩ => rfl | ⟨2, _⟩ => rfl)).trans hl
  exact congrArg (fun t : EReal => (x (ix3 b j k) - t) * (x (ix3 b j k) - t)) hb

/-- The list of chosen points, after a trip: the trip's point at the trip's place. -/
theorem list_step (V : Valuation τ sig (Elt Ideal)) (k : Fin 256) (hk : ∀ i, V (Proc.devRef .tc main_v3_2) i = BitVec.ofNat 32 k.val) (b : Fin 16) (n : Fin 256) :
    after while0Ops0 V (Proc.devRef .tc main_while0b_v219) (ix2 b n)
      = if n = k then V (Proc.devRef .tc main_v3_4) (ix1 b) else V (Proc.devRef .tc main_v3_5) (ix2 b n) := by
  after_reads_simp
  refine Routing.scatter_col_signed _ rfl rfl _ _ _ k ?_ b n
  refine (congrArg BitVec.toInt ?_).trans (toInt_ofNat k.val (by omega))
  exact wrapAt _ _ _ _ k.val (by omega) (hk _) rfl

/-- The trip number, after a trip. -/
theorem count_step (V : Valuation τ sig (Elt Ideal)) (k : ℕ) (hk : ∀ i, V (Proc.devRef .tc main_v3_2) i = BitVec.ofNat 32 k) (i : S_.Idx) :
    after while0Ops0 V (Proc.devRef .tc main_while0b_v213) i = BitVec.ofNat 32 (k + 1) := by
  after_reads_simp
  refine (congrArg (fun t : BitVec 32 => t + 1#32) (hk i)).trans ?_
  rw [BitVec.ofNat_add]

/-- The point chosen next: the first one farthest away. -/
theorem next_step (V : Valuation τ sig (Elt Ideal)) (b : Fin 16) :
    after while0Ops0_1 V (Proc.devRef .tc main_while0b_v242) (ix1 b)
      = BitVec.ofNat 32 (Cert.Fps.firstMax fun j => V (Proc.devRef .tc main_while0b_v241) (ix2 b j)).val := by
  after_reads_simp
  exact Cert.RefArgmax.argmax_apply (V (Proc.devRef .tc main_while0b_v241)) _ _ _ _ _ (fun b j => rfl) (fun i => Cert.Scale.neg_inf_f32) (fun i => rfl) b

/-- The carried buffers, after a trip. -/
theorem carry_step (V : Valuation τ sig (Elt Ideal)) :
    after while0Ops0_2 V (Proc.devRef .tc main_v3_2) = V (Proc.devRef .tc main_while0b_v213)
    ∧ after while0Ops0_2 V (Proc.devRef .tc main_v3_3) = V (Proc.devRef .tc main_while0b_v241)
    ∧ after while0Ops0_2 V (Proc.devRef .tc main_v3_4) = V (Proc.devRef .tc main_while0b_v242)
    ∧ after while0Ops0_2 V (Proc.devRef .tc main_v3_5) = V (Proc.devRef .tc main_while0b_v219) := by
  refine ⟨?_, ?_, ?_, ?_⟩ <;> after_reads_simp <;> rfl

variable (m : (ℓ : Loc nD τ sig) → Buf (Elt Ideal) ℓ) (c : Dev nD)

/-- The points, as launched. -/
abbrev arg0 : FVec Ideal ⟨3, ![16, 2048, 3]⟩ .f32 := m ((c.tc : Thread nD τ).loc main_arg0)

/-- The carried buffers before the first trip. -/
theorem entry : entryContents preI m c (Proc.devRef .tc main_v3_0) = arg0 m c
    ∧ (∀ i, entryContents preI m c (Proc.devRef .tc main_v3_2) i = 0#32)
    ∧ (∀ b j, entryContents preI m c (Proc.devRef .tc main_v3_3) (ix2 b j) = Ideal.ofBits .f32 0x501502F9#32)
    ∧ (∀ b, entryContents preI m c (Proc.devRef .tc main_v3_4) (ix1 b) = 0#32) := by
  simp only [entryContents, afterL_cons, afterL_nil]
  refine ⟨?_, ?_, ?_, ?_⟩ <;> after_reads_simp
  · rfl
  · exact fun _ => rfl
  · exact fun _ _ => rfl
  · exact fun _ => rfl

/-- What the loop carries before trip `k`: the state of the choice after `k` steps, and the points chosen so far. -/
structure At (k : ℕ) : Prop where
  points : atK m k c (Proc.devRef .tc main_v3_0) = arg0 m c
  count : ∀ i, atK m k c (Proc.devRef .tc main_v3_2) i = BitVec.ofNat 32 k
  dist : ∀ b j, atK m k c (Proc.devRef .tc main_v3_3) (ix2 b j) = (Cert.Fps.state (pts (arg0 m c) b) k).1 j
  last : ∀ b, atK m k c (Proc.devRef .tc main_v3_4) (ix1 b) = BitVec.ofNat 32 (Cert.Fps.state (pts (arg0 m c) b) k).2.val
  chosen : ∀ b (n : Fin 256), n.val < k → atK m k c (Proc.devRef .tc main_v3_5) (ix2 b n) = BitVec.ofNat 32 (Cert.Fps.far (pts (arg0 m c) b) n.val).val

theorem at_all : ∀ k, k ≤ 256 → At m c k
  | 0, _ => ⟨(entry m c).1, (entry m c).2.1, (entry m c).2.2.1, (entry m c).2.2.2, fun _ _ h => (Nat.not_lt_zero _ h).elim⟩
  | k + 1, hk => by
    have ih := at_all k (by omega)
    have e : atK m (k + 1) c = after while0Ops0_2 (after while0Ops0_1 (after while0Ops0 (after condOps (atK m k c)))) := rfl
    have hV : ∀ r : Ref sig .tc, r ∉ condOps_W → after condOps (atK m k c) (Proc.devRef .tc r) = atK m k c (Proc.devRef .tc r) :=
      fun r h => after_of_writes_sub condOps _ condOps_writes h
    have h0 := hV main_v3_0 (by decide)
    have h2 := hV main_v3_2 (by decide)
    have h3 := hV main_v3_3 (by decide)
    have h4 := hV main_v3_4 (by decide)
    have h5 := hV main_v3_5 (by decide)
    generalize after condOps (atK m k c) = V at *
    have hd : ∀ b j, after while0Ops0 V (Proc.devRef .tc main_while0b_v241) (ix2 b j) = (Cert.Fps.state (pts (arg0 m c) b) (k + 1)).1 j := fun b j => by
      rw [Cert.Fps.state_fst, ← ih.dist b j]
      exact dist_step V (arg0 m c) _ (fun b => (Cert.Fps.state (pts (arg0 m c) b) k).2) (h0.trans ih.points) h3 (fun b => (congrFun h4 _).trans (ih.last b)) b j
    have hl := list_step V ⟨k, by omega⟩ (fun i => (congrFun h2 i).trans (ih.count i))
    have hc := count_step V k (fun i => (congrFun h2 i).trans (ih.count i))
    have hK : ∀ r : Ref sig .tc, r ∉ while0Ops0_1_W → after while0Ops0_1 (after while0Ops0 V) (Proc.devRef .tc r) = after while0Ops0 V (Proc.devRef .tc r) :=
      fun r h => after_of_writes_sub while0Ops0_1 _ while0Ops0_1_writes h
    have k213 := hK main_while0b_v213 (by decide)
    have k219 := hK main_while0b_v219 (by decide)
    have k241 := hK main_while0b_v241 (by decide)
    have hn : ∀ b, after while0Ops0_1 (after while0Ops0 V) (Proc.devRef .tc main_while0b_v242) (ix1 b)
        = BitVec.ofNat 32 (Cert.Fps.state (pts (arg0 m c) b) (k + 1)).2.val := fun b => by
      refine (next_step _ b).trans ?_
      rw [Cert.Fps.state_snd]
      exact congrArg (fun d => BitVec.ofNat 32 (Cert.Fps.firstMax d).val) (funext fun j => hd b j)
    obtain ⟨c2, c3, c4, c5⟩ := carry_step (after while0Ops0_1 (after while0Ops0 V))
    rw [← e] at c2 c3 c4 c5
    refine ⟨?_, ?_, ?_, ?_, ?_⟩
    · rw [atTrip_unwritten m c (by decide +kernel), (entry m c).1]
    · exact fun i => (congrFun (c2.trans k213) i).trans (hc i)
    · exact fun b j => (congrFun (c3.trans k241) _).trans (hd b j)
    · exact fun b => (congrFun c4 _).trans (hn b)
    · intro b n hn'
      refine (congrFun (c5.trans k219) _).trans ((hl b n).trans ?_)
      by_cases hnk : n = ⟨k, by omega⟩
      · rw [if_pos hnk]
        rw [hnk]
        exact (congrFun h4 _).trans (ih.last b)
      · rw [if_neg hnk]
        have : n.val ≠ k := fun h => hnk (Fin.ext h)
        exact (congrFun h5 _).trans (ih.chosen b n (by omega))

end Cert.RefLoop
-- ==== Proof.RefStage.lean ====
module

public import Idealize.ShloMosaic.Lib.StackMember
public import proofs.«01_k».proof.Proof.RefLook
public import proofs.«01_k».proof.Proof.Final

/-!
The stages of one scale of the reference, as arrays: squared distances, the keys of the points in the ball, the sorted and
padded list, the neighbours relative to the centre, a layer, and the largest value over the list. Any list length, any widths.
-/

@[expose] public section

set_option maxRecDepth 16384

noncomputable section

namespace Cert.RefStage

open Idealize.ShloMosaic hiding ix1 ix2 ix3 ix4
open Idealize.ShloMosaic.ValueIdx
open Cert.Spec Cert.SortFeat Cert.Scale Cert.RefTake
open scoped BigOperators

theorem unit_or {n : ℕ} (t : Fin n) : t.val = if n = 1 then 0 else t.val := by split <;> omega

/-! ## Distances -/

abbrev C3 : Shape := ⟨3, ![16, 256, 3]⟩
abbrev X3 : Shape := ⟨3, ![16, 2048, 3]⟩
abbrev D3 : Shape := ⟨3, ![16, 256, 2048]⟩

section
variable (wd : DotDims.WF C3 ⟨3, ![16, 3, 2048]⟩ D3 [2] [1] [1] [2] [0] [0]) (ht : X3.Transposes [0, 2, 1] ⟨3, ![16, 3, 2048]⟩)
  (h0 : (⟨0, ![]⟩ : Shape).BroadcastsInDim D3 ![]) (hs : 0 < (⟨0, ![]⟩ : Shape).numel)
  (rc : C3.ReducesTo [2] ⟨2, ![16, 256]⟩) (c1 : (⟨2, ![16, 256]⟩ : Shape).BroadcastsInDim ⟨3, ![16, 256, 1]⟩ ![0, 1])
  (c2 : (⟨3, ![16, 256, 1]⟩ : Shape).BroadcastsInDim D3 ![0, 1, 2])
  (rx : X3.ReducesTo [2] ⟨2, ![16, 2048]⟩) (x1 : (⟨2, ![16, 2048]⟩ : Shape).BroadcastsInDim ⟨3, ![16, 1, 2048]⟩ ![0, 2])
  (x2 : (⟨3, ![16, 1, 2048]⟩ : Shape).BroadcastsInDim D3 ![0, 1, 2])
  (hi : (⟨1, ![2048]⟩ : Shape).BroadcastsInDim D3 ![2])

/-- Squared distances from every centre to every point. -/
def dist (c : FVec Ideal C3 .f32) (x : FVec Ideal X3 .f32) : FVec Ideal D3 .f32 :=
  addf (addf (mulf (broadcastInDim D3 ![] h0 (constant (F := Ideal) ⟨0, ![]⟩ .f32 0xC0000000#32))
      (Host.dotGeneral (⟨[2], [1], [1], [2], [0], [0], wd⟩ : DotDims C3 ⟨3, ![16, 3, 2048]⟩ D3) none c (transpose ⟨3, ![16, 3, 2048]⟩ [0, 2, 1] x ht)))
    (broadcastInDim D3 ![0, 1, 2] c2 (broadcastInDim ⟨3, ![16, 256, 1]⟩ ![0, 1] c1
      (Host.reduceAdd (mulf c c) (constant (F := Ideal) ⟨0, ![]⟩ .f32 0x00000000#32) rc hs))))
    (broadcastInDim D3 ![0, 1, 2] x2 (broadcastInDim ⟨3, ![16, 1, 2048]⟩ ![0, 2] x1
      (Host.reduceAdd (mulf x x) (constant (F := Ideal) ⟨0, ![]⟩ .f32 0x00000000#32) rx hs)))

theorem dist_apply (c : FVec Ideal C3 .f32) (x : FVec Ideal X3 .f32) (b : Fin 16) (i : Fin 256) (j : Fin 2048) :
    dist wd ht h0 hs rc c1 c2 rx x1 x2 c x (ix3 b i j) = dist2 m2 (fun k => c (ix3 b i k)) (fun k => x (ix3 b j k)) := by
  have e1 : Host.dotGeneral (⟨[2], [1], [1], [2], [0], [0], wd⟩ : DotDims C3 ⟨3, ![16, 3, 2048]⟩ D3) none c (transpose ⟨3, ![16, 3, 2048]⟩ [0, 2, 1] x ht) (ix3 b i j)
      = ∑ k : Fin 3, c (ix3 b i k) * x (ix3 b j k) := by
    refine (StackMember.dotGeneral_stack_apply wd none c _ b i j).trans (Finset.sum_congr rfl fun k _ => congrArg (fun t : EReal => c (ix3 b i k) * t) ?_)
    exact transpose_apply [0, 2, 1] x ht (ix3 b k j) (ix3 b j k) (fun a => match a with | ⟨0, _⟩ => rfl | ⟨1, _⟩ => rfl | ⟨2, _⟩ => rfl)
  have e2 : broadcastInDim D3 ![0, 1, 2] c2 (broadcastInDim ⟨3, ![16, 256, 1]⟩ ![0, 1] c1
      (Host.reduceAdd (mulf c c) (constant (F := Ideal) ⟨0, ![]⟩ .f32 0x00000000#32) rc hs)) (ix3 b i j) = ∑ k : Fin 3, c (ix3 b i k) * c (ix3 b i k) := by
    refine (broadcastInDim_apply ![0, 1, 2] c2 _ (ix3 b i j) (ix3 b i 0) (fun a => match a with | ⟨0, _⟩ => rfl | ⟨1, _⟩ => rfl | ⟨2, _⟩ => rfl)).trans ?_
    refine (broadcastInDim_apply ![0, 1] c1 _ (ix3 b i 0) (ix2 b i) (fun a => match a with | ⟨0, _⟩ => rfl | ⟨1, _⟩ => rfl)).trans ?_
    exact sumLast _ rc hs b i
  have e3 : broadcastInDim D3 ![0, 1, 2] x2 (broadcastInDim ⟨3, ![16, 1, 2048]⟩ ![0, 2] x1
      (Host.reduceAdd (mulf x x) (constant (F := Ideal) ⟨0, ![]⟩ .f32 0x00000000#32) rx hs)) (ix3 b i j) = ∑ k : Fin 3, x (ix3 b j k) * x (ix3 b j k) := by
    refine (broadcastInDim_apply ![0, 1, 2] x2 _ (ix3 b i j) (ix3 b 0 j) (fun a => match a with | ⟨0, _⟩ => rfl | ⟨1, _⟩ => rfl | ⟨2, _⟩ => rfl)).trans ?_
    refine (broadcastInDim_apply ![0, 2] x1 _ (ix3 b 0 j) (ix2 b j) (fun a => match a with | ⟨0, _⟩ => rfl | ⟨1, _⟩ => rfl)).trans ?_
    exact sumLast _ rx hs b j
  exact congrArg₂ (fun p q : EReal => p + q) (congrArg₂ (fun p q : EReal => p + q) (congrArg (fun t : EReal => m2 * t) e1) e2) e3

/-- The points outside the ball keyed by the number of points, the others by their index. -/
theorem keys_apply (r2 : BitVec 32) (d : FVec Ideal D3 .f32) (n2048 : IVec D3 32) (hn : ∀ i, n2048 i = 2048#32) (b : Fin 16) (i : Fin 256) (cv : Fin 3 → EReal)
    (xv : Fin 2048 → Fin 3 → EReal) (hd : ∀ j, d (ix3 b i j) = dist2 m2 cv (xv j)) (j : Fin 2048) :
    select (cmpf .ogt d (broadcastInDim D3 ![] h0 (constant (F := Ideal) ⟨0, ![]⟩ .f32 r2))) n2048
      (broadcastInDim D3 ![2] hi (iotaInDim ⟨1, ![2048]⟩ 32 0)) (ix3 b i j) = BitVec.ofNat 32 (key (fun j => InBall r2 cv (xv j)) j) := by
  have hio : broadcastInDim D3 ![2] hi (iotaInDim ⟨1, ![2048]⟩ 32 0) (ix3 b i j) = BitVec.ofNat 32 j.val :=
    broadcastInDim_apply ![2] hi _ (ix3 b i j) (ix1 j) (fun a => match a with | ⟨0, _⟩ => rfl)
  show Scalar.select (Ideal.cmp .ogt (d (ix3 b i j)) (Ideal.ofBits .f32 r2)) (n2048 (ix3 b i j)) (broadcastInDim D3 ![2] hi (iotaInDim ⟨1, ![2048]⟩ 32 0) (ix3 b i j)) = _
  rw [hd, hn, hio]
  by_cases h : Ideal.ofBits .f32 r2 < dist2 m2 cv (xv j)
  · rw [key_neg (P := fun j => InBall r2 cv (xv j)) (fun hk : InBall r2 cv (xv j) => hk h)]
    refine if_pos ?_
    unfold Ideal.cmp
    simp only [h, decide_true]; rfl
  · rw [key_pos (P := fun j => InBall r2 cv (xv j)) (show InBall r2 cv (xv j) from h)]
    refine if_neg ?_
    unfold Ideal.cmp
    simp only [h, decide_false]; decide
end

/-! ## The list -/

/-- The sort puts the keys in order along the points. -/
theorem sort_apply (v : IVec D3 32) (b : Fin 16) (i : Fin 256) (P : Fin 2048 → Prop) (hv : ∀ j, v (ix3 b i j) = BitVec.ofNat 32 (key P j)) (t : Fin 2048) :
    Host.sort D3 2 (fun l r => IntOp.cmpi .slt l r) v (ix3 b i t) = BitVec.ofNat 32 (key P (order P t)) := by
  have ha : ∀ k : Fin 2048, (ix3 b i t : D3.Idx).along (2 : Fin 3) k = ix3 b i k := fun k => by
    funext a
    match a with
    | ⟨0, _⟩ => rfl
    | ⟨1, _⟩ => rfl
    | ⟨2, _⟩ => rfl
  have hk : ∀ k : Fin 2048, v ((ix3 b i t : D3.Idx).along (2 : Fin 3) k) = BitVec.ofNat 32 (key P k) := fun k => (congrArg v (ha k)).trans (hv k)
  have key' : ∀ g : Fin 2048 → BitVec 32, (g = fun k => BitVec.ofNat 32 (key P k)) →
      g (sortedFrom (fun k k' => IntOp.cmpi .slt (g k) (g k') == 1#1) t) = BitVec.ofNat 32 (key P (order P t)) := by
    rintro _ rfl; rfl
  exact key' (fun k => v ((ix3 b i t : D3.Idx).along (2 : Fin 3) k)) (funext hk)

section
variable {n : ℕ}

/-- The list cut to its length, with its first entry where an entry is outside the ball. -/
theorem pad_apply (v : IVec D3 32) (h1 : D3.Slices ![0, 0, 0] ⟨3, ![16, 256, n]⟩) (h2 : (⟨3, ![16, 256, n]⟩ : Shape).Slices ![0, 0, 0] ⟨3, ![16, 256, 1]⟩)
    (w : IVec ⟨3, ![16, 256, n]⟩ 32) (hw : ∀ i, w i = 2048#32) (h3 : (⟨3, ![16, 256, 1]⟩ : Shape).BroadcastsInDim ⟨3, ![16, 256, n]⟩ ![0, 1, 2])
    (b : Fin 16) (i : Fin 256) (P : Fin 2048 → Prop) (hn : n ≤ 2048) (hn1 : 0 < n) (hv : ∀ t, v (ix3 b i t) = BitVec.ofNat 32 (key P (order P t))) (t : Fin n) :
    select (cmpi .eq (extractStridedSlice ⟨3, ![16, 256, n]⟩ ![0, 0, 0] v h1) w)
      (broadcastInDim ⟨3, ![16, 256, n]⟩ ![0, 1, 2] h3 (extractStridedSlice ⟨3, ![16, 256, 1]⟩ ![0, 0, 0] (extractStridedSlice ⟨3, ![16, 256, n]⟩ ![0, 0, 0] v h1) h2))
      (extractStridedSlice ⟨3, ![16, 256, n]⟩ ![0, 0, 0] v h1) (ix3 b i t)
      = BitVec.ofNat 32 (if key P (order P (t.castLE hn)) = 2048 then key P (order P ⟨0, by omega⟩) else key P (order P (t.castLE hn))) := by
  have hc : ∀ t : Fin n, extractStridedSlice ⟨3, ![16, 256, n]⟩ ![0, 0, 0] v h1 (ix3 b i t) = BitVec.ofNat 32 (key P (order P (t.castLE hn))) := fun t =>
    (extractStridedSlice_apply ![0, 0, 0] v h1 (ix3 b i t) (ix3 b i (t.castLE hn)) (fun a => match a with
      | ⟨0, _⟩ => (Nat.zero_add _).symm | ⟨1, _⟩ => (Nat.zero_add _).symm | ⟨2, _⟩ => (Nat.zero_add _).symm)).trans (hv _)
  have hf : broadcastInDim ⟨3, ![16, 256, n]⟩ ![0, 1, 2] h3 (extractStridedSlice ⟨3, ![16, 256, 1]⟩ ![0, 0, 0]
      (extractStridedSlice ⟨3, ![16, 256, n]⟩ ![0, 0, 0] v h1) h2) (ix3 b i t) = BitVec.ofNat 32 (key P (order P ⟨0, by omega⟩)) := by
    refine (broadcastInDim_apply ![0, 1, 2] h3 _ (ix3 b i t) (ix3 b i 0) (fun a => match a with | ⟨0, _⟩ => rfl | ⟨1, _⟩ => rfl | ⟨2, _⟩ => rfl)).trans ?_
    exact (extractStridedSlice_apply ![0, 0, 0] _ h2 (ix3 b i 0) (ix3 b i ⟨0, hn1⟩) (fun a => match a with
      | ⟨0, _⟩ => (Nat.zero_add _).symm | ⟨1, _⟩ => (Nat.zero_add _).symm | ⟨2, _⟩ => rfl)).trans (hc ⟨0, hn1⟩)
  show Scalar.select (IntOp.cmpi .eq (extractStridedSlice ⟨3, ![16, 256, n]⟩ ![0, 0, 0] v h1 (ix3 b i t)) (w (ix3 b i t))) _
    (extractStridedSlice ⟨3, ![16, 256, n]⟩ ![0, 0, 0] v h1 (ix3 b i t)) = _
  rw [hc, hw, hf]
  have hle := key_le P (order P (t.castLE hn))
  by_cases hk : key P (order P (t.castLE hn)) = 2048
  · rw [if_pos hk, hk]
    rfl
  · rw [if_neg hk]
    refine if_neg fun h => hk ?_
    have h' : BitVec.ofNat 32 (key P (order P (t.castLE hn))) = 2048#32 := by
      by_contra hne
      refine absurd h ?_
      show ¬ BitVec.ofBool (BitVec.ofNat 32 (key P (order P (t.castLE hn))) == 2048#32) = 1#1
      rw [beq_eq_false_iff_ne.mpr hne]
      decide
    have := congrArg BitVec.toNat h'
    rwa [BitVec.toNat_ofNat, Nat.mod_eq_of_lt (by omega)] at this

/-! ## The neighbours relative to the centre -/

theorem rel_apply (wf : GatherDims.WF X3 ⟨4, ![16, 256, n, 2]⟩ ⟨4, ![16, 256, n, 3]⟩ [3] [0, 1] [] [0, 1] [] 3 ![1, 1, 3])
    (x : FVec Ideal X3 .f32) (c : FVec Ideal C3 .f32) (p q : IVec ⟨4, ![16, 256, n, 1]⟩ 32)
    (hc : Shape.Concatenates [(⟨4, ![16, 256, n, 1]⟩ : Shape), ⟨4, ![16, 256, n, 1]⟩] ⟨4, ![16, 256, n, 2]⟩ 3)
    (k1 : C3.BroadcastsInDim ⟨4, ![16, 256, 1, 3]⟩ ![0, 1, 3]) (k2 : (⟨4, ![16, 256, 1, 3]⟩ : Shape).BroadcastsInDim ⟨4, ![16, 256, n, 3]⟩ ![0, 1, 2, 3])
    (b : Fin 16) (i : Fin 256) (t : Fin n) (k : Fin 3) (r : Fin 2048) (w : ℕ) (hw : w < 2 ^ 31) (hr : min w 2047 = r.val)
    (hp : p (ix4 b i t 0) = BitVec.ofNat 32 b.val) (hq : q (ix4 b i t 0) = BitVec.ofNat 32 w) :
    subf (Host.gather (rows4 16 2048 256 n wf) x (concatenate ⟨4, ![16, 256, n, 2]⟩ 3 [⟨⟨4, ![16, 256, n, 1]⟩, p⟩, ⟨⟨4, ![16, 256, n, 1]⟩, q⟩] hc))
      (broadcastInDim ⟨4, ![16, 256, n, 3]⟩ ![0, 1, 2, 3] k2 (broadcastInDim ⟨4, ![16, 256, 1, 3]⟩ ![0, 1, 3] k1 c)) (ix4 b i t k)
      = @HSub.hSub EReal EReal EReal _ (x (ix3 b r k)) (c (ix3 b i k)) := by
  refine congrArg₂ (fun p q : EReal => p - q) (look4 wf x p q hc b i t k r w hw hr hp hq) ?_
  refine (broadcastInDim_apply ![0, 1, 2, 3] k2 _ (ix4 b i t k) (ix4 b i 0 k) (fun a => match a with | ⟨0, _⟩ => rfl | ⟨1, _⟩ => rfl | ⟨2, _⟩ => rfl | ⟨3, _⟩ => rfl)).trans ?_
  exact broadcastInDim_apply ![0, 1, 3] k1 c (ix4 b i 0 k) (ix3 b i k) (fun a => match a with | ⟨0, _⟩ => rfl | ⟨1, _⟩ => rfl | ⟨2, _⟩ => rfl)

/-- The word of the list, once more made non-negative, with a unit axis. -/
theorem word_apply (v z w : IVec ⟨3, ![16, 256, n]⟩ 32) (hz : ∀ i, z i = 0#32) (h : (⟨3, ![16, 256, n]⟩ : Shape).BroadcastsInDim ⟨4, ![16, 256, n, 1]⟩ ![0, 1, 2])
    (b : Fin 16) (i : Fin 256) (t : Fin n) (a : ℕ) (ha : a < 2 ^ 31) (hv : v (ix3 b i t) = BitVec.ofNat 32 a) :
    broadcastInDim ⟨4, ![16, 256, n, 1]⟩ ![0, 1, 2] h (select (cmpi .slt v z) (addi v w) v) (ix4 b i t 0) = BitVec.ofNat 32 a := by
  refine (broadcastInDim_apply ![0, 1, 2] h _ (ix4 b i t 0) (ix3 b i t) (by intro a; exact match a with | ⟨0, _⟩ => rfl | ⟨1, _⟩ => rfl | ⟨2, _⟩ => unit_or t)).trans ?_
  exact wrapAt v z w _ a ha hv (hz _)

/-- The batch index at every place of the list. -/
theorem batch_apply (v z w : IVec ⟨3, ![16, 1, 1]⟩ 32) (hz : ∀ i, z i = 0#32) (h1 : (⟨3, ![16, 1, 1]⟩ : Shape).BroadcastsInDim ⟨3, ![16, 256, n]⟩ ![0, 1, 2])
    (h : (⟨3, ![16, 256, n]⟩ : Shape).BroadcastsInDim ⟨4, ![16, 256, n, 1]⟩ ![0, 1, 2])
    (b : Fin 16) (i : Fin 256) (t : Fin n) (hv : v (ix3 b 0 0) = BitVec.ofNat 32 b.val) :
    broadcastInDim ⟨4, ![16, 256, n, 1]⟩ ![0, 1, 2] h (broadcastInDim ⟨3, ![16, 256, n]⟩ ![0, 1, 2] h1 (select (cmpi .slt v z) (addi v w) v)) (ix4 b i t 0)
      = BitVec.ofNat 32 b.val := by
  refine (broadcastInDim_apply ![0, 1, 2] h _ (ix4 b i t 0) (ix3 b i t) (by intro a; exact match a with | ⟨0, _⟩ => rfl | ⟨1, _⟩ => rfl | ⟨2, _⟩ => unit_or t)).trans ?_
  refine (broadcastInDim_apply ![0, 1, 2] h1 _ (ix3 b i t) (ix3 b 0 0) (fun a => match a with | ⟨0, _⟩ => rfl | ⟨1, _⟩ => rfl | ⟨2, _⟩ => rfl)).trans ?_
  exact wrapAt _ _ _ _ b.val (by omega) hv (hz _)

/-! ## A layer, and the largest value -/

variable {k m : ℕ}

/-- A product with a matrix along the last of four axes. -/
theorem dot4_apply (w : DotDims.WF ⟨4, ![16, 256, n, k]⟩ ⟨2, ![m, k]⟩ ⟨4, ![16, 256, n, m]⟩ [3] [1] [0, 1, 2] [0] [] [])
    (h : FVec Ideal ⟨4, ![16, 256, n, k]⟩ .f32) (W : FVec Ideal ⟨2, ![m, k]⟩ .f32) (b : Fin 16) (i : Fin 256) (t : Fin n) (o : Fin m) :
    Host.dotGeneral (⟨[3], [1], [0, 1, 2], [0], [], [], w⟩ : DotDims ⟨4, ![16, 256, n, k]⟩ ⟨2, ![m, k]⟩ ⟨4, ![16, 256, n, m]⟩) none h W (ix4 b i t o)
      = ∑ c : Fin k, h (ix4 b i t c) * W (ix2 o c) := by
  show FloatOps.dotGeneral _ none _ h W (ix4 b i t o) = _
  set D : DotDims ⟨4, ![16, 256, n, k]⟩ ⟨2, ![m, k]⟩ ⟨4, ![16, 256, n, m]⟩ := ⟨[3], [1], [0, 1, 2], [0], [], [], w⟩ with hD
  rw [Ideal.dotGeneral_apply, ← Equiv.sum_comp (contrEquiv1 D k rfl rfl).symm]
  refine Finset.sum_congr rfl fun c _ => ?_
  have c3 := contrEquiv1_symm_val D k rfl rfl c
  have l3 : D.lhsIdx (ix4 b i t o) ((contrEquiv1 D k rfl rfl).symm c) = ix4 b i t c := by
    funext ax; apply Fin.ext
    match ax with
    | ⟨0, _⟩ => simp [DotDims.lhsIdx, hD]; rfl
    | ⟨1, _⟩ => simp [DotDims.lhsIdx, hD]; rfl
    | ⟨2, _⟩ => simp [DotDims.lhsIdx, hD]; rfl
    | ⟨3, _⟩ => simp [DotDims.lhsIdx, hD]; exact c3
  have r3 : D.rhsIdx (ix4 b i t o) ((contrEquiv1 D k rfl rfl).symm c) = ix2 o c := by
    funext ax; apply Fin.ext
    match ax with
    | ⟨0, _⟩ => simp [DotDims.rhsIdx, hD]; rfl
    | ⟨1, _⟩ => simp [DotDims.rhsIdx, hD]; exact c3
  rw [l3, r3]

/-- One layer: the product with the weights, the bias, and the maximum with zero. -/
theorem layer_apply (w : DotDims.WF ⟨4, ![16, 256, n, k]⟩ ⟨2, ![m, k]⟩ ⟨4, ![16, 256, n, m]⟩ [3] [1] [0, 1, 2] [0] [] [])
    (h : FVec Ideal ⟨4, ![16, 256, n, k]⟩ .f32) (W : FVec Ideal ⟨2, ![m, k]⟩ .f32) (β : FVec Ideal ⟨1, ![m]⟩ .f32)
    (h1 : (⟨1, ![m]⟩ : Shape).BroadcastsInDim ⟨4, ![1, 1, 1, m]⟩ ![3]) (h2 : (⟨4, ![1, 1, 1, m]⟩ : Shape).BroadcastsInDim ⟨4, ![16, 256, n, m]⟩ ![0, 1, 2, 3])
    (z : FVec Ideal ⟨4, ![16, 256, n, m]⟩ .f32) (hz : ∀ i, z i = Ideal.ofBits .f32 0x00000000#32)
    (b : Fin 16) (i : Fin 256) (t : Fin n) (v : Fin k → EReal) (hv : ∀ c, h (ix4 b i t c) = v c) (o : Fin m) :
    maximumf (addf (Host.dotGeneral (⟨[3], [1], [0, 1, 2], [0], [], [], w⟩ : DotDims ⟨4, ![16, 256, n, k]⟩ ⟨2, ![m, k]⟩ ⟨4, ![16, 256, n, m]⟩) none h W)
        (broadcastInDim ⟨4, ![16, 256, n, m]⟩ ![0, 1, 2, 3] h2 (broadcastInDim ⟨4, ![1, 1, 1, m]⟩ ![3] h1 β))) z (ix4 b i t o)
      = layer (fun o c => W (ix2 o c)) (fun o => β (ix1 o)) v o := by
  have e1 : Host.dotGeneral (⟨[3], [1], [0, 1, 2], [0], [], [], w⟩ : DotDims ⟨4, ![16, 256, n, k]⟩ ⟨2, ![m, k]⟩ ⟨4, ![16, 256, n, m]⟩) none h W (ix4 b i t o)
      = ∑ c : Fin k, (W (ix2 o c) : EReal) * v c :=
    (dot4_apply w h W b i t o).trans (Finset.sum_congr rfl fun c _ => by rw [hv]; exact mul_comm _ _)
  have e2 : broadcastInDim ⟨4, ![16, 256, n, m]⟩ ![0, 1, 2, 3] h2 (broadcastInDim ⟨4, ![1, 1, 1, m]⟩ ![3] h1 β) (ix4 b i t o) = β (ix1 o) := by
    refine (broadcastInDim_apply ![0, 1, 2, 3] h2 _ (ix4 b i t o) (ix4 0 0 0 o) (by intro a; exact match a with | ⟨0, _⟩ => rfl | ⟨1, _⟩ => rfl | ⟨2, _⟩ => rfl | ⟨3, _⟩ => unit_or o)).trans ?_
    exact broadcastInDim_apply ![3] h1 β (ix4 0 0 0 o) (ix1 o) (by intro a; exact match a with | ⟨0, _⟩ => unit_or o)
  have e3 : z (ix4 b i t o) = (0 : EReal) := (hz _).trans Ideal.ofBits_zero_f32
  exact congrArg₂ (fun p q : EReal => max p q) (congrArg₂ (fun p q : EReal => p + q) e1 e2) e3

/-- The largest value over the list, from minus infinity. -/
theorem maxOver_apply (v : FVec Ideal ⟨4, ![16, 256, n, m]⟩ .f32) (h : (⟨4, ![16, 256, n, m]⟩ : Shape).ReducesTo [2] ⟨3, ![16, 256, m]⟩)
    (hs : 0 < (⟨0, ![]⟩ : Shape).numel) (b : Fin 16) (i : Fin 256) (o : Fin m) :
    Host.reduce FloatOps.maximumf v (constant (F := Ideal) ⟨0, ![]⟩ .f32 0xFF800000#32) h hs (ix3 b i o)
      = (Finset.univ : Finset (Fin n)).sup fun t => (v (ix4 b i t o) : EReal) := by
  rw [Host.reduce_eq_fold, Shape.ReducesTo.fold_fiber_r4_a2]
  show Finset.fold (fun p q : EReal => max p q) (Ideal.ofBits .f32 0xFF800000#32) _ _ = _
  rw [neg_inf_f32]
  rfl

end

end Cert.RefStage
-- ==== Proof.RefScaleValue.lean ====
module

public import proofs.«01_k».proof.Proof.RefStage

/-!
One scale of the reference: from the list of neighbours through three layers to the largest value, which is the scale's feature.
-/

@[expose] public section

set_option maxRecDepth 16384

noncomputable section

namespace Cert.RefStage

open Idealize.ShloMosaic hiding ix1 ix2 ix3 ix4
open Idealize.ShloMosaic.ValueIdx
open Cert.Spec Cert.SortFeat Cert.Scale Cert.RefTake Cert.Final
open scoped BigOperators

variable {n d₁ d₂ d₃ : ℕ}

/-- A layer's array: the product with the weights, the bias, the maximum with zero. -/
abbrev lin {k m : ℕ} (w : DotDims.WF ⟨4, ![16, 256, n, k]⟩ ⟨2, ![m, k]⟩ ⟨4, ![16, 256, n, m]⟩ [3] [1] [0, 1, 2] [0] [] [])
    (h1 : (⟨1, ![m]⟩ : Shape).BroadcastsInDim ⟨4, ![1, 1, 1, m]⟩ ![3]) (h2 : (⟨4, ![1, 1, 1, m]⟩ : Shape).BroadcastsInDim ⟨4, ![16, 256, n, m]⟩ ![0, 1, 2, 3])
    (h0 : (⟨0, ![]⟩ : Shape).BroadcastsInDim ⟨4, ![16, 256, n, m]⟩ ![])
    (h : FVec Ideal ⟨4, ![16, 256, n, k]⟩ .f32) (W : FVec Ideal ⟨2, ![m, k]⟩ .f32) (β : FVec Ideal ⟨1, ![m]⟩ .f32) : FVec Ideal ⟨4, ![16, 256, n, m]⟩ .f32 :=
  maximumf (addf (Host.dotGeneral (⟨[3], [1], [0, 1, 2], [0], [], [], w⟩ : DotDims ⟨4, ![16, 256, n, k]⟩ ⟨2, ![m, k]⟩ ⟨4, ![16, 256, n, m]⟩) none h W)
    (broadcastInDim ⟨4, ![16, 256, n, m]⟩ ![0, 1, 2, 3] h2 (broadcastInDim ⟨4, ![1, 1, 1, m]⟩ ![3] h1 β)))
    (broadcastInDim ⟨4, ![16, 256, n, m]⟩ ![] h0 (constant (F := Ideal) ⟨0, ![]⟩ .f32 0x00000000#32))

/-- The neighbours relative to the centre, as an array. -/
abbrev rel (wf : GatherDims.WF X3 ⟨4, ![16, 256, n, 2]⟩ ⟨4, ![16, 256, n, 3]⟩ [3] [0, 1] [] [0, 1] [] 3 ![1, 1, 3])
    (hc : Shape.Concatenates [(⟨4, ![16, 256, n, 1]⟩ : Shape), ⟨4, ![16, 256, n, 1]⟩] ⟨4, ![16, 256, n, 2]⟩ 3)
    (k1 : C3.BroadcastsInDim ⟨4, ![16, 256, 1, 3]⟩ ![0, 1, 3]) (k2 : (⟨4, ![16, 256, 1, 3]⟩ : Shape).BroadcastsInDim ⟨4, ![16, 256, n, 3]⟩ ![0, 1, 2, 3])
    (x : FVec Ideal X3 .f32) (c : FVec Ideal C3 .f32) (p q : IVec ⟨4, ![16, 256, n, 1]⟩ 32) : FVec Ideal ⟨4, ![16, 256, n, 3]⟩ .f32 :=
  subf (Host.gather (rows4 16 2048 256 n wf) x (concatenate ⟨4, ![16, 256, n, 2]⟩ 3 [⟨⟨4, ![16, 256, n, 1]⟩, p⟩, ⟨⟨4, ![16, 256, n, 1]⟩, q⟩] hc))
    (broadcastInDim ⟨4, ![16, 256, n, 3]⟩ ![0, 1, 2, 3] k2 (broadcastInDim ⟨4, ![16, 256, 1, 3]⟩ ![0, 1, 3] k1 c))

/-- The list's word at a place: the key there, or the first key where there is no point of the ball. -/
abbrev listed (hn : n ≤ 2048) (hn1 : 0 < n) (P : Fin 2048 → Prop) (t : Fin n) : ℕ :=
  if key P (order P (t.castLE hn)) = 2048 then key P (order P ⟨0, by omega⟩) else key P (order P (t.castLE hn))

theorem listed_le (hn : n ≤ 2048) (hn1 : 0 < n) (P : Fin 2048 → Prop) (t : Fin n) : listed hn hn1 P t ≤ 2048 := by
  unfold listed
  split <;> exact key_le P _

/-- The scale's value is the scale's feature. -/
theorem scale_value (hn : n ≤ 2048) (hn1 : 0 < n)
    (wf : GatherDims.WF X3 ⟨4, ![16, 256, n, 2]⟩ ⟨4, ![16, 256, n, 3]⟩ [3] [0, 1] [] [0, 1] [] 3 ![1, 1, 3])
    (hc : Shape.Concatenates [(⟨4, ![16, 256, n, 1]⟩ : Shape), ⟨4, ![16, 256, n, 1]⟩] ⟨4, ![16, 256, n, 2]⟩ 3)
    (k1 : C3.BroadcastsInDim ⟨4, ![16, 256, 1, 3]⟩ ![0, 1, 3]) (k2 : (⟨4, ![16, 256, 1, 3]⟩ : Shape).BroadcastsInDim ⟨4, ![16, 256, n, 3]⟩ ![0, 1, 2, 3])
    (x : FVec Ideal X3 .f32) (c : FVec Ideal C3 .f32) (p q : IVec ⟨4, ![16, 256, n, 1]⟩ 32)
    (w₁ : FVec Ideal ⟨2, ![d₁, 3]⟩ .f32) (b₁ : FVec Ideal ⟨1, ![d₁]⟩ .f32) (w₂ : FVec Ideal ⟨2, ![d₂, d₁]⟩ .f32) (b₂ : FVec Ideal ⟨1, ![d₂]⟩ .f32)
    (w₃ : FVec Ideal ⟨2, ![d₃, d₂]⟩ .f32) (b₃ : FVec Ideal ⟨1, ![d₃]⟩ .f32)
    {wf₁ h₁ g₁ z₁ wf₂ h₂ g₂ z₂ wf₃ h₃ g₃ z₃} (H : FVec Ideal ⟨4, ![16, 256, n, d₃]⟩ .f32)
    (hH : H = lin wf₃ h₃ g₃ z₃ (lin wf₂ h₂ g₂ z₂ (lin wf₁ h₁ g₁ z₁ (rel wf hc k1 k2 x c p q) w₁ b₁) w₂ b₂) w₃ b₃)
    (hm : (⟨4, ![16, 256, n, d₃]⟩ : Shape).ReducesTo [2] ⟨3, ![16, 256, d₃]⟩) (hs : 0 < (⟨0, ![]⟩ : Shape).numel)
    (r2 : BitVec 32) (b : Fin 16) (i : Fin 256) (f : Fin 2048) (hcx : ∀ k, c (ix3 b i k) = x (ix3 b f k))
    (hp : ∀ t, p (ix4 b i t 0) = BitVec.ofNat 32 b.val)
    (hq : ∀ t, q (ix4 b i t 0) = BitVec.ofNat 32 (listed hn hn1 (fun j => InBall r2 (fun k => c (ix3 b i k)) (fun k => x (ix3 b j k))) t)) (o : Fin d₃) :
    Host.reduce FloatOps.maximumf H (constant (F := Ideal) ⟨0, ![]⟩ .f32 0xFF800000#32) hm hs (ix3 b i o)
      = feats r2 n (pts x b) f w₁ b₁ w₂ b₂ w₃ b₃ o := by
  have eP : (fun j => InBall r2 (fun k => c (ix3 b i k)) (fun k => x (ix3 b j k))) = fun j => InBall r2 (fun k => pts x b k f) (fun k => pts x b k j) := by
    funext j
    rw [show (fun k => c (ix3 b i k)) = fun k => pts x b k f from funext hcx]
    rfl
  rw [eP] at hq
  generalize hPd : (fun j => InBall r2 (fun k => pts x b k f) (fun k => pts x b k j)) = P at hq
  have hl : ∀ t, listed hn hn1 P t ≤ 2048 := listed_le hn hn1 P
  have hr : ∀ t, min (listed hn hn1 P t) 2047 < 2048 := fun t => by omega
  unfold feats
  rw [hPd]
  rw [maxOver_apply, ← sup_eq_feat P (order P) (order_bij P) (order_sorted (by norm_num) P) n hn1 hn _ (fun t => ⟨min (listed hn hn1 P t) 2047, hr t⟩) (fun t => rfl)]
  refine Finset.sup_congr rfl fun t _ => ?_
  rw [hH]
  unfold mlp
  refine layer_apply _ _ _ _ _ _ _ (fun _ => rfl) b i t _ (fun o => ?_) o
  refine layer_apply _ _ _ _ _ _ _ (fun _ => rfl) b i t _ (fun o => ?_) o
  refine layer_apply _ _ _ _ _ _ _ (fun _ => rfl) b i t _ (fun k => ?_) o
  refine (rel_apply wf x c p q hc k1 k2 b i t k ⟨min (listed hn hn1 P t) 2047, hr t⟩ (listed hn hn1 P t) (by have := hl t; omega) rfl (hp t) (hq t)).trans ?_
  rw [hcx k]
  rfl

end Cert.RefStage
-- ==== Proof.RefScaleA.lean ====
module

public import proofs.«01_k».proof.Proof.RefLoop
public import proofs.«01_k».proof.Proof.RefScaleValue

/-!
The reference's first scale, read off its operations.
-/

@[expose] public section

set_option maxRecDepth 16384

noncomputable section

namespace Cert.RefScale

open Cert.ReferenceIdeal Cert.ReferenceIdeal.Gen Cert.RefRun Cert.RefTake Cert.RefStage
open Idealize.ShloMosaic hiding ix1 ix2 ix3 ix4
open Idealize.ShloMosaic.TcCoe Idealize.ShloMosaic.StableHlo
open Idealize.ShloMosaic.ValueIdx
open Cert.Spec Cert.SortFeat Cert.Scale Cert.Final
open scoped BigOperators

variable (V : Valuation τ sig (Elt Ideal))

theorem whereA : after main_part0_ops2 V (Proc.devRef .tc main_v39) = select (V (Proc.devRef .tc main_v38))
    (broadcastInDim S16x256x2048 ![] bcast_S_S16x256x2048 (V (Proc.devRef .tc main_c_11))) (V (Proc.devRef .tc main_v36)) := by
  after_reads_simp; rfl

theorem sortA : after main_part1_ops0 V (Proc.devRef .tc main_v40) = Host.sort S16x256x2048 2 comparator_i32_d2 (V (Proc.devRef .tc main_v39)) := by
  after_reads_simp; rfl

theorem reluA1 : after main_part1_ops4 V (Proc.devRef .tc main_v71) = maximumf (F := Ideal) (s := S16x256x16x16) (φ := .f32) (V (Proc.devRef .tc main_v70))
    (broadcastInDim S16x256x16x16 ![] bcast_S_S16x256x16x16 (constant (F := Ideal) S_ .f32 0x00000000#32)) := by
  after_reads_simp; rfl

theorem reluA2 : after main_part1_ops6 V (Proc.devRef .tc main_v76) = maximumf (F := Ideal) (s := S16x256x16x16) (φ := .f32) (V (Proc.devRef .tc main_v75))
    (broadcastInDim S16x256x16x16 ![] bcast_S_S16x256x16x16 (constant (F := Ideal) S_ .f32 0x00000000#32)) := by
  after_reads_simp; rfl

theorem reluA3 : after main_part1_ops8 V (Proc.devRef .tc main_v81) = maximumf (F := Ideal) (s := S16x256x16x32) (φ := .f32) (V (Proc.devRef .tc main_v80))
    (broadcastInDim S16x256x16x32 ![] bcast_S_S16x256x16x32 (constant (F := Ideal) S_ .f32 0x00000000#32)) := by
  after_reads_simp; rfl

/-- The list of the first scale. -/
theorem listA (b : Fin 16) (i : Fin 256) (P : Fin 2048 → Prop)
    (hv : ∀ t, V (Proc.devRef .tc main_v40) (ix3 b i t) = BitVec.ofNat 32 (key P (order P t))) (t : Fin 16) :
    after main_part1_ops2 (after main_part1_ops1 V) (Proc.devRef .tc main_v46) (ix3 b i t) = BitVec.ofNat 32 (listed (n := 16) (by omega) (by omega) P t) := by
  have e : ∀ U : Valuation τ sig (Elt Ideal), after main_part1_ops2 U (Proc.devRef .tc main_v46)
      = select (U (Proc.devRef .tc main_v44)) (U (Proc.devRef .tc main_v45)) (U (Proc.devRef .tc main_v41)) := fun U => by after_reads_simp; rfl
  rw [e]
  after_reads_simp
  exact pad_apply _ _ _ _ (fun _ => rfl) _ b i P (by omega) (by omega) hv t

/-- The batch words and the list's words at the first scale's neighbours. -/
abbrev pA := upto main_part1_ops3 V 19 (Proc.devRef .tc main_v60)
abbrev qA := upto main_part1_ops3 V 19 (Proc.devRef .tc main_v61)

theorem pA_apply (b : Fin 16) (i : Fin 256) (t : Fin 16) : pA V (ix4 b i t 0) = BitVec.ofNat 32 b.val := by
  unfold pA
  after_reads_simp
  refine batch_apply _ _ _ (fun _ => rfl) _ _ b i t ?_
  exact shapeCast_apply _ _ (ix3 b 0 0) (ix1 b) (by rw [Shape.rowMajor_val_one, Shape.rowMajor_val_three]; show b.val = (b.val * 1 + 0) * 1 + 0; omega)

theorem qA_apply (b : Fin 16) (i : Fin 256) (t : Fin 16) (a : ℕ) (ha : a < 2 ^ 31) (hv : V (Proc.devRef .tc main_v46) (ix3 b i t) = BitVec.ofNat 32 a) :
    qA V (ix4 b i t 0) = BitVec.ofNat 32 a := by
  unfold qA
  after_reads_simp
  exact word_apply _ _ _ (fun _ => rfl) _ b i t a ha hv

/-- The first layer. -/
theorem linA1 : after main_part1_ops4 (after main_part1_ops3 V) (Proc.devRef .tc main_v71)
    = lin (k := 3) (m := 16) (n := 16) dot_S16x256x16x3_S16x3_S16x256x16x16_3_1_012_0_n_n_wf bcast_S16_S1x1x1x16_3 bcast_S1x1x1x16_S16x256x16x16_0_1_2_3 bcast_S_S16x256x16x16
      (rel (n := 16) gather_S16x2048x3_S16x256x16x2_S16x256x16x3_3_01_n_n_01_3_113_wf concatenates_S16x256x16x1_S16x256x16x1_S16x256x16x2_d3
        bcast_S16x256x3_S16x256x1x3_0_1_3 bcast_S16x256x1x3_S16x256x16x3_0_1_2_3 (V (Proc.devRef .tc main_arg0)) (V (Proc.devRef .tc main_v20)) (pA V) (qA V))
      (V (Proc.devRef .tc main_arg1)) (V (Proc.devRef .tc main_arg2)) := by
  rw [reluA1]
  after_reads_simp
  rfl

theorem linA2 : after main_part1_ops6 (after main_part1_ops5 V) (Proc.devRef .tc main_v76)
    = lin (k := 16) (m := 16) (n := 16) dot_S16x256x16x16_S16x16_S16x256x16x16_3_1_012_0_n_n_wf bcast_S16_S1x1x1x16_3 bcast_S1x1x1x16_S16x256x16x16_0_1_2_3 bcast_S_S16x256x16x16
      (V (Proc.devRef .tc main_v71)) (V (Proc.devRef .tc main_arg3)) (V (Proc.devRef .tc main_arg4)) := by
  rw [reluA2]
  after_reads_simp
  rfl

theorem linA3 : after main_part1_ops8 (after main_part1_ops7 V) (Proc.devRef .tc main_v81)
    = lin (k := 16) (m := 32) (n := 16) dot_S16x256x16x16_S32x16_S16x256x16x32_3_1_012_0_n_n_wf bcast_S32_S1x1x1x32_3 bcast_S1x1x1x32_S16x256x16x32_0_1_2_3 bcast_S_S16x256x16x32
      (V (Proc.devRef .tc main_v76)) (V (Proc.devRef .tc main_arg5)) (V (Proc.devRef .tc main_arg6)) := by
  rw [reluA3]
  after_reads_simp
  rfl

theorem maxA : after main_part1_ops9 V (Proc.devRef .tc main_v82) = Host.reduce (FloatOps.maximumf (F := Ideal) (φ := .f32)) (V (Proc.devRef .tc main_v81))
    (constant (F := Ideal) S_ .f32 0xFF800000#32) reducesTo_S16x256x16x32_S16x256x32_d2 h_S_ := by
  after_reads_simp

/-- The batch words and the words of the chosen points. -/
abbrev pC := upto main_part0_ops1 V 19 (Proc.devRef .tc main_v17)
abbrev qC := upto main_part0_ops1 V 19 (Proc.devRef .tc main_v18)

theorem centA : after main_part0_ops1 V (Proc.devRef .tc main_v20) = Host.gather (rows3 16 2048 256 gather_S16x2048x3_S16x256x2_S16x256x3_2_01_n_n_01_2_113_wf)
    (V (Proc.devRef .tc main_arg0) : FVec Ideal S16x2048x3 .f32) (concatenate S16x256x2 2 [⟨S16x256x1, pC V⟩, ⟨S16x256x1, qC V⟩] concatenates_S16x256x1_S16x256x1_S16x256x2_d2) := by
  after_reads_simp; rfl

theorem pC_apply (b : Fin 16) (i : Fin 256) : pC V (ix3 b i 0) = BitVec.ofNat 32 b.val := by
  unfold pC
  after_reads_simp
  refine (broadcastInDim_apply ![0, 1] _ _ (ix3 b i 0) (ix2 b i) (fun a => match a with | ⟨0, _⟩ => rfl | ⟨1, _⟩ => rfl)).trans ?_
  refine (broadcastInDim_apply ![0, 1] _ _ (ix2 b i) (ix2 b (0 : Fin 1)) (fun a => match a with | ⟨0, _⟩ => rfl | ⟨1, _⟩ => rfl)).trans ?_
  refine wrapAt _ _ _ _ b.val (by omega) ?_ rfl
  exact shapeCast_apply _ _ (ix2 b 0) (ix1 b) (by rw [Shape.rowMajor_val_one, Shape.rowMajor_val_two]; exact (Nat.mul_one b.val).symm)

theorem qC_apply (b : Fin 16) (i : Fin 256) (a : ℕ) (ha : a < 2 ^ 31) (hv : V (Proc.devRef .tc main_v3_5) (ix2 b i) = BitVec.ofNat 32 a) :
    qC V (ix3 b i 0) = BitVec.ofNat 32 a := by
  unfold qC
  after_reads_simp
  refine (broadcastInDim_apply ![0, 1] _ _ (ix3 b i 0) (ix2 b i) (fun a => match a with | ⟨0, _⟩ => rfl | ⟨1, _⟩ => rfl)).trans ?_
  exact wrapAt _ _ _ _ a ha hv rfl

/-- A centre's coordinates are the chosen point's. -/
theorem centA_apply (b : Fin 16) (i : Fin 256) (f : Fin 2048) (hv : V (Proc.devRef .tc main_v3_5) (ix2 b i) = BitVec.ofNat 32 f.val) (k : Fin 3) :
    after main_part0_ops1 V (Proc.devRef .tc main_v20) (ix3 b i k) = V (Proc.devRef .tc main_arg0) (ix3 b f k) := by
  rw [centA]
  exact look3 _ _ _ _ _ b i k f (pC_apply V b i) (qC_apply V b i f.val (by omega) hv)

/-- The squared distances of the first scale's mask. -/
theorem maskA : after main_part0_ops1 V (Proc.devRef .tc main_v38) = cmpf (F := Ideal) (s := S16x256x2048) (φ := .f32) .ogt
    (dist dot_S16x256x3_S16x3x2048_S16x256x2048_2_1_1_2_0_0_wf transposes_S16x2048x3_S16x3x2048_0_2_1 bcast_S_S16x256x2048 h_S_ reducesTo_S16x256x3_S16x256_d2
      bcast_S16x256_S16x256x1_0_1 bcast_S16x256x1_S16x256x2048_0_1_2 reducesTo_S16x2048x3_S16x2048_d2 bcast_S16x2048_S16x1x2048_0_2 bcast_S16x1x2048_S16x256x2048_0_1_2
      (after main_part0_ops1 V (Proc.devRef .tc main_v20)) (V (Proc.devRef .tc main_arg0)))
    (broadcastInDim S16x256x2048 ![] bcast_S_S16x256x2048 (constant (F := Ideal) S_ .f32 0x3C23D70A#32)) := by
  rw [centA]
  after_reads_simp
  rfl

/-- The keys of the first scale, in order. -/
theorem keysA (b : Fin 16) (i : Fin 256) (t : Fin 2048) :
    after main_part1_ops0 (after main_part0_ops2 (after main_part0_ops1 V)) (Proc.devRef .tc main_v40) (ix3 b i t)
      = BitVec.ofNat 32 (key (fun j => InBall 0x3C23D70A#32 (fun k => (after main_part0_ops1 V (Proc.devRef .tc main_v20) : FVec Ideal S16x256x3 .f32) (ix3 b i k))
          (fun k => (V (Proc.devRef .tc main_arg0) : FVec Ideal S16x2048x3 .f32) (ix3 b j k)))
        (order (fun j => InBall 0x3C23D70A#32 (fun k => (after main_part0_ops1 V (Proc.devRef .tc main_v20) : FVec Ideal S16x256x3 .f32) (ix3 b i k))
          (fun k => (V (Proc.devRef .tc main_arg0) : FVec Ideal S16x2048x3 .f32) (ix3 b j k))) t)) := by
  rw [sortA, whereA, maskA]
  have e1 : after main_part0_ops1 V (Proc.devRef .tc main_c_11) = fun _ => 2048#32 := by after_reads_simp; rfl
  have e2 : after main_part0_ops1 V (Proc.devRef .tc main_v36) = broadcastInDim S16x256x2048 ![2] bcast_S2048_S16x256x2048_2 (iotaInDim S2048 32 0) := by after_reads_simp
  rw [e1, e2]
  generalize after main_part0_ops1 V (Proc.devRef .tc main_v20) = c
  refine sort_apply _ b i _ (fun j => ?_) t
  exact keys_apply _ _ _ _ _ (fun _ => rfl) b i _ _ (fun j => dist_apply _ _ _ _ _ _ _ _ _ _ c _ b i j) j

/-- The memory with the first scale's lists. -/
abbrev memA1 : Valuation τ sig (Elt Ideal) :=
  after main_part1_ops2 (after main_part1_ops1 (after main_part1_ops0 (after main_part0_ops2 (after main_part0_ops1 V))))

/-- The memory after the first scale. -/
abbrev memA : Valuation τ sig (Elt Ideal) :=
  after main_part1_ops9 (after main_part1_ops8 (after main_part1_ops7 (after main_part1_ops6 (after main_part1_ops5 (after main_part1_ops4 (after main_part1_ops3
    (memA1 V)))))))

theorem memA1_centre : memA1 V (Proc.devRef .tc main_v20) = after main_part0_ops1 V (Proc.devRef .tc main_v20) := by
  have e : ∀ W : Valuation τ sig (Elt Ideal), after main_part1_ops2 (after main_part1_ops1 (after main_part1_ops0 (after main_part0_ops2 W))) (Proc.devRef .tc main_v20)
      = W (Proc.devRef .tc main_v20) := fun W => by after_reads_simp
  exact e _

theorem memA1_points : memA1 V (Proc.devRef .tc main_arg0) = V (Proc.devRef .tc main_arg0) := by
  unfold memA1
  after_reads_simp

/-- The first scale's value is its feature. -/
theorem scaleA (b : Fin 16) (i : Fin 256) (f : Fin 2048) (hv : V (Proc.devRef .tc main_v3_5) (ix2 b i) = BitVec.ofNat 32 f.val) (o : Fin 32) :
    memA V (Proc.devRef .tc main_v82) (ix3 b i o)
      = feats 0x3C23D70A#32 16 (pts (V (Proc.devRef .tc main_arg0)) b) f (V (Proc.devRef .tc main_arg1)) (V (Proc.devRef .tc main_arg2))
          (V (Proc.devRef .tc main_arg3)) (V (Proc.devRef .tc main_arg4)) (V (Proc.devRef .tc main_arg5)) (V (Proc.devRef .tc main_arg6)) o := by
  have hl := fun t => listA (after main_part1_ops0 (after main_part0_ops2 (after main_part0_ops1 V))) b i _ (keysA V b i) t
  have hcx := centA_apply V b i f hv
  unfold memA
  rw [maxA, linA3, linA2, linA1, memA1_centre, memA1_points]
  have a1 : memA1 V (Proc.devRef .tc main_arg1) = V (Proc.devRef .tc main_arg1) := by unfold memA1; after_reads_simp
  have a2 : memA1 V (Proc.devRef .tc main_arg2) = V (Proc.devRef .tc main_arg2) := by unfold memA1; after_reads_simp
  have a3 : after main_part1_ops4 (after main_part1_ops3 (memA1 V)) (Proc.devRef .tc main_arg3) = V (Proc.devRef .tc main_arg3) := by unfold memA1; after_reads_simp
  have a4 : after main_part1_ops4 (after main_part1_ops3 (memA1 V)) (Proc.devRef .tc main_arg4) = V (Proc.devRef .tc main_arg4) := by unfold memA1; after_reads_simp
  have a5 : after main_part1_ops6 (after main_part1_ops5 (after main_part1_ops4 (after main_part1_ops3 (memA1 V)))) (Proc.devRef .tc main_arg5)
      = V (Proc.devRef .tc main_arg5) := by unfold memA1; after_reads_simp
  have a6 : after main_part1_ops6 (after main_part1_ops5 (after main_part1_ops4 (after main_part1_ops3 (memA1 V)))) (Proc.devRef .tc main_arg6)
      = V (Proc.devRef .tc main_arg6) := by unfold memA1; after_reads_simp
  rw [a1, a2, a3, a4, a5, a6]
  exact scale_value (n := 16) (by omega) (by omega) _ _ _ _ _ _ _ _ _ _ _ _ _ _ _ rfl _ _ _ b i f hcx
    (fun t => pA_apply _ b i t) (fun t => qA_apply _ b i t _ (lt_of_le_of_lt (listed_le _ _ _ t) (by norm_num)) (hl t)) o

end Cert.RefScale
-- ==== Proof.RefScaleB.lean ====
module

public import proofs.«01_k».proof.Proof.RefLoop
public import proofs.«01_k».proof.Proof.RefScaleValue

/-!
The reference's second scale, read off its operations. The memory before it is arbitrary: it holds the points and the centres.
-/

@[expose] public section

set_option maxRecDepth 16384

noncomputable section

namespace Cert.RefScale

open Cert.ReferenceIdeal Cert.ReferenceIdeal.Gen Cert.RefRun Cert.RefTake Cert.RefStage
open Idealize.ShloMosaic hiding ix1 ix2 ix3 ix4
open Idealize.ShloMosaic.TcCoe Idealize.ShloMosaic.StableHlo
open Idealize.ShloMosaic.ValueIdx
open Cert.Spec Cert.SortFeat Cert.Scale Cert.Final
open scoped BigOperators

variable (V : Valuation τ sig (Elt Ideal))

theorem whereB : after main_part2_ops1 V (Proc.devRef .tc main_v101) = select (V (Proc.devRef .tc main_v100))
    (broadcastInDim S16x256x2048 ![] bcast_S_S16x256x2048 (V (Proc.devRef .tc main_c_22))) (V (Proc.devRef .tc main_v98)) := by
  after_reads_simp; rfl

theorem sortB : after main_part2_ops2 V (Proc.devRef .tc main_v102) = Host.sort S16x256x2048 2 comparator_i32_d2 (V (Proc.devRef .tc main_v101)) := by
  after_reads_simp; rfl

theorem reluB1 : after main_part2_ops6 V (Proc.devRef .tc main_v133) = maximumf (F := Ideal) (s := S16x256x32x32) (φ := .f32) (V (Proc.devRef .tc main_v132))
    (broadcastInDim S16x256x32x32 ![] bcast_S_S16x256x32x32 (constant (F := Ideal) S_ .f32 0x00000000#32)) := by
  after_reads_simp; rfl

theorem reluB2 : after main_part2_ops8 V (Proc.devRef .tc main_v138) = maximumf (F := Ideal) (s := S16x256x32x32) (φ := .f32) (V (Proc.devRef .tc main_v137))
    (broadcastInDim S16x256x32x32 ![] bcast_S_S16x256x32x32 (constant (F := Ideal) S_ .f32 0x00000000#32)) := by
  after_reads_simp; rfl

theorem reluB3 : after main_part2_ops10 V (Proc.devRef .tc main_v143) = maximumf (F := Ideal) (s := S16x256x32x64) (φ := .f32) (V (Proc.devRef .tc main_v142))
    (broadcastInDim S16x256x32x64 ![] bcast_S_S16x256x32x64 (constant (F := Ideal) S_ .f32 0x00000000#32)) := by
  after_reads_simp; rfl

theorem padB : after main_part2_ops4 V (Proc.devRef .tc main_v108)
    = select (V (Proc.devRef .tc main_v106)) (V (Proc.devRef .tc main_v107)) (V (Proc.devRef .tc main_v103)) := by
  after_reads_simp; rfl

/-- The second scale's list, from the sorted keys. -/
theorem listB (b : Fin 16) (i : Fin 256) (P : Fin 2048 → Prop)
    (hv : ∀ t, V (Proc.devRef .tc main_v102) (ix3 b i t) = BitVec.ofNat 32 (key P (order P t))) (t : Fin 32) :
    after main_part2_ops4 (after main_part2_ops3 V) (Proc.devRef .tc main_v108) (ix3 b i t) = BitVec.ofNat 32 (listed (n := 32) (by omega) (by omega) P t) := by
  rw [padB]
  after_reads_simp
  exact pad_apply _ _ _ _ (fun _ => rfl) _ b i P (by omega) (by omega) hv t

/-- The batch words and the list's words at the second scale's neighbours. -/
abbrev pB := upto main_part2_ops5 V 19 (Proc.devRef .tc main_v122)
abbrev qB := upto main_part2_ops5 V 19 (Proc.devRef .tc main_v123)

theorem pB_apply (b : Fin 16) (i : Fin 256) (t : Fin 32) : pB V (ix4 b i t 0) = BitVec.ofNat 32 b.val := by
  unfold pB
  after_reads_simp
  refine batch_apply _ _ _ (fun _ => rfl) _ _ b i t ?_
  exact shapeCast_apply _ _ (ix3 b 0 0) (ix1 b) (by rw [Shape.rowMajor_val_one, Shape.rowMajor_val_three]; show b.val = (b.val * 1 + 0) * 1 + 0; omega)

theorem qB_apply (b : Fin 16) (i : Fin 256) (t : Fin 32) (a : ℕ) (ha : a < 2 ^ 31) (hv : V (Proc.devRef .tc main_v108) (ix3 b i t) = BitVec.ofNat 32 a) :
    qB V (ix4 b i t 0) = BitVec.ofNat 32 a := by
  unfold qB
  after_reads_simp
  exact word_apply _ _ _ (fun _ => rfl) _ b i t a ha hv

/-- The three layers. -/
theorem linB1 : after main_part2_ops6 (after main_part2_ops5 V) (Proc.devRef .tc main_v133)
    = lin (k := 3) (m := 32) (n := 32) dot_S16x256x32x3_S32x3_S16x256x32x32_3_1_012_0_n_n_wf bcast_S32_S1x1x1x32_3 bcast_S1x1x1x32_S16x256x32x32_0_1_2_3 bcast_S_S16x256x32x32
      (rel (n := 32) gather_S16x2048x3_S16x256x32x2_S16x256x32x3_3_01_n_n_01_3_113_wf concatenates_S16x256x32x1_S16x256x32x1_S16x256x32x2_d3
        bcast_S16x256x3_S16x256x1x3_0_1_3 bcast_S16x256x1x3_S16x256x32x3_0_1_2_3 (V (Proc.devRef .tc main_arg0)) (V (Proc.devRef .tc main_v20)) (pB V) (qB V))
      (V (Proc.devRef .tc main_arg7)) (V (Proc.devRef .tc main_arg8)) := by
  rw [reluB1]
  after_reads_simp
  rfl

theorem linB2 : after main_part2_ops8 (after main_part2_ops7 V) (Proc.devRef .tc main_v138)
    = lin (k := 32) (m := 32) (n := 32) dot_S16x256x32x32_S32x32_S16x256x32x32_3_1_012_0_n_n_wf bcast_S32_S1x1x1x32_3 bcast_S1x1x1x32_S16x256x32x32_0_1_2_3 bcast_S_S16x256x32x32
      (V (Proc.devRef .tc main_v133)) (V (Proc.devRef .tc main_arg9)) (V (Proc.devRef .tc main_arg10)) := by
  rw [reluB2]
  after_reads_simp
  rfl

theorem linB3 : after main_part2_ops10 (after main_part2_ops9 V) (Proc.devRef .tc main_v143)
    = lin (k := 32) (m := 64) (n := 32) dot_S16x256x32x32_S64x32_S16x256x32x64_3_1_012_0_n_n_wf bcast_S64_S1x1x1x64_3 bcast_S1x1x1x64_S16x256x32x64_0_1_2_3 bcast_S_S16x256x32x64
      (V (Proc.devRef .tc main_v138)) (V (Proc.devRef .tc main_arg11)) (V (Proc.devRef .tc main_arg12)) := by
  rw [reluB3]
  after_reads_simp
  rfl

theorem maxB : after main_part3_ops0 V (Proc.devRef .tc main_v144) = Host.reduce (FloatOps.maximumf (F := Ideal) (φ := .f32)) (V (Proc.devRef .tc main_v143))
    (constant (F := Ideal) S_ .f32 0xFF800000#32) reducesTo_S16x256x32x64_S16x256x64_d2 h_S_ := by
  after_reads_simp

/-- The squared distances of the second scale's mask. -/
theorem maskB : after main_part2_ops0 (after main_part1_ops9 V) (Proc.devRef .tc main_v100) = cmpf (F := Ideal) (s := S16x256x2048) (φ := .f32) .ogt
    (dist dot_S16x256x3_S16x3x2048_S16x256x2048_2_1_1_2_0_0_wf transposes_S16x2048x3_S16x3x2048_0_2_1 bcast_S_S16x256x2048 h_S_ reducesTo_S16x256x3_S16x256_d2
      bcast_S16x256_S16x256x1_0_1 bcast_S16x256x1_S16x256x2048_0_1_2 reducesTo_S16x2048x3_S16x2048_d2 bcast_S16x2048_S16x1x2048_0_2 bcast_S16x1x2048_S16x256x2048_0_1_2
      (V (Proc.devRef .tc main_v20)) (V (Proc.devRef .tc main_arg0)))
    (broadcastInDim S16x256x2048 ![] bcast_S_S16x256x2048 (constant (F := Ideal) S_ .f32 0x3D23D70A#32)) := by
  after_reads_simp
  rfl

/-- The keys of the second scale, in order. -/
theorem keysB (b : Fin 16) (i : Fin 256) (t : Fin 2048) :
    after main_part2_ops2 (after main_part2_ops1 (after main_part2_ops0 (after main_part1_ops9 V))) (Proc.devRef .tc main_v102) (ix3 b i t)
      = BitVec.ofNat 32 (key (fun j => InBall 0x3D23D70A#32 (fun k => (V (Proc.devRef .tc main_v20) : FVec Ideal S16x256x3 .f32) (ix3 b i k))
          (fun k => (V (Proc.devRef .tc main_arg0) : FVec Ideal S16x2048x3 .f32) (ix3 b j k)))
        (order (fun j => InBall 0x3D23D70A#32 (fun k => (V (Proc.devRef .tc main_v20) : FVec Ideal S16x256x3 .f32) (ix3 b i k))
          (fun k => (V (Proc.devRef .tc main_arg0) : FVec Ideal S16x2048x3 .f32) (ix3 b j k))) t)) := by
  rw [sortB, whereB, maskB]
  have e1 : after main_part2_ops0 (after main_part1_ops9 V) (Proc.devRef .tc main_c_22) = fun _ => 2048#32 := by after_reads_simp; rfl
  have e2 : after main_part2_ops0 (after main_part1_ops9 V) (Proc.devRef .tc main_v98)
      = broadcastInDim S16x256x2048 ![2] bcast_S2048_S16x256x2048_2 (iotaInDim S2048 32 0) := by after_reads_simp
  rw [e1, e2]
  refine sort_apply _ b i _ (fun j => ?_) t
  exact keys_apply _ _ _ _ _ (fun _ => rfl) b i _ _ (fun j => dist_apply _ _ _ _ _ _ _ _ _ _ _ _ b i j) j

/-- The memory with the second scale's lists. -/
abbrev memB1 : Valuation τ sig (Elt Ideal) :=
  after main_part2_ops4 (after main_part2_ops3 (after main_part2_ops2 (after main_part2_ops1 (after main_part2_ops0 (after main_part1_ops9 V)))))

/-- The memory after the second scale's layers. -/
abbrev memB : Valuation τ sig (Elt Ideal) :=
  after main_part2_ops10 (after main_part2_ops9 (after main_part2_ops8 (after main_part2_ops7 (after main_part2_ops6 (after main_part2_ops5 (memB1 V))))))

/-- The second scale's value is its feature. -/
theorem scaleB (b : Fin 16) (i : Fin 256) (f : Fin 2048)
    (hcx : ∀ k, V (Proc.devRef .tc main_v20) (ix3 b i k) = V (Proc.devRef .tc main_arg0) (ix3 b f k)) (o : Fin 64) :
    after main_part3_ops0 (memB V) (Proc.devRef .tc main_v144) (ix3 b i o)
      = feats 0x3D23D70A#32 32 (pts (V (Proc.devRef .tc main_arg0)) b) f (V (Proc.devRef .tc main_arg7)) (V (Proc.devRef .tc main_arg8))
          (V (Proc.devRef .tc main_arg9)) (V (Proc.devRef .tc main_arg10)) (V (Proc.devRef .tc main_arg11)) (V (Proc.devRef .tc main_arg12)) o := by
  have hl := fun t => listB (after main_part2_ops2 (after main_part2_ops1 (after main_part2_ops0 (after main_part1_ops9 V)))) b i _ (keysB V b i) t
  unfold memB
  have a0 : memB1 V (Proc.devRef .tc main_arg0) = V (Proc.devRef .tc main_arg0) := by unfold memB1; after_reads_simp
  have ac : memB1 V (Proc.devRef .tc main_v20) = V (Proc.devRef .tc main_v20) := by unfold memB1; after_reads_simp
  have a1 : memB1 V (Proc.devRef .tc main_arg7) = V (Proc.devRef .tc main_arg7) := by unfold memB1; after_reads_simp
  have a2 : memB1 V (Proc.devRef .tc main_arg8) = V (Proc.devRef .tc main_arg8) := by unfold memB1; after_reads_simp
  have a3 : after main_part2_ops6 (after main_part2_ops5 (memB1 V)) (Proc.devRef .tc main_arg9) = V (Proc.devRef .tc main_arg9) := by unfold memB1; after_reads_simp
  have a4 : after main_part2_ops6 (after main_part2_ops5 (memB1 V)) (Proc.devRef .tc main_arg10) = V (Proc.devRef .tc main_arg10) := by unfold memB1; after_reads_simp
  have a5 : after main_part2_ops8 (after main_part2_ops7 (after main_part2_ops6 (after main_part2_ops5 (memB1 V)))) (Proc.devRef .tc main_arg11)
      = V (Proc.devRef .tc main_arg11) := by unfold memB1; after_reads_simp
  have a6 : after main_part2_ops8 (after main_part2_ops7 (after main_part2_ops6 (after main_part2_ops5 (memB1 V)))) (Proc.devRef .tc main_arg12)
      = V (Proc.devRef .tc main_arg12) := by unfold memB1; after_reads_simp
  rw [maxB, linB3, linB2, linB1, ac, a0, a1, a2, a3, a4, a5, a6]
  exact scale_value (n := 32) (by omega) (by omega) _ _ _ _ _ _ _ _ _ _ _ _ _ _ _ rfl _ _ _ b i f hcx
    (fun t => pB_apply _ b i t) (fun t => qB_apply _ b i t _ (lt_of_le_of_lt (listed_le _ _ _ t) (by norm_num)) (hl t)) o

end Cert.RefScale
-- ==== Proof.RefScaleC.lean ====
module

public import proofs.«01_k».proof.Proof.RefLoop
public import proofs.«01_k».proof.Proof.RefScaleValue

/-!
The reference's third scale, read off its operations. The memory before it is arbitrary: it holds the points and the centres.
-/

@[expose] public section

set_option maxRecDepth 16384

noncomputable section

namespace Cert.RefScale

open Cert.ReferenceIdeal Cert.ReferenceIdeal.Gen Cert.RefRun Cert.RefTake Cert.RefStage
open Idealize.ShloMosaic hiding ix1 ix2 ix3 ix4
open Idealize.ShloMosaic.TcCoe Idealize.ShloMosaic.StableHlo
open Idealize.ShloMosaic.ValueIdx
open Cert.Spec Cert.SortFeat Cert.Scale Cert.Final
open scoped BigOperators

variable (V : Valuation τ sig (Elt Ideal))

theorem whereC : after main_part3_ops1 V (Proc.devRef .tc main_v163) = select (V (Proc.devRef .tc main_v162))
    (broadcastInDim S16x256x2048 ![] bcast_S_S16x256x2048 (V (Proc.devRef .tc main_c_33))) (V (Proc.devRef .tc main_v160)) := by
  after_reads_simp; rfl

theorem sortC : after main_part3_ops2 V (Proc.devRef .tc main_v164) = Host.sort S16x256x2048 2 comparator_i32_d2 (V (Proc.devRef .tc main_v163)) := by
  after_reads_simp; rfl

theorem padC : after main_part3_ops4 V (Proc.devRef .tc main_v170)
    = select (V (Proc.devRef .tc main_v168)) (V (Proc.devRef .tc main_v169)) (V (Proc.devRef .tc main_v165)) := by
  after_reads_simp; rfl

theorem reluC1 : after main_part4_ops1 V (Proc.devRef .tc main_v195) = maximumf (F := Ideal) (s := S16x256x128x32) (φ := .f32) (V (Proc.devRef .tc main_v194))
    (broadcastInDim S16x256x128x32 ![] bcast_S_S16x256x128x32 (constant (F := Ideal) S_ .f32 0x00000000#32)) := by
  after_reads_simp; rfl

theorem reluC2 : after main_part4_ops3 V (Proc.devRef .tc main_v200) = maximumf (F := Ideal) (s := S16x256x128x48) (φ := .f32) (V (Proc.devRef .tc main_v199))
    (broadcastInDim S16x256x128x48 ![] bcast_S_S16x256x128x48 (constant (F := Ideal) S_ .f32 0x00000000#32)) := by
  after_reads_simp; rfl

theorem reluC3 : after main_part4_ops5 V (Proc.devRef .tc main_v205) = maximumf (F := Ideal) (s := S16x256x128x64) (φ := .f32) (V (Proc.devRef .tc main_v204))
    (broadcastInDim S16x256x128x64 ![] bcast_S_S16x256x128x64 (constant (F := Ideal) S_ .f32 0x00000000#32)) := by
  after_reads_simp; rfl

/-- The third scale's list, from the sorted keys. -/
theorem listC (b : Fin 16) (i : Fin 256) (P : Fin 2048 → Prop)
    (hv : ∀ t, V (Proc.devRef .tc main_v164) (ix3 b i t) = BitVec.ofNat 32 (key P (order P t))) (t : Fin 128) :
    after main_part3_ops4 (after main_part3_ops3 V) (Proc.devRef .tc main_v170) (ix3 b i t) = BitVec.ofNat 32 (listed (n := 128) (by omega) (by omega) P t) := by
  rw [padC]
  after_reads_simp
  exact pad_apply _ _ _ _ (fun _ => rfl) _ b i P (by omega) (by omega) hv t

/-- The batch words and the list's words at the third scale's neighbours. -/
abbrev pT := upto main_part3_ops5 V 19 (Proc.devRef .tc main_v184)
abbrev qT := upto main_part3_ops5 V 19 (Proc.devRef .tc main_v185)

theorem pT_apply (b : Fin 16) (i : Fin 256) (t : Fin 128) : pT V (ix4 b i t 0) = BitVec.ofNat 32 b.val := by
  unfold pT
  after_reads_simp
  refine batch_apply _ _ _ (fun _ => rfl) _ _ b i t ?_
  exact shapeCast_apply _ _ (ix3 b 0 0) (ix1 b) (by rw [Shape.rowMajor_val_one, Shape.rowMajor_val_three]; show b.val = (b.val * 1 + 0) * 1 + 0; omega)

theorem qT_apply (b : Fin 16) (i : Fin 256) (t : Fin 128) (a : ℕ) (ha : a < 2 ^ 31) (hv : V (Proc.devRef .tc main_v170) (ix3 b i t) = BitVec.ofNat 32 a) :
    qT V (ix4 b i t 0) = BitVec.ofNat 32 a := by
  unfold qT
  after_reads_simp
  exact word_apply _ _ _ (fun _ => rfl) _ b i t a ha hv

/-- The three layers. -/
theorem linC1 : after main_part4_ops1 (after main_part4_ops0 (after main_part3_ops5 V)) (Proc.devRef .tc main_v195)
    = lin (k := 3) (m := 32) (n := 128) dot_S16x256x128x3_S32x3_S16x256x128x32_3_1_012_0_n_n_wf bcast_S32_S1x1x1x32_3 bcast_S1x1x1x32_S16x256x128x32_0_1_2_3
      bcast_S_S16x256x128x32
      (rel (n := 128) gather_S16x2048x3_S16x256x128x2_S16x256x128x3_3_01_n_n_01_3_113_wf concatenates_S16x256x128x1_S16x256x128x1_S16x256x128x2_d3
        bcast_S16x256x3_S16x256x1x3_0_1_3 bcast_S16x256x1x3_S16x256x128x3_0_1_2_3 (V (Proc.devRef .tc main_arg0)) (V (Proc.devRef .tc main_v20)) (pT V) (qT V))
      (V (Proc.devRef .tc main_arg13)) (V (Proc.devRef .tc main_arg14)) := by
  rw [reluC1]
  after_reads_simp
  rfl

theorem linC2 : after main_part4_ops3 (after main_part4_ops2 V) (Proc.devRef .tc main_v200)
    = lin (k := 32) (m := 48) (n := 128) dot_S16x256x128x32_S48x32_S16x256x128x48_3_1_012_0_n_n_wf bcast_S48_S1x1x1x48_3 bcast_S1x1x1x48_S16x256x128x48_0_1_2_3
      bcast_S_S16x256x128x48 (V (Proc.devRef .tc main_v195)) (V (Proc.devRef .tc main_arg15)) (V (Proc.devRef .tc main_arg16)) := by
  rw [reluC2]
  after_reads_simp
  rfl

theorem linC3 : after main_part4_ops5 (after main_part4_ops4 V) (Proc.devRef .tc main_v205)
    = lin (k := 48) (m := 64) (n := 128) dot_S16x256x128x48_S64x48_S16x256x128x64_3_1_012_0_n_n_wf bcast_S64_S1x1x1x64_3 bcast_S1x1x1x64_S16x256x128x64_0_1_2_3
      bcast_S_S16x256x128x64 (V (Proc.devRef .tc main_v200)) (V (Proc.devRef .tc main_arg17)) (V (Proc.devRef .tc main_arg18)) := by
  rw [reluC3]
  after_reads_simp
  rfl

/-- The squared distances of the third scale's mask. -/
theorem maskC : after main_part3_ops0 V (Proc.devRef .tc main_v162) = cmpf (F := Ideal) (s := S16x256x2048) (φ := .f32) .ogt
    (dist dot_S16x256x3_S16x3x2048_S16x256x2048_2_1_1_2_0_0_wf transposes_S16x2048x3_S16x3x2048_0_2_1 bcast_S_S16x256x2048 h_S_ reducesTo_S16x256x3_S16x256_d2
      bcast_S16x256_S16x256x1_0_1 bcast_S16x256x1_S16x256x2048_0_1_2 reducesTo_S16x2048x3_S16x2048_d2 bcast_S16x2048_S16x1x2048_0_2 bcast_S16x1x2048_S16x256x2048_0_1_2
      (V (Proc.devRef .tc main_v20)) (V (Proc.devRef .tc main_arg0)))
    (broadcastInDim S16x256x2048 ![] bcast_S_S16x256x2048 (constant (F := Ideal) S_ .f32 0x3E23D70A#32)) := by
  after_reads_simp
  rfl

/-- The keys of the third scale, in order. -/
theorem keysC (b : Fin 16) (i : Fin 256) (t : Fin 2048) :
    after main_part3_ops2 (after main_part3_ops1 (after main_part3_ops0 V)) (Proc.devRef .tc main_v164) (ix3 b i t)
      = BitVec.ofNat 32 (key (fun j => InBall 0x3E23D70A#32 (fun k => (V (Proc.devRef .tc main_v20) : FVec Ideal S16x256x3 .f32) (ix3 b i k))
          (fun k => (V (Proc.devRef .tc main_arg0) : FVec Ideal S16x2048x3 .f32) (ix3 b j k)))
        (order (fun j => InBall 0x3E23D70A#32 (fun k => (V (Proc.devRef .tc main_v20) : FVec Ideal S16x256x3 .f32) (ix3 b i k))
          (fun k => (V (Proc.devRef .tc main_arg0) : FVec Ideal S16x2048x3 .f32) (ix3 b j k))) t)) := by
  rw [sortC, whereC, maskC]
  have e1 : after main_part3_ops0 V (Proc.devRef .tc main_c_33) = fun _ => 2048#32 := by after_reads_simp; rfl
  have e2 : after main_part3_ops0 V (Proc.devRef .tc main_v160)
      = broadcastInDim S16x256x2048 ![2] bcast_S2048_S16x256x2048_2 (iotaInDim S2048 32 0) := by after_reads_simp
  rw [e1, e2]
  refine sort_apply _ b i _ (fun j => ?_) t
  exact keys_apply _ _ _ _ _ (fun _ => rfl) b i _ _ (fun j => dist_apply _ _ _ _ _ _ _ _ _ _ _ _ b i j) j

/-- The memory with the third scale's lists. -/
abbrev memC1 : Valuation τ sig (Elt Ideal) :=
  after main_part3_ops4 (after main_part3_ops3 (after main_part3_ops2 (after main_part3_ops1 (after main_part3_ops0 V))))

/-- The memory after the third scale's layers. -/
abbrev memC : Valuation τ sig (Elt Ideal) :=
  after main_part4_ops5 (after main_part4_ops4 (after main_part4_ops3 (after main_part4_ops2 (after main_part4_ops1 (after main_part4_ops0 (after main_part3_ops5
    (memC1 V)))))))

/-- The third scale's value is its feature. -/
theorem scaleC (b : Fin 16) (i : Fin 256) (f : Fin 2048)
    (hcx : ∀ k, V (Proc.devRef .tc main_v20) (ix3 b i k) = V (Proc.devRef .tc main_arg0) (ix3 b f k)) (o : Fin 64) :
    Host.reduce (FloatOps.maximumf (F := Ideal) (φ := .f32)) (memC V (Proc.devRef .tc main_v205))
        (constant (F := Ideal) S_ .f32 0xFF800000#32) reducesTo_S16x256x128x64_S16x256x64_d2 h_S_ (ix3 b i o)
      = feats 0x3E23D70A#32 128 (pts (V (Proc.devRef .tc main_arg0)) b) f (V (Proc.devRef .tc main_arg13)) (V (Proc.devRef .tc main_arg14))
          (V (Proc.devRef .tc main_arg15)) (V (Proc.devRef .tc main_arg16)) (V (Proc.devRef .tc main_arg17)) (V (Proc.devRef .tc main_arg18)) o := by
  have hl := fun t => listC (after main_part3_ops2 (after main_part3_ops1 (after main_part3_ops0 V))) b i _ (keysC V b i) t
  unfold memC
  have a0 : memC1 V (Proc.devRef .tc main_arg0) = V (Proc.devRef .tc main_arg0) := by unfold memC1; after_reads_simp
  have ac : memC1 V (Proc.devRef .tc main_v20) = V (Proc.devRef .tc main_v20) := by unfold memC1; after_reads_simp
  have a1 : memC1 V (Proc.devRef .tc main_arg13) = V (Proc.devRef .tc main_arg13) := by unfold memC1; after_reads_simp
  have a2 : memC1 V (Proc.devRef .tc main_arg14) = V (Proc.devRef .tc main_arg14) := by unfold memC1; after_reads_simp
  have a3 : after main_part4_ops1 (after main_part4_ops0 (after main_part3_ops5 (memC1 V))) (Proc.devRef .tc main_arg15)
      = V (Proc.devRef .tc main_arg15) := by unfold memC1; after_reads_simp
  have a4 : after main_part4_ops1 (after main_part4_ops0 (after main_part3_ops5 (memC1 V))) (Proc.devRef .tc main_arg16)
      = V (Proc.devRef .tc main_arg16) := by unfold memC1; after_reads_simp
  have a5 : after main_part4_ops3 (after main_part4_ops2 (after main_part4_ops1 (after main_part4_ops0 (after main_part3_ops5 (memC1 V))))) (Proc.devRef .tc main_arg17)
      = V (Proc.devRef .tc main_arg17) := by unfold memC1; after_reads_simp
  have a6 : after main_part4_ops3 (after main_part4_ops2 (after main_part4_ops1 (after main_part4_ops0 (after main_part3_ops5 (memC1 V))))) (Proc.devRef .tc main_arg18)
      = V (Proc.devRef .tc main_arg18) := by unfold memC1; after_reads_simp
  rw [linC3, linC2, linC1, ac, a0, a1, a2, a3, a4, a5, a6]
  exact scale_value (n := 128) (by omega) (by omega) _ _ _ _ _ _ _ _ _ _ _ _ _ _ _ rfl _ _ _ b i f hcx
    (fun t => pT_apply _ b i t) (fun t => qT_apply _ b i t _ (lt_of_le_of_lt (listed_le _ _ _ t) (by norm_num)) (hl t)) o

end Cert.RefScale
-- ==== Proof.RefTail.lean ====
module

public import proofs.«01_k».proof.Proof.RefScaleValue

/-!
The last layer of the reference: the three scales' features side by side, weighted by the single row of the last weights, and the bias.
-/

@[expose] public section

set_option maxRecDepth 16384

noncomputable section

namespace Cert.RefTail

open Idealize.ShloMosaic hiding ix1 ix2 ix3 ix4
open Idealize.ShloMosaic.ValueIdx
open scoped BigOperators

abbrev A : Shape := ⟨3, ![16, 256, 32]⟩
abbrev B : Shape := ⟨3, ![16, 256, 64]⟩
abbrev T : Shape := ⟨3, ![16, 256, 160]⟩

/-- The three arrays side by side, read in each of them. -/
theorem cat_apply {α : Type} (x : A.Idx → α) (y z : B.Idx → α) (h : Shape.Concatenates [A, B, B] T 2) (b : Fin 16) (i : Fin 256) :
    (∀ o : Fin 32, concatenate T 2 [⟨A, x⟩, ⟨B, y⟩, ⟨B, z⟩] h (ix3 b i ⟨0 + o.val, by omega⟩) = x (ix3 b i o))
    ∧ (∀ o : Fin 64, concatenate T 2 [⟨A, x⟩, ⟨B, y⟩, ⟨B, z⟩] h (ix3 b i ⟨32 + o.val, by omega⟩) = y (ix3 b i o))
    ∧ (∀ o : Fin 64, concatenate T 2 [⟨A, x⟩, ⟨B, y⟩, ⟨B, z⟩] h (ix3 b i ⟨96 + o.val, by omega⟩) = z (ix3 b i o)) := by
  refine ⟨fun o => ?_, fun o => ?_, fun o => ?_⟩
  · exact concatenate_apply_piece 2 [⟨A, x⟩, ⟨B, y⟩, ⟨B, z⟩] h _ 0 (Nat.lt_of_sub_eq_succ rfl) A x rfl rfl 0 rfl (ix3 b i o)
      (fun a ha => match a with | ⟨0, _⟩ => rfl | ⟨1, _⟩ => rfl | ⟨2, _⟩ => (ha rfl).elim) rfl
  · exact concatenate_apply_piece 2 [⟨A, x⟩, ⟨B, y⟩, ⟨B, z⟩] h _ 1 (Nat.lt_of_sub_eq_succ rfl) B y rfl rfl 32 rfl (ix3 b i o)
      (fun a ha => match a with | ⟨0, _⟩ => rfl | ⟨1, _⟩ => rfl | ⟨2, _⟩ => (ha rfl).elim) rfl
  · exact concatenate_apply_piece 2 [⟨A, x⟩, ⟨B, y⟩, ⟨B, z⟩] h _ 2 (Nat.lt_of_sub_eq_succ rfl) B z rfl rfl 96 rfl (ix3 b i o)
      (fun a ha => match a with | ⟨0, _⟩ => rfl | ⟨1, _⟩ => rfl | ⟨2, _⟩ => (ha rfl).elim) rfl

/-- The weighted sum over the features. -/
theorem dot_apply (w : DotDims.WF ⟨2, ![1, 160]⟩ T ⟨3, ![1, 16, 256]⟩ [1] [2] [0] [0, 1] [] [])
    (W : FVec Ideal ⟨2, ![1, 160]⟩ .f32) (h : FVec Ideal T .f32) (b : Fin 16) (i : Fin 256) :
    Host.dotGeneral (⟨[1], [2], [0], [0, 1], [], [], w⟩ : DotDims ⟨2, ![1, 160]⟩ T ⟨3, ![1, 16, 256]⟩) none W h (ix3 0 b i)
      = ∑ c : Fin 160, W (ix2 0 c) * h (ix3 b i c) := by
  show FloatOps.dotGeneral _ none _ W h (ix3 0 b i) = _
  set D : DotDims ⟨2, ![1, 160]⟩ T ⟨3, ![1, 16, 256]⟩ := ⟨[1], [2], [0], [0, 1], [], [], w⟩ with hD
  rw [Ideal.dotGeneral_apply, ← Equiv.sum_comp (contrEquiv1 D 160 rfl rfl).symm]
  refine Finset.sum_congr rfl fun c _ => ?_
  have c3 := contrEquiv1_symm_val D 160 rfl rfl c
  have l3 : D.lhsIdx (ix3 0 b i) ((contrEquiv1 D 160 rfl rfl).symm c) = ix2 0 c := by
    funext ax; apply Fin.ext
    match ax with
    | ⟨0, _⟩ => simp [DotDims.lhsIdx, hD]
    | ⟨1, _⟩ => simp [DotDims.lhsIdx, hD]; exact c3
  have r3 : D.rhsIdx (ix3 0 b i) ((contrEquiv1 D 160 rfl rfl).symm c) = ix3 b i c := by
    funext ax; apply Fin.ext
    match ax with
    | ⟨0, _⟩ => simp [DotDims.rhsIdx, hD]; rfl
    | ⟨1, _⟩ => simp [DotDims.rhsIdx, hD]; rfl
    | ⟨2, _⟩ => simp [DotDims.rhsIdx, hD]; exact c3
  rw [l3, r3]

/-- A sum over 160 places is the sum over the first 32, the next 64 and the last 64. -/
theorem sum_split (f : Fin 160 → EReal) :
    ∑ c : Fin 160, f c = (∑ o : Fin 32, f ⟨0 + o.val, by omega⟩) + (∑ o : Fin 64, f ⟨32 + o.val, by omega⟩) + ∑ o : Fin 64, f ⟨96 + o.val, by omega⟩ := by
  have e1 : ∑ c : Fin 160, f c = (∑ i : Fin 96, f ⟨i.val, by omega⟩) + ∑ o : Fin 64, f ⟨96 + o.val, by omega⟩ := Fin.sum_univ_add (a := 96) (b := 64) f
  have e2 : (∑ i : Fin 96, f ⟨i.val, by omega⟩) = (∑ o : Fin 32, f ⟨o.val, by omega⟩) + ∑ o : Fin 64, f ⟨32 + o.val, by omega⟩ :=
    Fin.sum_univ_add (a := 32) (b := 64) fun i : Fin 96 => f ⟨i.val, by omega⟩
  rw [e1, e2]
  simp only [Nat.zero_add]

/-- The weighted features and the bias. -/
def weigh (W : FVec Ideal ⟨2, ![1, 160]⟩ .f32) (β : FVec Ideal ⟨1, ![1]⟩ .f32) (x : FVec Ideal A .f32) (y z : FVec Ideal B .f32) (b : Fin 16) (i : Fin 256) : EReal :=
  (∑ o : Fin 32, W (ix2 0 ⟨0 + o.val, by omega⟩) * x (ix3 b i o)) + (∑ o : Fin 64, W (ix2 0 ⟨32 + o.val, by omega⟩) * y (ix3 b i o))
    + (∑ o : Fin 64, W (ix2 0 ⟨96 + o.val, by omega⟩) * z (ix3 b i o)) + β (ix1 0)

/-- The whole last layer. -/
theorem tail_apply (w : DotDims.WF ⟨2, ![1, 160]⟩ T ⟨3, ![1, 16, 256]⟩ [1] [2] [0] [0, 1] [] []) (h : Shape.Concatenates [A, B, B] T 2)
    (ht : (⟨3, ![1, 16, 256]⟩ : Shape).Transposes [1, 0, 2] ⟨3, ![16, 1, 256]⟩)
    (g1 : (⟨1, ![1]⟩ : Shape).BroadcastsInDim ⟨3, ![1, 1, 1]⟩ ![1]) (g2 : (⟨3, ![1, 1, 1]⟩ : Shape).BroadcastsInDim ⟨3, ![16, 1, 256]⟩ ![0, 1, 2])
    (W : FVec Ideal ⟨2, ![1, 160]⟩ .f32) (β : FVec Ideal ⟨1, ![1]⟩ .f32) (x : FVec Ideal A .f32) (y z : FVec Ideal B .f32) (b : Fin 16) (i : Fin 256) :
    addf (transpose ⟨3, ![16, 1, 256]⟩ [1, 0, 2]
        (Host.dotGeneral (⟨[1], [2], [0], [0, 1], [], [], w⟩ : DotDims ⟨2, ![1, 160]⟩ T ⟨3, ![1, 16, 256]⟩) none W
          (concatenate T 2 [⟨A, x⟩, ⟨B, y⟩, ⟨B, z⟩] h)) ht)
      (broadcastInDim ⟨3, ![16, 1, 256]⟩ ![0, 1, 2] g2 (broadcastInDim ⟨3, ![1, 1, 1]⟩ ![1] g1 β)) (ix3 b 0 i)
      = weigh W β x y z b i := by
  have hc := cat_apply x y z h b i
  refine congrArg₂ (fun s t : EReal => s + t) ?_ ?_
  · refine (transpose_apply [1, 0, 2] _ ht (ix3 b 0 i) (ix3 0 b i) (fun a => match a with | ⟨0, _⟩ => rfl | ⟨1, _⟩ => rfl | ⟨2, _⟩ => rfl)).trans ?_
    rw [dot_apply, sum_split]
    refine congrArg₂ (fun s t : EReal => s + t) (congrArg₂ (fun s t : EReal => s + t) ?_ ?_) ?_
    · exact Finset.sum_congr rfl fun o _ => congrArg (fun t : EReal => W (ix2 0 ⟨0 + o.val, by omega⟩) * t) (hc.1 o)
    · exact Finset.sum_congr rfl fun o _ => congrArg (fun t : EReal => W (ix2 0 ⟨32 + o.val, by omega⟩) * t) (hc.2.1 o)
    · exact Finset.sum_congr rfl fun o _ => congrArg (fun t : EReal => W (ix2 0 ⟨96 + o.val, by omega⟩) * t) (hc.2.2 o)
  · refine (broadcastInDim_apply ![0, 1, 2] g2 _ (ix3 b (0 : Fin 1) i) (ix3 (0 : Fin 1) (0 : Fin 1) (0 : Fin 1)) (fun a => match a with | ⟨0, _⟩ => rfl | ⟨1, _⟩ => rfl | ⟨2, _⟩ => rfl)).trans ?_
    exact broadcastInDim_apply ![1] g1 β (ix3 (0 : Fin 1) (0 : Fin 1) (0 : Fin 1)) (ix1 0) (fun a => match a with | ⟨0, _⟩ => rfl)

end Cert.RefTail
-- ==== Proof.RefValue.lean ====
module

public import proofs.«01_k».proof.Proof.RefArgs
public import proofs.«01_k».proof.Proof.RefScaleA
public import proofs.«01_k».proof.Proof.RefScaleB
public import proofs.«01_k».proof.Proof.RefScaleC
public import proofs.«01_k».proof.Proof.RefTail

/-!
The reference's result, at every batch and centre: the three scales' features, weighted, and the bias.
-/

@[expose] public section

set_option maxRecDepth 16384

noncomputable section

namespace Cert.RefValue

open Cert.ReferenceIdeal Cert.ReferenceIdeal.Gen Cert.RefRun Cert.RefTake Cert.RefStage Cert.RefScale
open Idealize.ShloMosaic hiding ix1 ix2 ix3 ix4
open Idealize.ShloMosaic.TcCoe Idealize.ShloMosaic.StableHlo
open Idealize.ShloMosaic.ValueIdx
open Cert.Spec Cert.SortFeat Cert.Scale Cert.Final
open scoped BigOperators

section
variable (V : Valuation τ sig (Elt Ideal))

/-- The memory after the first scale's layers. -/
abbrev memL : Valuation τ sig (Elt Ideal) :=
  after main_part1_ops8 (after main_part1_ops7 (after main_part1_ops6 (after main_part1_ops5 (after main_part1_ops4 (after main_part1_ops3 (memA1 V))))))

/-- The memory before the last layer. -/
abbrev memZ : Valuation τ sig (Elt Ideal) := memC (memB (memL V))

theorem last_centre : memL V (Proc.devRef .tc main_v20) = after main_part0_ops1 V (Proc.devRef .tc main_v20) := by
  have e : ∀ W : Valuation τ sig (Elt Ideal), after main_part1_ops8 (after main_part1_ops7 (after main_part1_ops6 (after main_part1_ops5 (after main_part1_ops4
      (after main_part1_ops3 W))))) (Proc.devRef .tc main_v20) = W (Proc.devRef .tc main_v20) := fun W => by after_reads_simp
  exact (e _).trans (memA1_centre V)

theorem memB_centre : memB V (Proc.devRef .tc main_v20) = V (Proc.devRef .tc main_v20) := by unfold memB memB1; after_reads_simp

/-- The stretches before the last write none of the arguments. -/
theorem memL_args : ∀ r ∈ [main_arg0, main_arg7, main_arg8, main_arg9, main_arg10, main_arg11, main_arg12, main_arg13, main_arg14, main_arg15, main_arg16, main_arg17,
    main_arg18, main_arg19, main_arg20], memL V (Proc.devRef .tc r) = V (Proc.devRef .tc r) := by
  simp only [List.forall_mem_cons]
  unfold memL memA1
  refine ⟨?_, ?_, ?_, ?_, ?_, ?_, ?_, ?_, ?_, ?_, ?_, ?_, ?_, ?_, ?_, fun r h => (List.not_mem_nil h).elim⟩ <;> after_reads_simp

theorem memB_args : ∀ r ∈ [main_arg0, main_arg13, main_arg14, main_arg15, main_arg16, main_arg17, main_arg18, main_arg19, main_arg20],
    memB V (Proc.devRef .tc r) = V (Proc.devRef .tc r) := by
  simp only [List.forall_mem_cons]
  unfold memB memB1
  refine ⟨?_, ?_, ?_, ?_, ?_, ?_, ?_, ?_, ?_, fun r h => (List.not_mem_nil h).elim⟩ <;> after_reads_simp

theorem memC_args : memC V (Proc.devRef .tc main_arg19) = V (Proc.devRef .tc main_arg19) ∧ memC V (Proc.devRef .tc main_arg20) = V (Proc.devRef .tc main_arg20) := by
  unfold memC memC1
  constructor <;> after_reads_simp

/-- The first scale's features are still there before the last layer. -/
theorem keepA : memZ V (Proc.devRef .tc main_v82) = memA V (Proc.devRef .tc main_v82) := by
  have e1 : ∀ W : Valuation τ sig (Elt Ideal), memC W (Proc.devRef .tc main_v82) = W (Proc.devRef .tc main_v82) := fun W => by
    unfold memC memC1; after_reads_simp
  have e2 : ∀ W : Valuation τ sig (Elt Ideal), after main_part2_ops10 (after main_part2_ops9 (after main_part2_ops8 (after main_part2_ops7 (after main_part2_ops6
      (after main_part2_ops5 (after main_part2_ops4 (after main_part2_ops3 (after main_part2_ops2 (after main_part2_ops1 (after main_part2_ops0 W))))))))))
      (Proc.devRef .tc main_v82) = W (Proc.devRef .tc main_v82) := fun W => by after_reads_simp
  exact (e1 _).trans (e2 _)

/-- And so are the second scale's. -/
theorem keepB : memZ V (Proc.devRef .tc main_v144) = after main_part3_ops0 (memB (memL V)) (Proc.devRef .tc main_v144) := by
  have e : ∀ W : Valuation τ sig (Elt Ideal), after main_part4_ops5 (after main_part4_ops4 (after main_part4_ops3 (after main_part4_ops2 (after main_part4_ops1
      (after main_part4_ops0 (after main_part3_ops5 (after main_part3_ops4 (after main_part3_ops3 (after main_part3_ops2 (after main_part3_ops1 W))))))))))
      (Proc.devRef .tc main_v144) = W (Proc.devRef .tc main_v144) := fun W => by after_reads_simp
  exact e _

/-- The last layer. -/
theorem tail (b : Fin 16) (n : Fin 256) : after main_part4_ops6 V (Proc.devRef .tc main_v212) (ix3 b 0 n)
    = RefTail.weigh (V (Proc.devRef .tc main_arg19)) (V (Proc.devRef .tc main_arg20)) (V (Proc.devRef .tc main_v82)) (V (Proc.devRef .tc main_v144))
        (Host.reduce (FloatOps.maximumf (F := Ideal) (φ := .f32)) (V (Proc.devRef .tc main_v205)) (constant (F := Ideal) S_ .f32 0xFF800000#32)
          reducesTo_S16x256x128x64_S16x256x64_d2 h_S_) b n := by
  have p0 : upto main_part4_ops6 V 2 (Proc.devRef .tc main_v82) = V (Proc.devRef .tc main_v82) := by after_reads_simp
  have p1 : upto main_part4_ops6 V 2 (Proc.devRef .tc main_v144) = V (Proc.devRef .tc main_v144) := by after_reads_simp
  have p2 : upto main_part4_ops6 V 2 (Proc.devRef .tc main_v206) = Host.reduce (FloatOps.maximumf (F := Ideal) (φ := .f32)) (V (Proc.devRef .tc main_v205))
      (constant (F := Ideal) S_ .f32 0xFF800000#32) reducesTo_S16x256x128x64_S16x256x64_d2 h_S_ := by after_reads_simp
  rw [← p0, ← p1, ← p2]
  generalize hR : RefTail.weigh _ _ _ _ _ b n = R
  after_reads_simp
  refine Eq.trans ?_ hR
  exact RefTail.tail_apply _ _ _ _ _ _ _ _ _ _ b n

/-- The result from the memory after the loop. -/
theorem post_value (b : Fin 16) (n : Fin 256)
    (hv : V (Proc.devRef .tc main_v3_5) (ix2 b n) = BitVec.ofNat 32 (centre (V (Proc.devRef .tc main_arg0)) b n).val) :
    afterL postI V (Proc.devRef .tc main_v212) (ix3 b 0 n)
      = out (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) (V (Proc.devRef .tc main_arg13)) (V (Proc.devRef .tc main_arg14))
          (V (Proc.devRef .tc main_arg15)) (V (Proc.devRef .tc main_arg16)) (V (Proc.devRef .tc main_arg17)) (V (Proc.devRef .tc main_arg18)) (V (Proc.devRef .tc main_arg19))
          (V (Proc.devRef .tc main_arg20)) b n := by
  have hA := scaleA V b n _ hv
  have aL := memL_args V
  have aB := memB_args (memL V)
  simp only [List.forall_mem_cons] at aL aB
  obtain ⟨l0, l7, l8, l9, l10, l11, l12, l13, l14, l15, l16, l17, l18, l19, l20, -⟩ := aL
  obtain ⟨k0, k13, k14, k15, k16, k17, k18, k19, k20, -⟩ := aB
  have hcx : ∀ k, memL V (Proc.devRef .tc main_v20) (ix3 b n k) = memL V (Proc.devRef .tc main_arg0) (ix3 b (centre (V (Proc.devRef .tc main_arg0)) b n) k) := fun k => by
    rw [last_centre, l0]
    exact centA_apply V b n _ hv k
  have hB := scaleB (memL V) b n _ hcx
  have hC := scaleC (memB (memL V)) b n (centre (V (Proc.devRef .tc main_arg0)) b n) (fun k => by rw [memB_centre, k0]; exact hcx k)
  rw [l0, l7, l8, l9, l10, l11, l12] at hB
  rw [k0, k13, k14, k15, k16, k17, k18, l0, l13, l14, l15, l16, l17, l18] at hC
  have e : afterL postI V = after main_part4_ops6 (memZ V) := rfl
  have z19 : memZ V (Proc.devRef .tc main_arg19) = V (Proc.devRef .tc main_arg19) := ((memC_args _).1.trans k19).trans l19
  have z20 : memZ V (Proc.devRef .tc main_arg20) = V (Proc.devRef .tc main_arg20) := ((memC_args _).2.trans k20).trans l20
  rw [e, tail, z19, z20, keepA, keepB]
  unfold out part RefTail.weigh
  refine congrArg (fun t : EReal => t + _) (congrArg₂ (fun s t : EReal => s + t) (congrArg₂ (fun s t : EReal => s + t) ?_ ?_) ?_)
  · exact Finset.sum_congr rfl fun o _ => congrArg (fun t : EReal => _ * t) (hA o)
  · exact Finset.sum_congr rfl fun o _ => congrArg (fun t : EReal => _ * t) (hB o)
  · exact Finset.sum_congr rfl fun o _ => congrArg (fun t : EReal => _ * t) (hC o)

end

variable (m : (ℓ : Loc nD τ sig) → Buf (Elt Ideal) ℓ) (c : Dev nD)

/-- A buffer neither the loop nor the operations before it write is, at the loop's end, as launched. -/
theorem exit_unwritten {r : Ref sig .tc} (h₁ : r ∉ preW) (h₂ : r ∉ loopW) : after condOps (atK m 256 c) (Proc.devRef .tc r) = launchContents m c (Proc.devRef .tc r) := by
  rw [after_of_writes_sub condOps _ condOps_writes (fun h => h₂ (by simp only [loopW, List.mem_append]; exact .inl (.inl (.inl h)))),
    ← entry_unwritten m c h₁, ← atTrip_unwritten m c h₂ 256]

/-- The arguments are as launched when the loop ends. -/
theorem exit_args : ∀ r ∈ [main_arg0, main_arg1, main_arg2, main_arg3, main_arg4, main_arg5, main_arg6, main_arg7, main_arg8, main_arg9, main_arg10, main_arg11, main_arg12,
    main_arg13, main_arg14, main_arg15, main_arg16, main_arg17, main_arg18, main_arg19, main_arg20],
    after condOps (atK m 256 c) (Proc.devRef .tc r) = launchContents m c (Proc.devRef .tc r) := by
  have h : ∀ r ∈ [main_arg0, main_arg1, main_arg2, main_arg3, main_arg4, main_arg5, main_arg6, main_arg7, main_arg8, main_arg9, main_arg10, main_arg11, main_arg12,
    main_arg13, main_arg14, main_arg15, main_arg16, main_arg17, main_arg18, main_arg19, main_arg20], r ∉ preW ∧ r ∉ loopW := by decide +kernel
  exact fun r hr => exit_unwritten m c (h r hr).1 (h r hr).2

/-- An argument's launched contents. -/
abbrev arg (r : Ref sig .tc) := launchContents m c (Proc.devRef .tc r)

/-- The reference's result, at batch `b` and centre `n`. -/
theorem value (b : Fin 16) (n : Fin 256) : finalContents condOps preI bodyI postI 256 m c (Proc.devRef .tc main_v212) (ix3 b 0 n)
    = out (arg m c main_arg0) (arg m c main_arg1) (arg m c main_arg2) (arg m c main_arg3) (arg m c main_arg4) (arg m c main_arg5) (arg m c main_arg6)
        (arg m c main_arg7) (arg m c main_arg8) (arg m c main_arg9) (arg m c main_arg10) (arg m c main_arg11) (arg m c main_arg12) (arg m c main_arg13)
        (arg m c main_arg14) (arg m c main_arg15) (arg m c main_arg16) (arg m c main_arg17) (arg m c main_arg18) (arg m c main_arg19) (arg m c main_arg20) b n := by
  have ha := exit_args m c
  simp only [List.forall_mem_cons] at ha
  obtain ⟨a0, a1, a2, a3, a4, a5, a6, a7, a8, a9, a10, a11, a12, a13, a14, a15, a16, a17, a18, a19, a20, -⟩ := ha
  have hl : after condOps (atK m 256 c) (Proc.devRef .tc main_v3_5) = atK m 256 c (Proc.devRef .tc main_v3_5) :=
    after_of_writes_sub condOps _ condOps_writes (by decide)
  have hv : after condOps (atK m 256 c) (Proc.devRef .tc main_v3_5) (ix2 b n)
      = BitVec.ofNat 32 (centre (after condOps (atK m 256 c) (Proc.devRef .tc main_arg0)) b n).val := by
    rw [hl, a0]
    exact (RefLoop.at_all m c 256 le_rfl).chosen b n n.isLt
  have h := post_value (after condOps (atK m 256 c)) b n hv
  rw [a0, a1, a2, a3, a4, a5, a6, a7, a8, a9, a10, a11, a12, a13, a14, a15, a16, a17, a18, a19, a20] at h
  exact h

end Cert.RefValue
-- ==== Proof.lean ====
/-
The certificate: the three frames, the idealisation, and the equality of the kernel's result with the reference's.
Both results are `Cert.Final.out` of the arguments: `Cert.KernelValue.value` says so of the kernel, `Cert.RefValue.value` of the reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.KernelValue
public import proofs.«01_k».proof.Proof.RefValue
public import Idealize.ShloMosaic.Adequacy
public import Idealize.ShloMosaic.Init

@[expose] public section

set_option maxRecDepth 16384

noncomputable section

namespace Cert.Proof

open Idealize.ShloMosaic Idealize.SL.Sem

/-- A memory of the kernel. -/
abbrev KMem := (ℓ : Loc Cert.KernelIdeal.nD Cert.KernelIdeal.τ Cert.KernelIdeal.sig) → Buf (Elt Ideal) ℓ
/-- A memory of the reference. -/
abbrev RMem := (ℓ : Loc Cert.ReferenceIdeal.nD Cert.ReferenceIdeal.τ Cert.ReferenceIdeal.sig) → Buf (Elt Ideal) ℓ

/-- The arguments are not scoped buffers. -/
theorem unscoped : ∀ a ∈ Cert.KernelIdeal.Gen.argRefs, (Proc.devRef .tc a : DevRef Cert.KernelIdeal.τ Cert.KernelIdeal.sig).isScoped = false := by decide +kernel

/-- Launched at equal arguments, the reference's result is the kernel's, index by index. -/
theorem results_eq (m : KMem) (g : Dev Cert.KernelIdeal.nD → PrngReg) (m' : RMem) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    StableHlo.finalContents Cert.RefRun.condOps Cert.RefRun.preI Cert.RefRun.bodyI Cert.RefRun.postI 256 m' c
        (Proc.devRef .tc Cert.ReferenceIdeal.main_v212)
      = Cert.KernelIdeal.Gen.W9 m g c (Proc.devRef .tc Cert.KernelIdeal.main_v29) := by
  funext j
  obtain ⟨b, n, rfl⟩ : ∃ (b : Fin 16) (n : Fin 256), j = ValueIdx.ix3 b (0 : Fin 1) n :=
    ⟨j 0, j 2, (ValueIdx.eq_ix3 j).trans (congrArg (fun t : Fin 1 => ValueIdx.ix3 (j 0) t (j 2)) (Subsingleton.elim _ _))⟩
  obtain ⟨h0, h1, h2, h3, h4, h5, h6, h7, h8, h9, h10, h11, h12, h13, h14, h15, h16, h17, h18, h19, h20⟩ := h
  refine (Cert.RefValue.value m' c b n).trans (Eq.trans ?_ (Cert.KernelValue.value m g c b n).symm)
  dsimp only [Cert.RefValue.arg, Cert.KernelValue.arg]
  rw [← h0, ← h1, ← h2, ← h3, ← h4, ← h5, ← h6, ← h7, ← h8, ← h9, ← h10, ← h11, ← h12, ← h13, ← h14, ← h15, ← h16, ← h17, ← h18, ← h19, ← h20]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.RefRun.frame m ρ, trivial,
  fun m g m' g' _ hm => ⟨fun c => Cert.KernelIdeal.Gen.W9 m g c (Proc.devRef .tc Cert.KernelIdeal.main_v29),
    (θ_run _ _ _).mono (fun r h c =>
      have at_arg : ∀ a ∈ Cert.KernelIdeal.Gen.argRefs, r.2.mem ((c.tc : Thread Cert.KernelIdeal.nD Cert.KernelIdeal.τ).loc a) = m ((c.tc : Thread Cert.KernelIdeal.nD Cert.KernelIdeal.τ).loc a) :=
        fun a ha => (h c a (unscoped a ha)).trans (Cert.KernelIdeal.Gen.W9_args m g c a ha)
      ⟨h c _ rfl, at_arg Cert.KernelIdeal.main_arg0 (by decide),
        at_arg Cert.KernelIdeal.main_arg1 (by decide),
        at_arg Cert.KernelIdeal.main_arg2 (by decide),
        at_arg Cert.KernelIdeal.main_arg3 (by decide),
        at_arg Cert.KernelIdeal.main_arg4 (by decide),
        at_arg Cert.KernelIdeal.main_arg5 (by decide),
        at_arg Cert.KernelIdeal.main_arg6 (by decide),
        at_arg Cert.KernelIdeal.main_arg7 (by decide),
        at_arg Cert.KernelIdeal.main_arg8 (by decide),
        at_arg Cert.KernelIdeal.main_arg9 (by decide),
        at_arg Cert.KernelIdeal.main_arg10 (by decide),
        at_arg Cert.KernelIdeal.main_arg11 (by decide),
        at_arg Cert.KernelIdeal.main_arg12 (by decide),
        at_arg Cert.KernelIdeal.main_arg13 (by decide),
        at_arg Cert.KernelIdeal.main_arg14 (by decide),
        at_arg Cert.KernelIdeal.main_arg15 (by decide),
        at_arg Cert.KernelIdeal.main_arg16 (by decide),
        at_arg Cert.KernelIdeal.main_arg17 (by decide),
        at_arg Cert.KernelIdeal.main_arg18 (by decide),
        at_arg Cert.KernelIdeal.main_arg19 (by decide),
        at_arg Cert.KernelIdeal.main_arg20 (by decide)⟩) (Cert.KernelIdeal.Gen.run_all m g),
    (θ_run _ _ _).mono (fun r h c => ⟨(h c).1.trans (results_eq m g m' c (hm c)), (h c).2⟩) (Cert.RefRun.run_args m' g')⟩⟩

end Cert.Proof

end
